-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8192x6144 : Shape := ⟨2, ![8192, 6144]⟩
abbrev S8192x16 : Shape := ⟨2, ![8192, 16]⟩
abbrev S2x4096x2048 : Shape := ⟨3, ![2, 4096, 2048]⟩
abbrev S2048x2048 : Shape := ⟨2, ![2048, 2048]⟩
abbrev S1x3x1024 : Shape := ⟨3, ![1, 3, 1024]⟩
abbrev S1x1024 : Shape := ⟨2, ![1, 1024]⟩
abbrev S1x16x512 : Shape := ⟨3, ![1, 16, 512]⟩
abbrev S1x512 : Shape := ⟨2, ![1, 512]⟩
abbrev S1x2048 : Shape := ⟨2, ![1, 2048]⟩
abbrev S8192x2048 : Shape := ⟨2, ![8192, 2048]⟩
abbrev S16x512 : Shape := ⟨2, ![16, 512]⟩
abbrev S512 : Shape := ⟨1, ![512]⟩
abbrev S3x1024 : Shape := ⟨2, ![3, 1024]⟩
abbrev S_ : Shape := ⟨0, ![]⟩
abbrev S8x1024 : Shape := ⟨2, ![8, 1024]⟩
abbrev S1024 : Shape := ⟨1, ![1024]⟩
abbrev S2048 : Shape := ⟨1, ![2048]⟩
abbrev S512x6144 : Shape := ⟨2, ![512, 6144]⟩
abbrev S512x16 : Shape := ⟨2, ![512, 16]⟩
abbrev S512x2048 : Shape := ⟨2, ![512, 2048]⟩
abbrev S4x128x256 : Shape := ⟨3, ![4, 128, 256]⟩
abbrev S4x512x128 : Shape := ⟨3, ![4, 512, 128]⟩
abbrev S4x128x128 : Shape := ⟨3, ![4, 128, 128]⟩
abbrev S512x512 : Shape := ⟨2, ![512, 512]⟩
abbrev S4x512x64 : Shape := ⟨3, ![4, 512, 64]⟩
abbrev S4x8x128x256 : Shape := ⟨4, ![4, 8, 128, 256]⟩
abbrev S512x128 : Shape := ⟨2, ![512, 128]⟩
abbrev S64x8x128 : Shape := ⟨3, ![64, 8, 128]⟩
abbrev S8x128 : Shape := ⟨2, ![8, 128]⟩
abbrev S1x8x128 : Shape := ⟨3, ![1, 8, 128]⟩
abbrev S63x8x128 : Shape := ⟨3, ![63, 8, 128]⟩
abbrev S1x128 : Shape := ⟨2, ![1, 128]⟩
abbrev S512x1 : Shape := ⟨2, ![512, 1]⟩
abbrev S256x2048 : Shape := ⟨2, ![256, 2048]⟩
abbrev S2048x512 : Shape := ⟨2, ![2048, 512]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩
abbrev S8x8x8x128 : Shape := ⟨4, ![8, 8, 8, 128]⟩
abbrev S8x1x8x128 : Shape := ⟨4, ![8, 1, 8, 128]⟩
abbrev S8x8x128 : Shape := ⟨3, ![8, 8, 128]⟩
abbrev S8x1x128 : Shape := ⟨3, ![8, 1, 128]⟩
abbrev S1x512x128 : Shape := ⟨3, ![1, 512, 128]⟩
abbrev S8x64x128 : Shape := ⟨3, ![8, 64, 128]⟩
abbrev S120x128 : Shape := ⟨2, ![120, 128]⟩
abbrev S128x128 : Shape := ⟨2, ![128, 128]⟩
abbrev S1x128x128 : Shape := ⟨3, ![1, 128, 128]⟩
abbrev S64x64 : Shape := ⟨2, ![64, 64]⟩
abbrev S1x64x128 : Shape := ⟨3, ![1, 64, 128]⟩
abbrev S64x128 : Shape := ⟨2, ![64, 128]⟩
abbrev S1x64x64 : Shape := ⟨3, ![1, 64, 64]⟩
abbrev S1x128x256 : Shape := ⟨3, ![1, 128, 256]⟩
abbrev S128x256 : Shape := ⟨2, ![128, 256]⟩
abbrev S1x1x128x256 : Shape := ⟨4, ![1, 1, 128, 256]⟩
abbrev S64x256 : Shape := ⟨2, ![64, 256]⟩
abbrev S1x128x1 : Shape := ⟨3, ![1, 128, 1]⟩
abbrev S64 : Shape := ⟨1, ![64]⟩
abbrev S64x1 : Shape := ⟨2, ![64, 1]⟩
abbrev S1x256 : Shape := ⟨2, ![1, 256]⟩

abbrev nBuf : Space → Nat
  | .hbm => 29
  | .vmem => 28
  | .smem => 0
  | _ => 0

abbrev bufTy : (tb : Table) → Fin (tcTables nBuf tb) → BufTy
  | .hbm, ⟨0, _⟩ => ⟨S8192x6144, .bf16⟩
  | .hbm, ⟨1, _⟩ => ⟨S8192x16, .bf16⟩
  | .hbm, ⟨2, _⟩ => ⟨S2x4096x2048, .f32⟩
  | .hbm, ⟨3, _⟩ => ⟨S2048x2048, .bf16⟩
  | .hbm, ⟨4, _⟩ => ⟨S1x3x1024, .f32⟩
  | .hbm, ⟨5, _⟩ => ⟨S1x1024, .f32⟩
  | .hbm, ⟨6, _⟩ => ⟨S1x16x512, .f32⟩
  | .hbm, ⟨7, _⟩ => ⟨S1x512, .f32⟩
  | .hbm, ⟨8, _⟩ => ⟨S1x1024, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S16x512, .f32⟩
  | .hbm, ⟨13, _⟩ => ⟨S16x512, .bf16⟩
  | .hbm, ⟨14, _⟩ => ⟨S512, .f32⟩
  | .hbm, ⟨15, _⟩ => ⟨S1x512, .f32⟩
  | .hbm, ⟨16, _⟩ => ⟨S3x1024, .f32⟩
  | .hbm, ⟨17, _⟩ => ⟨S_, .i32⟩
  | .hbm, ⟨18, _⟩ => ⟨S_, .f32⟩
  | .hbm, ⟨19, _⟩ => ⟨S8x1024, .f32⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S8192x2048, .bf16⟩
  | .local _ .vmem, ⟨0, _⟩ => ⟨S512x6144, .bf16⟩
  | .local _ .vmem, ⟨1, _⟩ => ⟨S512x6144, .bf16⟩
  | .local _ .vmem, ⟨2, _⟩ => ⟨S512x16, .bf16⟩
  | .local _ .vmem, ⟨3, _⟩ => ⟨S512x16, .bf16⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S8x1024, .f32⟩
  | .local _ .vmem, ⟨8, _⟩ => ⟨S1x1024, .f32⟩
  | .local _ .vmem, ⟨9, _⟩ => ⟨S16x512, .bf16⟩
  | .local _ .vmem, ⟨10, _⟩ => ⟨S1x512, .f32⟩
  | .local _ .vmem, ⟨11, _⟩ => ⟨S1x1024, .f32⟩
  | .local _ .vmem, ⟨12, _⟩ => ⟨S1x2048, .f32⟩
  | .local _ .vmem, ⟨13, _⟩ => ⟨S1x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | .local _ .vmem, ⟨19, _⟩ => ⟨S4x128x256, .f32⟩
  | .local _ .vmem, ⟨20, _⟩ => ⟨S8x1024, .f32⟩
  | .local _ .vmem, ⟨21, _⟩ => ⟨S4x512x128, .bf16⟩
  | .local _ .vmem, ⟨22, _⟩ => ⟨S4x512x128, .bf16⟩
  | .local _ .vmem, ⟨23, _⟩ => ⟨S4x512x128, .bf16⟩
  | .local _ .vmem, ⟨24, _⟩ => ⟨S4x128x128, .f32⟩
  | .local _ .vmem, ⟨25, _⟩ => ⟨S512x512, .f32⟩
  | .local _ .vmem, ⟨26, _⟩ => ⟨S4x512x64, .bf16⟩
  | .local _ .vmem, ⟨27, _⟩ => ⟨S4x8x128x256, .bf16⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8192x6144 : Shape := ⟨2, ![8192, 6144]⟩
abbrev S8192x16 : Shape := ⟨2, ![8192, 16]⟩
abbrev S2x4096x2048 : Shape := ⟨3, ![2, 4096, 2048]⟩
abbrev S2048x2048 : Shape := ⟨2, ![2048, 2048]⟩
abbrev S1x3x1024 : Shape := ⟨3, ![1, 3, 1024]⟩
abbrev S1x1024 : Shape := ⟨2, ![1, 1024]⟩
abbrev S1x16x512 : Shape := ⟨3, ![1, 16, 512]⟩
abbrev S1x512 : Shape := ⟨2, ![1, 512]⟩
abbrev S1x2048 : Shape := ⟨2, ![1, 2048]⟩
abbrev S2x4096x6144 : Shape := ⟨3, ![2, 4096, 6144]⟩
abbrev S2x4096x1024 : Shape := ⟨3, ![2, 4096, 1024]⟩
abbrev S2x4096x512 : Shape := ⟨3, ![2, 4096, 512]⟩
abbrev S3x1024 : Shape := ⟨2, ![3, 1024]⟩
abbrev S_ : Shape := ⟨0, ![]⟩
abbrev S2x4098x1024 : Shape := ⟨3, ![2, 4098, 1024]⟩
abbrev S1024 : Shape := ⟨1, ![1024]⟩
abbrev S1x1x1024 : Shape := ⟨3, ![1, 1, 1024]⟩
abbrev S2x4096x16 : Shape := ⟨3, ![2, 4096, 16]⟩
abbrev S16x512 : Shape := ⟨2, ![16, 512]⟩
abbrev S512 : Shape := ⟨1, ![512]⟩
abbrev S1x1x512 : Shape := ⟨3, ![1, 1, 512]⟩
abbrev S2x4096x4x128 : Shape := ⟨4, ![2, 4096, 4, 128]⟩
abbrev S2x4096x4x256 : Shape := ⟨4, ![2, 4096, 4, 256]⟩
abbrev S2x64x64x4x128 : Shape := ⟨5, ![2, 64, 64, 4, 128]⟩
abbrev S2x4x64x64x128 : Shape := ⟨5, ![2, 4, 64, 64, 128]⟩
abbrev S2x64x64x4x256 : Shape := ⟨5, ![2, 64, 64, 4, 256]⟩
abbrev S2x4x64x64x256 : Shape := ⟨5, ![2, 4, 64, 64, 256]⟩
abbrev S2x4x64x1x128 : Shape := ⟨5, ![2, 4, 64, 1, 128]⟩
abbrev S64x64 : Shape := ⟨2, ![64, 64]⟩
abbrev S2x4x64x64x64 : Shape := ⟨5, ![2, 4, 64, 64, 64]⟩
abbrev S2x4x64x128x256 : Shape := ⟨5, ![2, 4, 64, 128, 256]⟩
abbrev S2x4x64x128 : Shape := ⟨4, ![2, 4, 64, 128]⟩
abbrev S2x4x128x256 : Shape := ⟨4, ![2, 4, 128, 256]⟩
abbrev S64x2x4x128 : Shape := ⟨4, ![64, 2, 4, 128]⟩
abbrev S64x2x4x128x256 : Shape := ⟨5, ![64, 2, 4, 128, 256]⟩
abbrev S64x2x4x64x128 : Shape := ⟨5, ![64, 2, 4, 64, 128]⟩
abbrev S64x2x4x64x256 : Shape := ⟨5, ![64, 2, 4, 64, 256]⟩
abbrev S2x64x64x8x128 : Shape := ⟨5, ![2, 64, 64, 8, 128]⟩
abbrev S64x2x64x8x128 : Shape := ⟨5, ![64, 2, 64, 8, 128]⟩
abbrev S1x2x4x128 : Shape := ⟨4, ![1, 2, 4, 128]⟩
abbrev S2x4x128 : Shape := ⟨3, ![2, 4, 128]⟩
abbrev S1x2x4x128x256 : Shape := ⟨5, ![1, 2, 4, 128, 256]⟩
abbrev S1x2x4x64x128 : Shape := ⟨5, ![1, 2, 4, 64, 128]⟩
abbrev S1x2x4x64x256 : Shape := ⟨5, ![1, 2, 4, 64, 256]⟩
abbrev S2x4x64x256 : Shape := ⟨4, ![2, 4, 64, 256]⟩
abbrev S1x2x64x8x128 : Shape := ⟨5, ![1, 2, 64, 8, 128]⟩
abbrev S2x64x8x128 : Shape := ⟨4, ![2, 64, 8, 128]⟩
abbrev S2x4x128x1 : Shape := ⟨4, ![2, 4, 128, 1]⟩
abbrev S2x4x64 : Shape := ⟨3, ![2, 4, 64]⟩
abbrev S2x4x64x1 : Shape := ⟨4, ![2, 4, 64, 1]⟩
abbrev S2x64x8 : Shape := ⟨3, ![2, 64, 8]⟩
abbrev S2x64x8x1 : Shape := ⟨4, ![2, 64, 8, 1]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 311
  | .vmem => 0
  | .smem => 0
  | _ => 0

abbrev hbmTy0_0 (i : Nat) : BufTy := match i % 128 with
  | 0 => ⟨S8192x6144, .bf16⟩
  | 1 => ⟨S8192x16, .bf16⟩
  | 2 => ⟨S2x4096x2048, .f32⟩
  | 3 => ⟨S2048x2048, .bf16⟩
  | 4 => ⟨S1x3x1024, .f32⟩
  | 5 => ⟨S1x1024, .f32⟩
  | 6 => ⟨S1x16x512, .f32⟩
  | 7 => ⟨S1x512, .f32⟩
  | 8 => ⟨S1x1024, .f32⟩
  | 9 => ⟨S1x2048, .f32⟩
  | 10 => ⟨S1x2048, .f32⟩
  | 11 => ⟨S8192x6144, .f32⟩
  | 12 => ⟨S2x4096x6144, .f32⟩
  | 13 => ⟨S2x4096x1024, .f32⟩
  | 14 => ⟨S2x4096x1024, .f32⟩
  | 15 => ⟨S2x4096x1024, .f32⟩
  | 16 => ⟨S2x4096x512, .f32⟩
  | 17 => ⟨S2x4096x512, .f32⟩
  | 18 => ⟨S2x4096x1024, .f32⟩
  | 19 => ⟨S2x4096x1024, .f32⟩
  | 20 => ⟨S2x4096x1024, .f32⟩
  | 21 => ⟨S3x1024, .f32⟩
  | 22 => ⟨S_, .i32⟩
  | 23 => ⟨S_, .f32⟩
  | 24 => ⟨S2x4098x1024, .f32⟩
  | 25 => ⟨S1x1024, .f32⟩
  | 26 => ⟨S1024, .f32⟩
  | 27 => ⟨S2x4096x1024, .f32⟩
  | 28 => ⟨S1x1x1024, .f32⟩
  | 29 => ⟨S2x4096x1024, .f32⟩
  | 30 => ⟨S2x4096x1024, .f32⟩
  | 31 => ⟨S1x1024, .f32⟩
  | 32 => ⟨S1024, .f32⟩
  | 33 => ⟨S2x4096x1024, .f32⟩
  | 34 => ⟨S1x1x1024, .f32⟩
  | 35 => ⟨S2x4096x1024, .f32⟩
  | 36 => ⟨S2x4096x1024, .f32⟩
  | 37 => ⟨S2x4096x1024, .f32⟩
  | 38 => ⟨S1x1024, .f32⟩
  | 39 => ⟨S1024, .f32⟩
  | 40 => ⟨S2x4096x1024, .f32⟩
  | 41 => ⟨S1x1x1024, .f32⟩
  | 42 => ⟨S2x4096x1024, .f32⟩
  | 43 => ⟨S2x4096x1024, .f32⟩
  | 44 => ⟨S2x4096x1024, .f32⟩
  | 45 => ⟨S8192x16, .f32⟩
  | 46 => ⟨S2x4096x16, .f32⟩
  | 47 => ⟨S16x512, .f32⟩
  | 48 => ⟨S2x4096x512, .f32⟩
  | 49 => ⟨S512, .f32⟩
  | 50 => ⟨S1x1x512, .f32⟩
  | 51 => ⟨S2x4096x512, .f32⟩
  | 52 => ⟨S2x4096x512, .f32⟩
  | 53 => ⟨S2x4096x512, .f32⟩
  | 54 => ⟨S_, .f32⟩
  | 55 => ⟨S2x4096x512, .f32⟩
  | 56 => ⟨S2x4096x512, .f32⟩
  | 57 => ⟨S2x4096x512, .f32⟩
  | 58 => ⟨S2x4096x512, .f32⟩
  | 59 => ⟨S2x4096x512, .i1⟩
  | 60 => ⟨S2x4096x512, .f32⟩
  | 61 => ⟨S2x4096x512, .f32⟩
  | 62 => ⟨S2x4096x512, .f32⟩
  | 63 => ⟨S2x4096x512, .f32⟩
  | 64 => ⟨S2x4096x512, .f32⟩
  | 65 => ⟨S2x4096x512, .f32⟩
  | 66 => ⟨S2x4096x512, .f32⟩
  | 67 => ⟨S2x4096x512, .f32⟩
  | 68 => ⟨S2x4096x512, .f32⟩
  | 69 => ⟨S_, .f32⟩
  | 70 => ⟨S2x4096x512, .f32⟩
  | 71 => ⟨S2x4096x512, .f32⟩
  | 72 => ⟨S1024, .f32⟩
  | 73 => ⟨S2x4096x1024, .f32⟩
  | 74 => ⟨S2x4096x1024, .f32⟩
  | 75 => ⟨S_, .f32⟩
  | 76 => ⟨S2x4096x1024, .f32⟩
  | 77 => ⟨S2x4096x1024, .f32⟩
  | 78 => ⟨S_, .f32⟩
  | 79 => ⟨S2x4096x1024, .f32⟩
  | 80 => ⟨S2x4096x1024, .f32⟩
  | 81 => ⟨S2x4096x1024, .f32⟩
  | 82 => ⟨S1x1x1024, .f32⟩
  | 83 => ⟨S2x4096x1024, .f32⟩
  | 84 => ⟨S2x4096x1024, .f32⟩
  | 85 => ⟨S2x4096x4x128, .f32⟩
  | 86 => ⟨S2x4096x4x128, .f32⟩
  | 87 => ⟨S2x4096x4x256, .f32⟩
  | 88 => ⟨S2x4096x4x128, .f32⟩
  | 89 => ⟨S2x4096x4x256, .f32⟩
  | 90 => ⟨S1024, .f32⟩
  | 91 => ⟨S2x4096x1024, .f32⟩
  | 92 => ⟨S2x64x64x4x128, .f32⟩
  | 93 => ⟨S2x4x64x64x128, .f32⟩
  | 94 => ⟨S_, .f32⟩
  | 95 => ⟨S2x4x64x64x128, .f32⟩
  | 96 => ⟨S2x4x64x64x128, .f32⟩
  | 97 => ⟨S2x64x64x4x128, .f32⟩
  | 98 => ⟨S2x4x64x64x128, .f32⟩
  | 99 => ⟨S2x64x64x4x256, .f32⟩
  | 100 => ⟨S2x4x64x64x256, .f32⟩
  | 101 => ⟨S2x64x64x4x128, .f32⟩
  | 102 => ⟨S2x4x64x64x128, .f32⟩
  | 103 => ⟨S_, .f32⟩
  | 104 => ⟨S_, .f32⟩
  | 105 => ⟨S2x4x64x64x128, .f32⟩
  | 106 => ⟨S2x4x64x1x128, .f32⟩
  | 107 => ⟨S2x4x64x64x128, .f32⟩
  | 108 => ⟨S2x4x64x64x128, .f32⟩
  | 109 => ⟨S2x4x64x64x128, .f32⟩
  | 110 => ⟨S2x4x64x64x128, .f32⟩
  | 111 => ⟨S2x4x64x64x128, .f32⟩
  | 112 => ⟨S2x4x64x64x128, .f32⟩
  | 113 => ⟨S2x4x64x64x128, .f32⟩
  | 114 => ⟨S2x4x64x64x128, .f32⟩
  | 115 => ⟨S2x4x64x64x128, .f32⟩
  | 116 => ⟨S_, .i1⟩
  | 117 => ⟨S64x64, .i1⟩
  | 118 => ⟨S64x64, .i32⟩
  | 119 => ⟨S_, .i32⟩
  | 120 => ⟨S64x64, .i32⟩
  | 121 => ⟨S64x64, .i32⟩
  | 122 => ⟨S64x64, .i32⟩
  | 123 => ⟨S64x64, .i1⟩
  | 124 => ⟨S_, .i1⟩
  | 125 => ⟨S64x64, .i1⟩
  | 126 => ⟨S64x64, .i1⟩
  | 127 => ⟨S2x4x64x64x64, .f32⟩
  | _ => ⟨S8192x6144, .bf16⟩

abbrev hbmTy0_1 (i : Nat) : BufTy := match i % 128 with
  | 0 => ⟨S_, .f32⟩
  | 1 => ⟨S_, .f32⟩
  | 2 => ⟨S2x4x64x64x64, .i1⟩
  | 3 => ⟨S2x4x64x64x64, .f32⟩
  | 4 => ⟨S2x4x64x64x64, .f32⟩
  | 5 => ⟨S2x4x64x64x256, .f32⟩
  | 6 => ⟨S2x4x64x128x256, .f32⟩
  | 7 => ⟨S2x4x64x128, .f32⟩
  | 8 => ⟨S2x4x64x128, .f32⟩
  | 9 => ⟨S_, .f32⟩
  | 10 => ⟨S2x4x128x256, .f32⟩
  | 11 => ⟨S2x64x64x4x256, .f32⟩
  | 12 => ⟨S2x4x64x64x256, .f32⟩
  | 13 => ⟨S64x2x4x128, .f32⟩
  | 14 => ⟨S64x2x4x128x256, .f32⟩
  | 15 => ⟨S64x2x4x64x128, .f32⟩
  | 16 => ⟨S64x2x4x64x256, .f32⟩
  | 17 => ⟨S64x2x4x64x256, .f32⟩
  | 18 => ⟨S2x64x64x8x128, .f32⟩
  | 19 => ⟨S64x2x64x8x128, .f32⟩
  | 20 => ⟨S2x64x64x8x128, .f32⟩
  | 21 => ⟨S64x2x64x8x128, .f32⟩
  | 22 => ⟨S2x64x64x8x128, .f32⟩
  | 23 => ⟨S64x2x64x8x128, .f32⟩
  | 24 => ⟨S_, .f32⟩
  | 25 => ⟨S64x2x4x64x256, .f32⟩
  | 26 => ⟨S_, .f32⟩
  | 27 => ⟨S64x2x64x8x128, .f32⟩
  | 28 => ⟨S_, .i32⟩
  | 29 => ⟨S64x2x4x128, .f32⟩
  | 30 => ⟨S64x2x4x128x256, .f32⟩
  | 31 => ⟨S64x2x4x64x128, .f32⟩
  | 32 => ⟨S64x2x4x64x256, .f32⟩
  | 33 => ⟨S64x2x4x64x256, .f32⟩
  | 34 => ⟨S64x2x64x8x128, .f32⟩
  | 35 => ⟨S64x2x64x8x128, .f32⟩
  | 36 => ⟨S64x2x64x8x128, .f32⟩
  | 37 => ⟨S_, .i32⟩
  | 38 => ⟨S2x4x128x256, .f32⟩
  | 39 => ⟨S64x2x4x64x256, .f32⟩
  | 40 => ⟨S64x2x64x8x128, .f32⟩
  | 41 => ⟨S_, .i32⟩
  | 42 => ⟨S_, .i1⟩
  | 43 => ⟨S_, .i32⟩
  | 44 => ⟨S_, .i32⟩
  | 45 => ⟨S_, .i32⟩
  | 46 => ⟨S1x2x4x128, .f32⟩
  | 47 => ⟨S2x4x128, .f32⟩
  | 48 => ⟨S_, .i32⟩
  | 49 => ⟨S_, .i32⟩
  | 50 => ⟨S_, .i32⟩
  | 51 => ⟨S_, .i32⟩
  | 52 => ⟨S1x2x4x128x256, .f32⟩
  | 53 => ⟨S2x4x128x256, .f32⟩
  | 54 => ⟨S_, .i32⟩
  | 55 => ⟨S_, .i32⟩
  | 56 => ⟨S_, .i32⟩
  | 57 => ⟨S_, .i32⟩
  | 58 => ⟨S1x2x4x64x128, .f32⟩
  | 59 => ⟨S2x4x64x128, .f32⟩
  | 60 => ⟨S_, .i32⟩
  | 61 => ⟨S_, .i32⟩
  | 62 => ⟨S_, .i32⟩
  | 63 => ⟨S_, .i32⟩
  | 64 => ⟨S1x2x4x64x256, .f32⟩
  | 65 => ⟨S2x4x64x256, .f32⟩
  | 66 => ⟨S_, .i32⟩
  | 67 => ⟨S_, .i32⟩
  | 68 => ⟨S_, .i32⟩
  | 69 => ⟨S_, .i32⟩
  | 70 => ⟨S1x2x4x64x256, .f32⟩
  | 71 => ⟨S2x4x64x256, .f32⟩
  | 72 => ⟨S_, .i32⟩
  | 73 => ⟨S_, .i32⟩
  | 74 => ⟨S_, .i32⟩
  | 75 => ⟨S_, .i32⟩
  | 76 => ⟨S1x2x64x8x128, .f32⟩
  | 77 => ⟨S2x64x8x128, .f32⟩
  | 78 => ⟨S_, .i32⟩
  | 79 => ⟨S_, .i32⟩
  | 80 => ⟨S_, .i32⟩
  | 81 => ⟨S_, .i32⟩
  | 82 => ⟨S1x2x64x8x128, .f32⟩
  | 83 => ⟨S2x64x8x128, .f32⟩
  | 84 => ⟨S_, .i32⟩
  | 85 => ⟨S_, .i32⟩
  | 86 => ⟨S_, .i32⟩
  | 87 => ⟨S_, .i32⟩
  | 88 => ⟨S1x2x64x8x128, .f32⟩
  | 89 => ⟨S2x64x8x128, .f32⟩
  | 90 => ⟨S2x64x8x128, .f32⟩
  | 91 => ⟨S2x4x64x256, .f32⟩
  | 92 => ⟨S2x4x64x256, .f32⟩
  | 93 => ⟨S2x4x128x1, .f32⟩
  | 94 => ⟨S2x4x128x256, .f32⟩
  | 95 => ⟨S2x4x128x256, .f32⟩
  | 96 => ⟨S2x4x128x256, .f32⟩
  | 97 => ⟨S2x4x64x256, .f32⟩
  | 98 => ⟨S_, .f32⟩
  | 99 => ⟨S2x4x64, .f32⟩
  | 100 => ⟨S2x4x64x1, .f32⟩
  | 101 => ⟨S_, .f32⟩
  | 102 => ⟨S2x4x64x1, .f32⟩
  | 103 => ⟨S2x4x64x1, .f32⟩
  | 104 => ⟨S_, .f32⟩
  | 105 => ⟨S2x4x64x1, .f32⟩
  | 106 => ⟨S2x4x64x1, .f32⟩
  | 107 => ⟨S2x4x64x1, .f32⟩
  | 108 => ⟨S2x4x64x256, .f32⟩
  | 109 => ⟨S2x4x64x256, .f32⟩
  | 110 => ⟨S2x4x64x256, .f32⟩
  | 111 => ⟨S2x64x8x128, .f32⟩
  | 112 => ⟨S_, .f32⟩
  | 113 => ⟨S2x64x8, .f32⟩
  | 114 => ⟨S2x64x8x1, .f32⟩
  | 115 => ⟨S_, .f32⟩
  | 116 => ⟨S2x64x8x1, .f32⟩
  | 117 => ⟨S2x64x8x1, .f32⟩
  | 118 => ⟨S_, .f32⟩
  | 119 => ⟨S2x64x8x1, .f32⟩
  | 120 => ⟨S2x64x8x1, .f32⟩
  | 121 => ⟨S2x64x8x1, .f32⟩
  | 122 => ⟨S2x64x8x128, .f32⟩
  | 123 => ⟨S2x64x8x128, .f32⟩
  | 124 => ⟨S2x64x8x128, .f32⟩
  | 125 => ⟨S1x2x4x64x256, .f32⟩
  | 126 => ⟨S_, .i32⟩
  | 127 => ⟨S_, .i32⟩
  | _ => ⟨S8192x6144, .bf16⟩

abbrev hbmTy0_2 (i : Nat) : BufTy := match i % 128 with
  | 0 => ⟨S_, .i32⟩
  | 1 => ⟨S_, .i32⟩
  | 2 => ⟨S64x2x4x64x256, .f32⟩
  | 3 => ⟨S1x2x64x8x128, .f32⟩
  | 4 => ⟨S_, .i32⟩
  | 5 => ⟨S_, .i32⟩
  | 6 => ⟨S_, .i32⟩
  | 7 => ⟨S_, .i32⟩
  | 8 => ⟨S64x2x64x8x128, .f32⟩
  | 9 => ⟨S_, .i32⟩
  | 10 => ⟨S_, .i32⟩
  | 11 => ⟨S2x64x64x4x256, .f32⟩
  | 12 => ⟨S2x4096x1024, .f32⟩
  | 13 => ⟨S2x64x64x8x128, .f32⟩
  | 14 => ⟨S2x4096x1024, .f32⟩
  | 15 => ⟨S2x4096x2048, .f32⟩
  | 16 => ⟨S2048x2048, .f32⟩
  | 17 => ⟨S2x4096x2048, .f32⟩
  | 18 => ⟨S_, .f32⟩
  | 19 => ⟨S2x4096x2048, .f32⟩
  | 20 => ⟨S2x4096x2048, .f32⟩
  | 21 => ⟨S2x4096x2048, .f32⟩
  | 22 => ⟨S2048, .f32⟩
  | 23 => ⟨S2048, .f32⟩
  | 24 => ⟨S_, .f32⟩
  | 25 => ⟨S2x4096, .f32⟩
  | 26 => ⟨S2x4096x1, .f32⟩
  | 27 => ⟨S_, .f32⟩
  | 28 => ⟨S2x4096x1, .f32⟩
  | 29 => ⟨S2x4096x1, .f32⟩
  | 30 => ⟨S2x4096x2048, .f32⟩
  | 31 => ⟨S2x4096x2048, .f32⟩
  | 32 => ⟨S2x4096x2048, .f32⟩
  | 33 => ⟨S_, .f32⟩
  | 34 => ⟨S2x4096, .f32⟩
  | 35 => ⟨S2x4096x1, .f32⟩
  | 36 => ⟨S_, .f32⟩
  | 37 => ⟨S2x4096x1, .f32⟩
  | 38 => ⟨S2x4096x1, .f32⟩
  | 39 => ⟨S2x4096x2048, .f32⟩
  | 40 => ⟨S2x4096x2048, .f32⟩
  | 41 => ⟨S_, .f32⟩
  | 42 => ⟨S2x4096x1, .f32⟩
  | 43 => ⟨S2x4096x1, .f32⟩
  | 44 => ⟨S2x4096x1, .f32⟩
  | 45 => ⟨S2x4096x2048, .f32⟩
  | 46 => ⟨S2x4096x2048, .f32⟩
  | 47 => ⟨S1x1x2048, .f32⟩
  | 48 => ⟨S2x4096x2048, .f32⟩
  | 49 => ⟨S2x4096x2048, .f32⟩
  | 50 => ⟨S1x1x2048, .f32⟩
  | 51 => ⟨S2x4096x2048, .f32⟩
  | 52 => ⟨S2x4096x2048, .f32⟩
  | 53 => ⟨S8192x2048, .f32⟩
  | 54 => ⟨S8192x2048, .bf16⟩
  | _ => ⟨S8192x6144, .bf16⟩

abbrev hbmTy (i : Nat) : BufTy := match i / 128 with
  | 0 => hbmTy0_0 i
  | 1 => hbmTy0_1 i
  | 2 => hbmTy0_2 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_0 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_1 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_call2_call0_cst : Ref sig .tc := ⟨.hbm, 103, rfl⟩
abbrev main_call2_call0_v0 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_2 : Ref sig .tc := ⟨.hbm, 116, rfl⟩
abbrev main_v90 : Ref sig .tc := ⟨.hbm, 117, rfl⟩
abbrev main_call3_v0 : Ref sig .tc := ⟨.hbm, 118, rfl⟩
abbrev main_call3_c : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_c_0 : Ref sig .tc := ⟨.hbm, 124, rfl⟩
abbrev main_call3_v5 : Ref sig .tc := ⟨.hbm, 125, rfl⟩
abbrev main_v91 : Ref sig .tc := ⟨.hbm, 126, rfl⟩
abbrev main_v92 : Ref sig .tc := ⟨.hbm, 127, rfl⟩
abbrev main_cst_3 : Ref sig .tc := ⟨.hbm, 128, rfl⟩
abbrev main_call4_v0 : Ref sig .tc := ⟨.hbm, 129, rfl⟩
abbrev main_call4_v1 : Ref sig .tc := ⟨.hbm, 130, rfl⟩
abbrev main_call4_v2 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_4 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_5 : Ref sig .tc := ⟨.hbm, 152, rfl⟩
abbrev main_v112 : Ref sig .tc := ⟨.hbm, 153, rfl⟩
abbrev main_cst_6 : Ref sig .tc := ⟨.hbm, 154, rfl⟩
abbrev main_v113 : Ref sig .tc := ⟨.hbm, 155, rfl⟩
abbrev main_c_7 : Ref sig .tc := ⟨.hbm, 156, rfl⟩
abbrev main_v114_0 : Ref sig .tc := ⟨.hbm, 157, rfl⟩
abbrev main_v114_1 : Ref sig .tc := ⟨.hbm, 158, rfl⟩
abbrev main_v114_2 : Ref sig .tc := ⟨.hbm, 159, rfl⟩
abbrev main_v114_3 : Ref sig .tc := ⟨.hbm, 160, rfl⟩
abbrev main_v114_4 : Ref sig .tc := ⟨.hbm, 161, rfl⟩
abbrev main_v114_5 : Ref sig .tc := ⟨.hbm, 162, rfl⟩
abbrev main_v114_6 : Ref sig .tc := ⟨.hbm, 163, rfl⟩
abbrev main_v114_7 : Ref sig .tc := ⟨.hbm, 164, rfl⟩
abbrev main_v114_8 : Ref sig .tc := ⟨.hbm, 165, rfl⟩
abbrev main_v114_9 : Ref sig .tc := ⟨.hbm, 166, rfl⟩
abbrev main_v114_10 : Ref sig .tc := ⟨.hbm, 167, rfl⟩
abbrev main_v114_11 : Ref sig .tc := ⟨.hbm, 168, rfl⟩
abbrev main_while0c_c_25 : Ref sig .tc := ⟨.hbm, 169, rfl⟩
abbrev main_while0c_v153 : Ref sig .tc := ⟨.hbm, 170, rfl⟩
abbrev main_while0b_call5_c : Ref sig .tc := ⟨.hbm, 171, rfl⟩
abbrev main_while0b_call5_c_0 : Ref sig .tc := ⟨.hbm, 172, rfl⟩
abbrev main_while0b_call5_c_1 : Ref sig .tc := ⟨.hbm, 173, rfl⟩
abbrev main_while0b_call5_v0 : Ref sig .tc := ⟨.hbm, 174, rfl⟩
abbrev main_while0b_v153 : Ref sig .tc := ⟨.hbm, 175, rfl⟩
abbrev main_while0b_call6_c : Ref sig .tc := ⟨.hbm, 176, rfl⟩
abbrev main_while0b_call6_c_0 : Ref sig .tc := ⟨.hbm, 177, rfl⟩
abbrev main_while0b_call6_c_1 : Ref sig .tc := ⟨.hbm, 178, rfl⟩
abbrev main_while0b_call6_c_2 : Ref sig .tc := ⟨.hbm, 179, rfl⟩
abbrev main_while0b_call6_v0 : Ref sig .tc := ⟨.hbm, 180, rfl⟩
abbrev main_while0b_v154 : Ref sig .tc := ⟨.hbm, 181, rfl⟩
abbrev main_while0b_call7_c : Ref sig .tc := ⟨.hbm, 182, rfl⟩
abbrev main_while0b_call7_c_0 : Ref sig .tc := ⟨.hbm, 183, rfl⟩
abbrev main_while0b_call7_c_1 : Ref sig .tc := ⟨.hbm, 184, rfl⟩
abbrev main_while0b_call7_c_2 : Ref sig .tc := ⟨.hbm, 185, rfl⟩
abbrev main_while0b_call7_v0 : Ref sig .tc := ⟨.hbm, 186, rfl⟩
abbrev main_while0b_v155 : Ref sig .tc := ⟨.hbm, 187, rfl⟩
abbrev main_while0b_call8_c : Ref sig .tc := ⟨.hbm, 188, rfl⟩
abbrev main_while0b_call8_c_0 : Ref sig .tc := ⟨.hbm, 189, rfl⟩
abbrev main_while0b_call8_c_1 : Ref sig .tc := ⟨.hbm, 190, rfl⟩
abbrev main_while0b_call8_c_2 : Ref sig .tc := ⟨.hbm, 191, rfl⟩
abbrev main_while0b_call8_v0 : Ref sig .tc := ⟨.hbm, 192, rfl⟩
abbrev main_while0b_v156 : Ref sig .tc := ⟨.hbm, 193, rfl⟩
abbrev main_while0b_call9_c : Ref sig .tc := ⟨.hbm, 194, rfl⟩
abbrev main_while0b_call9_c_0 : Ref sig .tc := ⟨.hbm, 195, rfl⟩
abbrev main_while0b_call9_c_1 : Ref sig .tc := ⟨.hbm, 196, rfl⟩
abbrev main_while0b_call9_c_2 : Ref sig .tc := ⟨.hbm, 197, rfl⟩
abbrev main_while0b_call9_v0 : Ref sig .tc := ⟨.hbm, 198, rfl⟩
abbrev main_while0b_v157 : Ref sig .tc := ⟨.hbm, 199, rfl⟩
abbrev main_while0b_call10_c : Ref sig .tc := ⟨.hbm, 200, rfl⟩
abbrev main_while0b_call10_c_0 : Ref sig .tc := ⟨.hbm, 201, rfl⟩
abbrev main_while0b_call10_c_1 : Ref sig .tc := ⟨.hbm, 202, rfl⟩
abbrev main_while0b_call10_c_2 : Ref sig .tc := ⟨.hbm, 203, rfl⟩
abbrev main_while0b_call10_v0 : Ref sig .tc := ⟨.hbm, 204, rfl⟩
abbrev main_while0b_v158 : Ref sig .tc := ⟨.hbm, 205, rfl⟩
abbrev main_while0b_call11_c : Ref sig .tc := ⟨.hbm, 206, rfl⟩
abbrev main_while0b_call11_c_0 : Ref sig .tc := ⟨.hbm, 207, rfl⟩
abbrev main_while0b_call11_c_1 : Ref sig .tc := ⟨.hbm, 208, rfl⟩
abbrev main_while0b_call11_c_2 : Ref sig .tc := ⟨.hbm, 209, rfl⟩
abbrev main_while0b_call11_v0 : Ref sig .tc := ⟨.hbm, 210, rfl⟩
abbrev main_while0b_v159 : Ref sig .tc := ⟨.hbm, 211, rfl⟩
abbrev main_while0b_call12_c : Ref sig .tc := ⟨.hbm, 212, rfl⟩
abbrev main_while0b_call12_c_0 : Ref sig .tc := ⟨.hbm, 213, rfl⟩
abbrev main_while0b_call12_c_1 : Ref sig .tc := ⟨.hbm, 214, rfl⟩
abbrev main_while0b_call12_c_2 : Ref sig .tc := ⟨.hbm, 215, rfl⟩
abbrev main_while0b_call12_v0 : Ref sig .tc := ⟨.hbm, 216, rfl⟩
abbrev main_while0b_v160 : Ref sig .tc := ⟨.hbm, 217, rfl⟩
abbrev main_while0b_v161 : Ref sig .tc := ⟨.hbm, 218, rfl⟩
abbrev main_while0b_v162 : Ref sig .tc := ⟨.hbm, 219, rfl⟩
abbrev main_while0b_v163 : Ref sig .tc := ⟨.hbm, 220, rfl⟩
abbrev main_while0b_v164 : Ref sig .tc := ⟨.hbm, 221, rfl⟩
abbrev main_while0b_v165 : Ref sig .tc := ⟨.hbm, 222, rfl⟩
abbrev main_while0b_v166 : Ref sig .tc := ⟨.hbm, 223, rfl⟩
abbrev main_while0b_v167 : Ref sig .tc := ⟨.hbm, 224, rfl⟩
abbrev main_while0b_v168 : Ref sig .tc := ⟨.hbm, 225, rfl⟩
abbrev main_while0b_cst_25 : Ref sig .tc := ⟨.hbm, 226, rfl⟩
abbrev main_while0b_v169 : Ref sig .tc := ⟨.hbm, 227, rfl⟩
abbrev main_while0b_v170 : Ref sig .tc := ⟨.hbm, 228, rfl⟩
abbrev main_while0b_cst_26 : Ref sig .tc := ⟨.hbm, 229, rfl⟩
abbrev main_while0b_v171 : Ref sig .tc := ⟨.hbm, 230, rfl⟩
abbrev main_while0b_v172 : Ref sig .tc := ⟨.hbm, 231, rfl⟩
abbrev main_while0b_cst_27 : Ref sig .tc := ⟨.hbm, 232, rfl⟩
abbrev main_while0b_v173 : Ref sig .tc := ⟨.hbm, 233, rfl⟩
abbrev main_while0b_v174 : Ref sig .tc := ⟨.hbm, 234, rfl⟩
abbrev main_while0b_v175 : Ref sig .tc := ⟨.hbm, 235, rfl⟩
abbrev main_while0b_v176 : Ref sig .tc := ⟨.hbm, 236, rfl⟩
abbrev main_while0b_v177 : Ref sig .tc := ⟨.hbm, 237, rfl⟩
abbrev main_while0b_v178 : Ref sig .tc := ⟨.hbm, 238, rfl⟩
abbrev main_while0b_v179 : Ref sig .tc := ⟨.hbm, 239, rfl⟩
abbrev main_while0b_cst_28 : Ref sig .tc := ⟨.hbm, 240, rfl⟩
abbrev main_while0b_v180 : Ref sig .tc := ⟨.hbm, 241, rfl⟩
abbrev main_while0b_v181 : Ref sig .tc := ⟨.hbm, 242, rfl⟩
abbrev main_while0b_cst_29 : Ref sig .tc := ⟨.hbm, 243, rfl⟩
abbrev main_while0b_v182 : Ref sig .tc := ⟨.hbm, 244, rfl⟩
abbrev main_while0b_v183 : Ref sig .tc := ⟨.hbm, 245, rfl⟩
abbrev main_while0b_cst_30 : Ref sig .tc := ⟨.hbm, 246, rfl⟩
abbrev main_while0b_v184 : Ref sig .tc := ⟨.hbm, 247, rfl⟩
abbrev main_while0b_v185 : Ref sig .tc := ⟨.hbm, 248, rfl⟩
abbrev main_while0b_v186 : Ref sig .tc := ⟨.hbm, 249, rfl⟩
abbrev main_while0b_v187 : Ref sig .tc := ⟨.hbm, 250, rfl⟩
abbrev main_while0b_v188 : Ref sig .tc := ⟨.hbm, 251, rfl⟩
abbrev main_while0b_v189 : Ref sig .tc := ⟨.hbm, 252, rfl⟩
abbrev main_while0b_call13_v0 : Ref sig .tc := ⟨.hbm, 253, rfl⟩
abbrev main_while0b_call13_c : Ref sig .tc := ⟨.hbm, 254, rfl⟩
abbrev main_while0b_call13_c_0 : Ref sig .tc := ⟨.hbm, 255, rfl⟩
abbrev main_while0b_call13_c_1 : Ref sig .tc := ⟨.hbm, 256, rfl⟩
abbrev main_while0b_call13_c_2 : Ref sig .tc := ⟨.hbm, 257, rfl⟩
abbrev main_while0b_v190 : Ref sig .tc := ⟨.hbm, 258, rfl⟩
abbrev main_while0b_call14_v0 : Ref sig .tc := ⟨.hbm, 259, rfl⟩
abbrev main_while0b_call14_c : Ref sig .tc := ⟨.hbm, 260, rfl⟩
abbrev main_while0b_call14_c_0 : Ref sig .tc := ⟨.hbm, 261, rfl⟩
abbrev main_while0b_call14_c_1 : Ref sig .tc := ⟨.hbm, 262, rfl⟩
abbrev main_while0b_call14_c_2 : Ref sig .tc := ⟨.hbm, 263, rfl⟩
abbrev main_while0b_v191 : Ref sig .tc := ⟨.hbm, 264, rfl⟩
abbrev main_while0b_c_31 : Ref sig .tc := ⟨.hbm, 265, rfl⟩
abbrev main_while0b_v192 : Ref sig .tc := ⟨.hbm, 266, rfl⟩
abbrev main_v115 : Ref sig .tc := ⟨.hbm, 267, rfl⟩
abbrev main_v116 : Ref sig .tc := ⟨.hbm, 268, rfl⟩
abbrev main_v117 : Ref sig .tc := ⟨.hbm, 269, rfl⟩
abbrev main_v118 : Ref sig .tc := ⟨.hbm, 270, rfl⟩
abbrev main_v119 : Ref sig .tc := ⟨.hbm, 271, rfl⟩
abbrev main_v120 : Ref sig .tc := ⟨.hbm, 272, rfl⟩
abbrev main_v121 : Ref sig .tc := ⟨.hbm, 273, rfl⟩
abbrev main_cst_8 : Ref sig .tc := ⟨.hbm, 274, rfl⟩
abbrev main_v122 : Ref sig .tc := ⟨.hbm, 275, rfl⟩
abbrev main_v123 : Ref sig .tc := ⟨.hbm, 276, rfl⟩
abbrev main_v124 : Ref sig .tc := ⟨.hbm, 277, rfl⟩
abbrev main_v125 : Ref sig .tc := ⟨.hbm, 278, rfl⟩
abbrev main_v126 : Ref sig .tc := ⟨.hbm, 279, rfl⟩
abbrev main_cst_9 : Ref sig .tc := ⟨.hbm, 280, rfl⟩
abbrev main_v127 : Ref sig .tc := ⟨.hbm, 281, rfl⟩
abbrev main_v128 : Ref sig .tc := ⟨.hbm, 282, rfl⟩
abbrev main_cst_10 : Ref sig .tc := ⟨.hbm, 283, rfl⟩
abbrev main_v129 : Ref sig .tc := ⟨.hbm, 284, rfl⟩
abbrev main_v130 : Ref sig .tc := ⟨.hbm, 285, rfl⟩
abbrev main_v131 : Ref sig .tc := ⟨.hbm, 286, rfl⟩
abbrev main_v132 : Ref sig .tc := ⟨.hbm, 287, rfl⟩
abbrev main_v133 : Ref sig .tc := ⟨.hbm, 288, rfl⟩
abbrev main_cst_11 : Ref sig .tc := ⟨.hbm, 289, rfl⟩
abbrev main_v134 : Ref sig .tc := ⟨.hbm, 290, rfl⟩
abbrev main_v135 : Ref sig .tc := ⟨.hbm, 291, rfl⟩
abbrev main_cst_12 : Ref sig .tc := ⟨.hbm, 292, rfl⟩
abbrev main_v136 : Ref sig .tc := ⟨.hbm, 293, rfl⟩
abbrev main_v137 : Ref sig .tc := ⟨.hbm, 294, rfl⟩
abbrev main_v138 : Ref sig .tc := ⟨.hbm, 295, rfl⟩
abbrev main_v139 : Ref sig .tc := ⟨.hbm, 296, rfl⟩
abbrev main_cst_13 : Ref sig .tc := ⟨.hbm, 297, rfl⟩
abbrev main_v140 : Ref sig .tc := ⟨.hbm, 298, rfl⟩
abbrev main_v141 : Ref sig .tc := ⟨.hbm, 299, rfl⟩
abbrev main_v142 : Ref sig .tc := ⟨.hbm, 300, rfl⟩
abbrev main_v143 : Ref sig .tc := ⟨.hbm, 301, rfl⟩
abbrev main_v144 : Ref sig .tc := ⟨.hbm, 302, rfl⟩
abbrev main_v145 : Ref sig .tc := ⟨.hbm, 303, rfl⟩
abbrev main_v146 : Ref sig .tc := ⟨.hbm, 304, rfl⟩
abbrev main_v147 : Ref sig .tc := ⟨.hbm, 305, rfl⟩
abbrev main_v148 : Ref sig .tc := ⟨.hbm, 306, rfl⟩
abbrev main_v149 : Ref sig .tc := ⟨.hbm, 307, rfl⟩
abbrev main_v150 : Ref sig .tc := ⟨.hbm, 308, rfl⟩
abbrev main_v151 : Ref sig .tc := ⟨.hbm, 309, rfl⟩
abbrev main_v152 : Ref sig .tc := ⟨.hbm, 310, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8192x2048 : Shape := ⟨2, ![8192, 2048]⟩
abbrev S2048x8192 : Shape := ⟨2, ![2048, 8192]⟩
abbrev S1x2048 : Shape := ⟨2, ![1, 2048]⟩
abbrev S2048 : Shape := ⟨1, ![2048]⟩
abbrev S512x2048 : Shape := ⟨2, ![512, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![14, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2048x8192 : Shape := ⟨2, ![2048, 8192]⟩
abbrev S1x2048 : Shape := ⟨2, ![1, 2048]⟩
abbrev S8192x8192 : Shape := ⟨2, ![8192, 8192]⟩
abbrev S_ : Shape := ⟨0, ![]⟩
abbrev S2048 : Shape := ⟨1, ![2048]⟩
abbrev S8192 : Shape := ⟨1, ![8192]⟩
abbrev S8192x1 : Shape := ⟨2, ![8192, 1]⟩
abbrev S1024x2048 : Shape := ⟨2, ![1024, 2048]⟩
abbrev S7168x2048 : Shape := ⟨2, ![7168, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8192, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S2048x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S1024x2048, .f32⟩
  | .hbm, ⟨51, _⟩ => ⟨S7168x2048, .f32⟩
  | .hbm, ⟨52, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Spec.lean ====
/- The mathematics of the mixer, over the extended reals: what every row of the result is, as functions of the rows
   and columns of the arguments.  Rows are numbered 0 to 8191 across both sequences, chunks of 64 rows 0 to 127; a
   sequence is 64 chunks. -/
module

public import Idealize.ShloMosaic.Lib.Pipeline.ValueKit

@[expose] public section

noncomputable section

namespace Cert.Mixer

open Idealize.ShloMosaic

/-- The arguments, as functions of row and column numbers. -/
structure Par where
  P : ℕ → ℕ → EReal
  Z : ℕ → ℕ → EReal
  X : ℕ → ℕ → EReal
  W : ℕ → ℕ → EReal
  cw : ℕ → ℕ → EReal
  cg : ℕ → EReal
  wg : ℕ → ℕ → EReal
  gb : ℕ → EReal
  gg : ℕ → EReal
  lg : ℕ → EReal
  lb : ℕ → EReal

/-- The epsilon of the group norms. -/
abbrev epsR : EReal := Ideal.ofBits .f32 0x358637BD#32

/-- The scaled logarithm of the sigmoid: `(min z 0 - log (1 + exp (-|z|))) / 16`. -/
def logSig (z : EReal) : EReal :=
  (min z 0 - Ideal.log (1 + Ideal.exp (0 - FloatOps.absf (F := Ideal) (φ := .f32) z))) * Ideal.ofBits .f32 0x3D800000#32

namespace Par
variable (A : Par)

/-- The gate before its bias. -/
def lin (r j : ℕ) : EReal := ∑ d : Fin 16, A.Z r d * A.wg d j

/-- The logarithm of the decay of row `r`, key column `j`. -/
def ls (r j : ℕ) : EReal := logSig (A.lin r j + A.gb j)

/-- Its running sum within chunk `n`, up to and with the chunk's row `t`. -/
def bc (n t j : ℕ) : EReal := ∑ i ∈ Finset.range (t + 1), A.ls (64 * n + i) j

/-- The decayed query. -/
def qd (n t j : ℕ) : EReal := A.P (64 * n + t) (3072 + j) * Ideal.ofBits .f32 0x3DB504F3#32 * Ideal.exp (A.bc n t j)

/-- The key, its decay undone. -/
def ki (n t j : ℕ) : EReal := A.P (64 * n + t) (3584 + j) * Ideal.exp (0 - A.bc n t j)

/-- The decay over a whole chunk. -/
def dec (n j : ℕ) : EReal := Ideal.exp (A.bc n 63 j)

/-- The key, decayed to the chunk's end. -/
def ke (n t j : ℕ) : EReal := A.ki n t j * A.dec n j

/-- The causal score of rows `t` and `s` of chunk `n`, head `h`. -/
def sc (n h t s : ℕ) : EReal := if s ≤ t then ∑ d : Fin 128, A.qd n t (128 * h + d) * A.ki n s (128 * h + d) else 0

/-- What chunk `n` adds to the state of head `h`. -/
def dl (n h d e : ℕ) : EReal := ∑ s : Fin 64, A.ke n s (128 * h + d) * A.P (64 * n + s) (4096 + 256 * h + e)

/-- The state of head `h` that chunk `n` starts from; every sequence starts from nothing. -/
def S : ℕ → ℕ → ℕ → ℕ → EReal
  | 0, _, _, _ => 0
  | n + 1, h, d, e => if (n + 1) % 64 = 0 then 0 else A.dec n (128 * h + d) * S n h d e + A.dl n h d e

/-- The state that chunk `n` leaves. -/
def T (n h d e : ℕ) : EReal := A.dec n (128 * h + d) * A.S n h d e + A.dl n h d e

theorem S_zero (n h d e : ℕ) (hn : n % 64 = 0) : A.S n h d e = 0 := by
  cases n with
  | zero => rfl
  | succ n => rw [S, if_pos hn]

theorem S_succ (n h d e : ℕ) (hn : (n + 1) % 64 ≠ 0) : A.S (n + 1) h d e = A.T n h d e := by
  rw [S, if_neg hn, T]

/-- The attention's output. -/
def o (n h t e : ℕ) : EReal :=
  ∑ s : Fin 64, A.sc n h t s * A.P (64 * n + s) (4096 + 256 * h + e)
    + ∑ d : Fin 128, A.qd n t (128 * h + d) * A.S n h d e

/-- The attention's output, normed over its head and gated. -/
def yg (n h t e : ℕ) : EReal :=
  A.o n h t e * Ideal.rsqrt (Ideal.div (∑ k : Fin 256, A.o n h t k * A.o n h t k) (Ideal.ofBits .f32 0x43800000#32) + epsR)
    * A.gg (256 * h + e)
    * (A.P (64 * n + t) (5120 + 256 * h + e) * Ideal.logistic (A.P (64 * n + t) (5120 + 256 * h + e)))

/-- The convolution's input. -/
def hh (r c : ℕ) : EReal := A.P r (1024 + c) * A.P r (2048 + c)

/-- The convolution's input `k` rows before, nothing before a sequence's start. -/
def hs (k r c : ℕ) : EReal := if r % 4096 < k then 0 else A.hh (r - k) c

/-- The gated convolution. -/
def cv (r c : ℕ) : EReal := A.P r c * (A.cw 2 c * A.hh r c + A.cw 1 c * A.hs 1 r c + A.cw 0 c * A.hs 2 r c)

/-- The gated convolution, normed over its group of 128 columns. -/
def yc (r g j : ℕ) : EReal :=
  A.cv r (128 * g + j) * Ideal.rsqrt (Ideal.div (∑ k : Fin 128, A.cv r (128 * g + k) * A.cv r (128 * g + k))
    (Ideal.ofBits .f32 0x43000000#32) + epsR) * A.cg (128 * g + j)

/-- Both mixers' columns side by side. -/
def Y (r c : ℕ) : EReal :=
  if c < 1024 then A.yc r (c / 128) (c % 128) else A.yg (r / 64) ((c - 1024) / 256) (r % 64) ((c - 1024) % 256)

/-- Their projection. -/
def mix (r c : ℕ) : EReal := ∑ k : Fin 2048, A.Y r k * A.W k c

/-- The scaled residual plus the projection. -/
def u (r c : ℕ) : EReal := Ideal.ofBits .f32 0x3F9837F0#32 * A.X r c + A.mix r c

/-- Less its mean. -/
def dv (r c : ℕ) : EReal := A.u r c - Ideal.div (∑ k : Fin 2048, A.u r k) (Ideal.ofBits .f32 0x45000000#32)

/-- The layer norm: the result. -/
def out (r c : ℕ) : EReal :=
  A.dv r c * Ideal.rsqrt (Ideal.div (∑ k : Fin 2048, A.dv r k * A.dv r k) (Ideal.ofBits .f32 0x45000000#32)
    + Ideal.ofBits .f32 0x3727C5AC#32) * A.lg c + A.lb c

end Par
end Cert.Mixer
end
-- ==== Proof.Gate.lean ====
/- What one block of the kernel makes of the gate's logits of one head: the decays' running sums, the decayed
   queries, the undone and the end-decayed keys, and the chunks' decays. -/
module

public import proofs.«01_k».proof.Proof.Gen.KernelIdeal.Skeleton
public import proofs.«01_k».proof.Proof.Spec

@[expose] public section

set_option maxRecDepth 16384

namespace Cert.Mixer

open Idealize.ShloMosaic Idealize.ShloMosaic.TcCoe Idealize.SL.Sem
open Cert.KernelIdeal Cert.KernelIdeal.Gen

theorem ls_fold (x : EReal) :
    (min x 0 - Ideal.log (1 + Ideal.exp (0 - FloatOps.absf (F := Ideal) (φ := .f32) x)))
      * Ideal.ofBits FTy.f32 1031798784#32 = logSig x := rfl

section
variable (A : Par) (s h : ℕ) (z : FVec Ideal S512x128 .f32) (b : FVec Ideal S1x128 .f32)
  (hz : ∀ (i : Fin 512) (d : Fin 128), z (ix2 i d) = A.lin (512 * s + i) (128 * h + d))
  (hb : ∀ d : Fin 128, b (ix2 0 d) = A.gb (128 * h + d))
include hz hb

set_option maxHeartbeats 2000000 in
/-- The sums within each group of 8 rows. -/
theorem pay75_eq (n k m : Fin 8) (d : Fin 128) :
    k0_pay75 (F := Ideal) z b (ix4 n k m d)
      = ∑ i ∈ Finset.range (m + 1), A.ls (64 * (8 * s + n) + (8 * k + i)) (128 * h + d) := by
  have key : ∀ q : ℕ, 512 * s + ((n * 8 + k) * 8 + q) = 64 * (8 * s + n) + (8 * k + q) := fun q => by ring
  have key0 : 512 * s + (n * 8 + k) * 8 = 64 * (8 * s + n) + 8 * (k : ℕ) := by ring
  pointwise [k0_pay75]
  simp only [ls_fold, hz, hb]
  fin_cases m
  all_goals simp [Finset.sum_range_succ, Scalar.select, IntOp.cmpi]
  all_goals simp only [Par.ls, key, key0]
  all_goals ac_rfl

omit hz hb in
theorem range8 (g : ℕ → EReal) (k : ℕ) :
    ∑ i ∈ Finset.range (8 * (k + 1)), g i = ∑ i ∈ Finset.range (7 + 1), g (8 * k + i) + ∑ i ∈ Finset.range (8 * k), g i := by
  rw [show 8 * (k + 1) = 8 * k + 8 from by ring, Finset.sum_range_add, add_comm]

omit hz hb in
theorem rangeT (g : ℕ → EReal) (k m : ℕ) :
    ∑ i ∈ Finset.range (8 * k + m + 1), g i
      = ∑ i ∈ Finset.range (m + 1), g (8 * k + i) + ∑ i ∈ Finset.range (8 * k), g i := by
  rw [show 8 * k + m + 1 = 8 * k + (m + 1) from by ring, Finset.sum_range_add, add_comm]

set_option maxHeartbeats 2000000 in
/-- The running sums within each chunk of 64 rows. -/
theorem pay79_eq (i : Fin 512) (d : Fin 128) :
    k0_pay79 (F := Ideal) (k0_pay75 z b) (k0_pay76 z b) (k0_pay77 z b) (k0_pay78 z b) (ix2 i d)
      = A.bc (8 * s + i / 64) (i % 64) (128 * h + d) := by
  pointwise [k0_pay79, k0_pay76, k0_pay77, k0_pay78]
  simp only [pay75_eq A s h z b hz hb]
  have hi : (i : ℕ) % 64 = 8 * (i / 8 % 8) + i % 8 := by omega
  rw [Par.bc, hi, rangeT]
  have hk : (i : ℕ) / 8 % 8 < 8 := Nat.mod_lt _ (by norm_num)
  generalize (i : ℕ) / 8 % 8 = k at hk ⊢
  have r := range8 (fun q => A.ls (64 * (8 * s + i / 64) + q) (128 * h + d))
  have r0 : ∑ q ∈ Finset.range (8 * 0), A.ls (64 * (8 * s + i / 64) + q) (128 * h + d) = 0 := by simp
  have r1 := r 0; have r2 := r 1; have r3 := r 2; have r4 := r 3; have r5 := r 4; have r6 := r 5; have r7 := r 6
  clear r hi
  simp only [Fin.val_zero, show ((1 : Fin 8) : ℕ) = 1 from rfl, show ((2 : Fin 8) : ℕ) = 2 from rfl,
    show ((3 : Fin 8) : ℕ) = 3 from rfl, show ((4 : Fin 8) : ℕ) = 4 from rfl, show ((5 : Fin 8) : ℕ) = 5 from rfl,
    show ((6 : Fin 8) : ℕ) = 6 from rfl, show ((7 : Fin 8) : ℕ) = 7 from rfl, Nat.reduceAdd] at r1 r2 r3 r4 r5 r6 r7 ⊢
  interval_cases k
  all_goals simp only [Nat.reduceLT, Nat.reduceSub, ↓reduceDIte, Nat.zero_sub, Nat.lt_irrefl, r7, r6, r5, r4, r3, r2, r1, r0, add_zero]

/-- The decayed queries of one head. -/
theorem qd_piece (q : FVec Ideal S512x128 .bf16)
    (hq : ∀ (i : Fin 512) (d : Fin 128), q (ix2 i d) = A.P (512 * s + i) (3072 + 128 * h + d)) (i : Fin 512) (d : Fin 128) :
    k0_pay80 (F := Ideal) (k0_pay75 z b) (k0_pay76 z b) (k0_pay77 z b) (k0_pay78 z b) q (ix3 0 i d)
      = A.qd (8 * s + i / 64) (i % 64) (128 * h + d) := by
  pointwise [k0_pay80]
  rw [pay79_eq A s h z b hz hb, hq, Par.qd]
  rw [show 64 * (8 * s + (i : ℕ) / 64) + i % 64 = 512 * s + i from by omega, Nat.add_assoc]

section
variable (k : FVec Ideal S512x128 .bf16)
  (hk : ∀ (i : Fin 512) (d : Fin 128), k (ix2 i d) = A.P (512 * s + i) (3584 + 128 * h + d))
include hk

/-- The keys of one head, their decay undone. -/
theorem ki_piece (i : Fin 512) (d : Fin 128) :
    k0_pay82 (F := Ideal) (k0_pay79 (k0_pay75 z b) (k0_pay76 z b) (k0_pay77 z b) (k0_pay78 z b)) k (ix3 0 i d)
      = A.ki (8 * s + i / 64) (i % 64) (128 * h + d) := by
  pointwise [k0_pay82, k0_pay81]
  rw [pay79_eq A s h z b hz hb, hk, Par.ki]
  rw [show 64 * (8 * s + (i : ℕ) / 64) + i % 64 = 512 * s + i from by omega, Nat.add_assoc]

/-- The keys of one head, decayed to their chunk's end. -/
theorem ke_piece (i : Fin 512) (d : Fin 128) :
    k0_pay84 (F := Ideal) (k0_pay79 (k0_pay75 z b) (k0_pay76 z b) (k0_pay77 z b) (k0_pay78 z b)) k (ix3 0 i d)
      = A.ke (8 * s + i / 64) (i % 64) (128 * h + d) := by
  pointwise [k0_pay84, k0_pay83, k0_pay81]
  rw [pay79_eq A s h z b hz hb, pay79_eq A s h z b hz hb, hk, Par.ke, Par.ki, Par.dec]
  rw [show 64 * (8 * s + (i : ℕ) / 64) + i % 64 = 512 * s + i from by omega, Nat.add_assoc]
  simp only [show ((i : ℕ) / 64 * 64 + 63) / 64 = i / 64 from by omega, show ((i : ℕ) / 64 * 64 + 63) % 64 = 63 from by omega]
end

/-- The decays of the block's 8 chunks, a chunk in each of the first 8 columns. -/
theorem dc_piece (d c : Fin 128) (hc : (c : ℕ) < 8) :
    k0_pay85 (F := Ideal) (k0_pay79 (k0_pay75 z b) (k0_pay76 z b) (k0_pay77 z b) (k0_pay78 z b)) (ix3 0 d c)
      = A.dec (8 * s + c) (128 * h + d) := by
  pointwise [k0_pay85, k0_pay83]
  rw [dif_pos hc, pay79_eq A s h z b hz hb, Par.dec]
  simp only [show ((c : ℕ) * 64 + 63) / 64 = c from by omega, show ((c : ℕ) * 64 + 63) % 64 = 63 from by omega]
end

end Cert.Mixer
end
-- ==== Proof.Reads.lean ====
/- Reads of a block's buffers: a load of an argument's window, and a load of a scratch that has been written whole,
   as functions of row and column numbers. -/
module

public import Idealize.ShloMosaic.Lib.Pipeline.ValueKit
public import Idealize.ShloMosaic.Lib.Pipeline.ReadBack
public import proofs.«01_k».proof.Proof.Gen.KernelIdeal.Skeleton
public import proofs.«01_k».proof.Proof.Spec

@[expose] public section

set_option maxRecDepth 16384

namespace Cert.Mixer

open Idealize.ShloMosaic Idealize.ShloMosaic.TcCoe Idealize.SL.Sem
open Cert.KernelIdeal Cert.KernelIdeal.Gen

/-- A load of a window of a rank-2 argument. -/
theorem rd2 {n0 n1 m0 m1 : ℕ} {e : EltTy} (arg : Memref sig .tc .vmem ⟨2, ![n0, n1]⟩ e) (harg : arg.IsWhole)
    (x : (⟨2, ![n0, n1]⟩ : Shape).Idx → Elt Ideal e) (g : ℕ → ℕ → Elt Ideal e) (hx : ∀ y, x y = g (y 0) (y 1)) (r0 c0 : ℕ)
    (inb) (i : Fin m0) (j : Fin m1) :
    View.readAt (Elt Ideal) arg.view (Rect.unit (s := ⟨2, ![n0, n1]⟩) ![r0, c0] ![m0, m1] inb).toLoadRect (harg.unread x) (ix2 i j)
      = g (r0 + i) (c0 + j) := by
  rw [View.readAt_eq_ld, harg.read_unread]
  refine (hx _).trans ?_
  show g (r0 + 1 * i) (c0 + 1 * j) = _
  rw [one_mul, one_mul]

/-- A load of a window of a rank-3 argument. -/
theorem rd3 {n0 n1 n2 m0 m1 m2 : ℕ} {e : EltTy} (arg : Memref sig .tc .vmem ⟨3, ![n0, n1, n2]⟩ e) (harg : arg.IsWhole)
    (x : (⟨3, ![n0, n1, n2]⟩ : Shape).Idx → Elt Ideal e) (g : ℕ → ℕ → ℕ → Elt Ideal e)
    (hx : ∀ y, x y = g (y 0) (y 1) (y 2)) (a0 r0 c0 : ℕ) (inb) (a : Fin m0) (i : Fin m1) (j : Fin m2) :
    View.readAt (Elt Ideal) arg.view (Rect.unit (s := ⟨3, ![n0, n1, n2]⟩) ![a0, r0, c0] ![m0, m1, m2] inb).toLoadRect
        (harg.unread x) (ix3 a i j)
      = g (a0 + a) (r0 + i) (c0 + j) := by
  rw [View.readAt_eq_ld, harg.read_unread]
  refine (hx _).trans ?_
  show g (a0 + 1 * a) (r0 + 1 * i) (c0 + 1 * j) = _
  rw [one_mul, one_mul, one_mul]

/-- A load of a window of a rank-2 scratch. -/
theorem rc2 {n0 n1 m0 m1 : ℕ} {e : EltTy} (arg : Memref sig .tc .vmem ⟨2, ![n0, n1]⟩ e)
    (L : List (View.Piece (Elt Ideal) ⟨2, ![n0, n1]⟩ e)) (g : ℕ → ℕ → Elt Ideal e)
    (hL : ∀ y, View.canon L y = g (y 0) (y 1)) (r0 c0 : ℕ) (inb) (i : Fin m0) (j : Fin m1) :
    arg.view.readCov L (Rect.unit (s := ⟨2, ![n0, n1]⟩) ![r0, c0] ![m0, m1] inb).toLoadRect (ix2 i j)
      = g (r0 + i) (c0 + j) := by
  rw [View.readCov_eq_canon']
  refine (hL _).trans ?_
  show g (r0 + 1 * i) (c0 + 1 * j) = _
  rw [one_mul, one_mul]

/-- A load of a window of a rank-3 scratch. -/
theorem rc3 {n0 n1 n2 m0 m1 m2 : ℕ} {e : EltTy} (arg : Memref sig .tc .vmem ⟨3, ![n0, n1, n2]⟩ e)
    (L : List (View.Piece (Elt Ideal) ⟨3, ![n0, n1, n2]⟩ e)) (g : ℕ → ℕ → ℕ → Elt Ideal e)
    (hL : ∀ y, View.canon L y = g (y 0) (y 1) (y 2)) (a0 r0 c0 : ℕ) (inb) (a : Fin m0) (i : Fin m1) (j : Fin m2) :
    arg.view.readCov L (Rect.unit (s := ⟨3, ![n0, n1, n2]⟩) ![a0, r0, c0] ![m0, m1, m2] inb).toLoadRect (ix3 a i j)
      = g (a0 + a) (r0 + i) (c0 + j) := by
  rw [View.readCov_eq_canon']
  refine (hL _).trans ?_
  show g (a0 + 1 * a) (r0 + 1 * i) (c0 + 1 * j) = _
  rw [one_mul, one_mul, one_mul]

/-- A load of a window of a rank-4 scratch. -/
theorem rc4 {n0 n1 n2 n3 m0 m1 m2 m3 : ℕ} {e : EltTy} (arg : Memref sig .tc .vmem ⟨4, ![n0, n1, n2, n3]⟩ e)
    (L : List (View.Piece (Elt Ideal) ⟨4, ![n0, n1, n2, n3]⟩ e)) (g : ℕ → ℕ → ℕ → ℕ → Elt Ideal e)
    (hL : ∀ y, View.canon L y = g (y 0) (y 1) (y 2) (y 3)) (b0 a0 r0 c0 : ℕ) (inb) (b : Fin m0) (a : Fin m1) (i : Fin m2)
    (j : Fin m3) :
    arg.view.readCov L (Rect.unit (s := ⟨4, ![n0, n1, n2, n3]⟩) ![b0, a0, r0, c0] ![m0, m1, m2, m3] inb).toLoadRect (ix4 b a i j)
      = g (b0 + b) (a0 + a) (r0 + i) (c0 + j) := by
  rw [View.readCov_eq_canon']
  refine (hL _).trans ?_
  show g (b0 + 1 * b) (a0 + 1 * a) (r0 + 1 * i) (c0 + 1 * j) = _
  rw [one_mul, one_mul, one_mul, one_mul]

/-- A stored window of a rank-2 array agrees with a function of row and column. -/
theorem pc2 {n0 n1 m0 m1 : ℕ} {e : EltTy} (g : ℕ → ℕ → Elt Ideal e) (r0 c0 : ℕ) (inb)
    (w : (⟨2, ![m0, m1]⟩ : Shape).Idx → Elt Ideal e) {v : (⟨2, ![m0, m1]⟩ : Shape).Idx → Elt Ideal e} (hv : w = v)
    (hw : ∀ (i : Fin m0) (j : Fin m1), v (ix2 i j) = g (r0 + i) (c0 + j))
    (x : (Rect.unit (s := ⟨2, ![n0, n1]⟩) ![r0, c0] ![m0, m1] inb).shape.Idx) :
    w x = (fun y : (⟨2, ![n0, n1]⟩ : Shape).Idx => g (y 0) (y 1))
      ((Rect.unit (s := ⟨2, ![n0, n1]⟩) ![r0, c0] ![m0, m1] inb).emb x) := by
  have hx := eq_ix2 (n0 := m0) (n1 := m1) x
  rw [hx, hv]
  refine (hw _ _).trans ?_
  show _ = g (r0 + 1 * _) (c0 + 1 * _)
  rw [one_mul, one_mul]; rfl

/-- A stored window of a rank-3 array agrees with a function of the coordinates. -/
theorem pc3 {n0 n1 n2 m0 m1 m2 : ℕ} {e : EltTy} (g : ℕ → ℕ → ℕ → Elt Ideal e) (a0 r0 c0 : ℕ) (inb)
    (w : (⟨3, ![m0, m1, m2]⟩ : Shape).Idx → Elt Ideal e) {v : (⟨3, ![m0, m1, m2]⟩ : Shape).Idx → Elt Ideal e} (hv : w = v)
    (hw : ∀ (a : Fin m0) (i : Fin m1) (j : Fin m2), v (ix3 a i j) = g (a0 + a) (r0 + i) (c0 + j))
    (x : (Rect.unit (s := ⟨3, ![n0, n1, n2]⟩) ![a0, r0, c0] ![m0, m1, m2] inb).shape.Idx) :
    w x = (fun y : (⟨3, ![n0, n1, n2]⟩ : Shape).Idx => g (y 0) (y 1) (y 2))
      ((Rect.unit (s := ⟨3, ![n0, n1, n2]⟩) ![a0, r0, c0] ![m0, m1, m2] inb).emb x) := by
  have hx := eq_ix3 (n0 := m0) (n1 := m1) (n2 := m2) x
  rw [hx, hv]
  refine (hw _ _ _).trans ?_
  show _ = g (a0 + 1 * _) (r0 + 1 * _) (c0 + 1 * _)
  rw [one_mul, one_mul, one_mul]; rfl

/-- A stored window of a rank-4 array agrees with a function of the coordinates. -/
theorem pc4 {n0 n1 n2 n3 m0 m1 m2 m3 : ℕ} {e : EltTy} (g : ℕ → ℕ → ℕ → ℕ → Elt Ideal e) (b0 a0 r0 c0 : ℕ) (inb)
    (w : (⟨4, ![m0, m1, m2, m3]⟩ : Shape).Idx → Elt Ideal e) {v : (⟨4, ![m0, m1, m2, m3]⟩ : Shape).Idx → Elt Ideal e} (hv : w = v)
    (hw : ∀ (b : Fin m0) (a : Fin m1) (i : Fin m2) (j : Fin m3), v (ix4 b a i j) = g (b0 + b) (a0 + a) (r0 + i) (c0 + j))
    (x : (Rect.unit (s := ⟨4, ![n0, n1, n2, n3]⟩) ![b0, a0, r0, c0] ![m0, m1, m2, m3] inb).shape.Idx) :
    w x = (fun y : (⟨4, ![n0, n1, n2, n3]⟩ : Shape).Idx => g (y 0) (y 1) (y 2) (y 3))
      ((Rect.unit (s := ⟨4, ![n0, n1, n2, n3]⟩) ![b0, a0, r0, c0] ![m0, m1, m2, m3] inb).emb x) := by
  have hx := eq_ix4 (n0 := m0) (n1 := m1) (n2 := m2) (n3 := m3) x
  rw [hx, hv]
  refine (hw _ _ _ _).trans ?_
  show _ = g (b0 + 1 * _) (a0 + 1 * _) (r0 + 1 * _) (c0 + 1 * _)
  rw [one_mul, one_mul, one_mul, one_mul]; rfl

/-- A list of stores that covers the array and agrees with a function leaves that function. -/
theorem canon_of {S : Shape} {e : EltTy} (G : S.Idx → Elt Ideal e) (L : List (View.Piece (Elt Ideal) S e))
    (h : View.PiecesOf G L) (hc : ∀ y : S.Idx, ∃ p ∈ L, y ∈ p.1.set) (y : S.Idx) : View.canon L y = G y :=
  View.canon_apply_of_pieces G L h.mem y (hc y)

end Cert.Mixer
end
-- ==== Proof.Blk.lean ====
/- One block of 512 rows: the values the kernel's buffers hold in it, as functions of row and column numbers, and what
   each kind of store writes, given what its loads read. -/
module

public import proofs.«01_k».proof.Proof.Gate
public import proofs.«01_k».proof.Proof.Reads

@[expose] public section

set_option maxRecDepth 16384

noncomputable section

namespace Cert.Mixer

open Idealize.ShloMosaic Idealize.ShloMosaic.TcCoe Idealize.SL.Sem
open Cert.KernelIdeal Cert.KernelIdeal.Gen

namespace Par
variable (A : Par) (s : ℕ)

/-! Block `s` of the arguments. -/
def gP (r c : ℕ) : EReal := A.P (512 * s + r) c
def gZ (r c : ℕ) : EReal := A.Z (512 * s + r) c
def gX (r c : ℕ) : EReal := A.X (512 * s + r) c
def gcg (_ c : ℕ) : EReal := A.cg c
def ggb (_ c : ℕ) : EReal := A.gb c
def ggg (_ c : ℕ) : EReal := A.gg c
def glg (_ c : ℕ) : EReal := A.lg c
def glb (_ c : ℕ) : EReal := A.lb c

/-! What the buffers of block `s` hold. -/
def gz (r c : ℕ) : EReal := A.lin (512 * s + r) c
def gqd (h r c : ℕ) : EReal := A.qd (8 * s + r / 64) (r % 64) (128 * h + c)
def gki (h r c : ℕ) : EReal := A.ki (8 * s + r / 64) (r % 64) (128 * h + c)
def gke (h r c : ℕ) : EReal := A.ke (8 * s + r / 64) (r % 64) (128 * h + c)
/-- The decays lie in the first eight columns; the others are filled with zeros and never read. -/
def gdc (h d c : ℕ) : EReal := if c < 8 then A.dec (8 * s + c) (128 * h + d) else 0
def gsc (h r c : ℕ) : EReal := A.sc (8 * s + r / 64) h (r % 64) c
def gst (h c d e : ℕ) : EReal := A.S (8 * s + c) h d e
/-- The convolution's inputs of the eight rows before the block; a sequence starts from nothing. -/
def gcar (r c : ℕ) : EReal := if s % 8 = 0 then 0 else A.hh (512 * s + r - 8) c
/-- The convolution's inputs of the block's last eight rows. -/
def gcn (r c : ℕ) : EReal := A.hh (512 * s + (504 + r)) c
def gY (r c : ℕ) : EReal := A.Y (512 * s + r) c

/-- The state before the block's chunk `n`; for `n = 8` the state after the block. -/
def sv (n h d e : ℕ) : EReal := if n = 0 then A.S (8 * s) h d e else A.T (8 * s + n - 1) h d e

theorem sv_eq (n h d e : ℕ) (hn : n < 8) : A.sv s n h d e = A.S (8 * s + n) h d e := by
  cases n with
  | zero => rfl
  | succ n =>
    rw [sv, if_neg (Nat.succ_ne_zero n), show 8 * s + (n + 1) = 8 * s + n + 1 from rfl, A.S_succ _ _ _ _ (by omega)]
    rfl

theorem sv_succ (n h d e : ℕ) (hn : n < 8) :
    A.sv s (n + 1) h d e = A.dec (8 * s + n) (128 * h + d) * A.sv s n h d e + A.dl (8 * s + n) h d e := by
  rw [A.sv_eq s n h d e hn]; rfl

end Par

/-- The state before step `k` of a block, the heads taken in turn chunk after chunk. -/
def Par.gSt (A : Par) (s k h d e : ℕ) : EReal := A.sv s ((k + 3 - h) / 4) h d e
/-- The carried rows after `k` groups of columns. -/
def Par.gK (A : Par) (s k r c : ℕ) : EReal := if c < 128 * k then A.gcn s r c else A.gcar s r c

/-- The arguments of a block are the block's part of the arguments. -/
structure Inp (A : Par) (s : ℕ) (x0 : Vec Ideal S512x6144 .bf16) (x1 : Vec Ideal S512x16 .bf16) (x4 : Vec Ideal S8x1024 .f32)
    (x5 : Vec Ideal S1x1024 .f32) (x6 : Vec Ideal S16x512 .bf16) (x7 : Vec Ideal S1x512 .f32) (x8 : Vec Ideal S1x1024 .f32) : Prop where
  h0 : ∀ y, x0 y = A.gP s (y 0) (y 1)
  h1 : ∀ y, x1 y = A.gZ s (y 0) (y 1)
  h4 : ∀ y, x4 y = A.cw (y 0) (y 1)
  h5 : ∀ y, x5 y = A.gcg (y 0) (y 1)
  h6 : ∀ y, x6 y = A.wg (y 0) (y 1)
  h7 : ∀ y, x7 y = A.ggb (y 0) (y 1)
  h8 : ∀ y, x8 y = A.ggg (y 0) (y 1)

variable (A : Par) (s : ℕ)

/-- The gate before its bias. -/
theorem z_pc {a : FVec Ideal S512x16 .bf16} {b : FVec Ideal S16x512 .bf16}
    (ha : ∀ (i : Fin 512) (d : Fin 16), a (ix2 i d) = A.gZ s (0 + i) (0 + d))
    (hb : ∀ (d : Fin 16) (j : Fin 512), b (ix2 d j) = A.wg (0 + d) (0 + j)) (i : Fin 512) (j : Fin 512) :
    k0_pay6 (F := Ideal) a b (ix2 i j) = A.gz s (0 + i) (0 + j) := by
  pointwise [k0_pay6]
  simp only [ha, hb, Nat.zero_add]
  rfl

section
variable (h c0 c1 : ℕ) {z : FVec Ideal S512x128 .f32} {b : FVec Ideal S1x128 .f32} {q : FVec Ideal S512x128 .bf16}
  (hz : ∀ (i : Fin 512) (d : Fin 128), z (ix2 i d) = A.gz s (0 + i) (c0 + d))
  (hb : ∀ (u : Fin 1) (d : Fin 128), b (ix2 u d) = A.ggb (0 + u) (c0 + d)) (e0 : c0 = 128 * h)
  (hq : ∀ (i : Fin 512) (d : Fin 128), q (ix2 i d) = A.gP s (0 + i) (c1 + d))
include hz hb e0

theorem hz' (i : Fin 512) (d : Fin 128) : z (ix2 i d) = A.lin (512 * s + i) (128 * h + d) := by
  rw [hz, e0, Nat.zero_add]; rfl
theorem hb' (d : Fin 128) : b (ix2 0 d) = A.gb (128 * h + d) := by rw [hb, e0]; rfl

/-- The decays of one head over whole chunks. -/
theorem dc_pc (u : Fin 1) (d : Fin 128) (c : Fin 128) :
    k0_pay85 (F := Ideal) (k0_pay79 (k0_pay75 z b) (k0_pay76 z b) (k0_pay77 z b) (k0_pay78 z b)) (ix3 u d c)
      = A.gdc s (h + u) (0 + d) (0 + c) := by
  obtain rfl : u = 0 := Subsingleton.elim _ _
  rw [Nat.zero_add, Nat.zero_add, Par.gdc]
  by_cases hc : (c : ℕ) < 8
  · rw [dc_piece A s h z b (hz' A s h c0 hz hb e0) (hb' A s h c0 hz hb e0) d c hc, if_pos hc]; rfl
  · rw [if_neg hc]
    pointwise [k0_pay85, k0_pay83]
    rw [dif_neg hc]

include hq
/-- The decayed queries of one head. -/
theorem qd_pc (e1 : c1 = 3072 + 128 * h) (u : Fin 1) (i : Fin 512) (d : Fin 128) :
    k0_pay80 (F := Ideal) (k0_pay75 z b) (k0_pay76 z b) (k0_pay77 z b) (k0_pay78 z b) q (ix3 u i d)
      = A.gqd s (h + u) (0 + i) (0 + d) := by
  obtain rfl : u = 0 := Subsingleton.elim _ _
  rw [qd_piece A s h z b (hz' A s h c0 hz hb e0) (hb' A s h c0 hz hb e0) q (fun i d => by rw [hq, e1, Nat.zero_add]; rfl) i d,
    Nat.zero_add, Nat.zero_add]; rfl

/-- The keys of one head, their decay undone. -/
theorem ki_pc (e1 : c1 = 3584 + 128 * h) (u : Fin 1) (i : Fin 512) (d : Fin 128) :
    k0_pay82 (F := Ideal) (k0_pay79 (k0_pay75 z b) (k0_pay76 z b) (k0_pay77 z b) (k0_pay78 z b)) q (ix3 u i d)
      = A.gki s (h + u) (0 + i) (0 + d) := by
  obtain rfl : u = 0 := Subsingleton.elim _ _
  rw [ki_piece A s h z b (hz' A s h c0 hz hb e0) (hb' A s h c0 hz hb e0) q (fun i d => by rw [hq, e1, Nat.zero_add]; rfl) i d,
    Nat.zero_add, Nat.zero_add]; rfl

/-- The keys of one head, decayed to their chunk's end. -/
theorem ke_pc (e1 : c1 = 3584 + 128 * h) (u : Fin 1) (i : Fin 512) (d : Fin 128) :
    k0_pay84 (F := Ideal) (k0_pay79 (k0_pay75 z b) (k0_pay76 z b) (k0_pay77 z b) (k0_pay78 z b)) q (ix3 u i d)
      = A.gke s (h + u) (0 + i) (0 + d) := by
  obtain rfl : u = 0 := Subsingleton.elim _ _
  rw [ke_piece A s h z b (hz' A s h c0 hz hb e0) (hb' A s h c0 hz hb e0) q (fun i d => by rw [hq, e1, Nat.zero_add]; rfl) i d,
    Nat.zero_add, Nat.zero_add]; rfl
end

/-- A row of chunk `c` of a block. -/
theorem row_div {r0 : ℕ} (e : r0 % 64 = 0) (i : Fin 64) : (r0 + (i : ℕ)) / 64 = r0 / 64 := by omega
theorem row_mod {r0 : ℕ} (e : r0 % 64 = 0) (i : Fin 64) : (r0 + (i : ℕ)) % 64 = i := by omega
theorem row_eq {r0 : ℕ} (e : r0 % 64 = 0) (i : ℕ) : 512 * s + (r0 + i) = 64 * (8 * s + r0 / 64) + i := by omega

/-- The comparison of two row numbers. -/
theorem sge_iff (i d : Fin 64) :
    IntOp.cmpi .sge (BitVec.ofNat 32 (i : ℕ)) (BitVec.ofNat 32 (d : ℕ)) = if (d : ℕ) ≤ i then 1#1 else 0#1 := by
  revert i d; decide +kernel

/-- The causal scores of one chunk and head. -/
theorem sc_pc (h r0 : ℕ) (e : r0 % 64 = 0) {a b : FVec Ideal S1x64x128 .bf16}
    (ha : ∀ (u : Fin 1) (i : Fin 64) (d : Fin 128), a (ix3 u i d) = A.gqd s (h + u) (r0 + i) (0 + d))
    (hb : ∀ (u : Fin 1) (i : Fin 64) (d : Fin 128), b (ix3 u i d) = A.gki s (h + u) (r0 + i) (0 + d))
    (u : Fin 1) (i j : Fin 64) : k0_pay150 (F := Ideal) a b (ix3 u i j) = A.gsc s (h + u) (r0 + i) (0 + j) := by
  obtain rfl : u = 0 := Subsingleton.elim _ _
  pointwise [k0_pay150]
  simp only [ha, hb, Par.gqd, Par.gki, Par.gsc, Par.sc, row_div e, row_mod e, Nat.zero_add, sge_iff]
  by_cases hij : (j : ℕ) ≤ i
  · rw [if_pos hij, if_pos hij]; rfl
  · rw [if_neg hij, if_neg hij]; rfl

/-- A head's state, kept for a chunk. -/
theorem st_pc (h c : ℕ) (hc : c < 8) {a : FVec Ideal S1x128x256 .f32}
    (ha : ∀ (u : Fin 1) (i : Fin 128) (j : Fin 256), a (ix3 u i j) = A.sv s c (h + u) (0 + i) (0 + j))
    (u w : Fin 1) (i : Fin 128) (j : Fin 256) :
    k0_pay303 (F := Ideal) a (ix4 u w i j) = A.gst s (h + u) (c + w) (0 + i) (0 + j) := by
  obtain rfl : u = 0 := Subsingleton.elim _ _
  obtain rfl : w = 0 := Subsingleton.elim _ _
  pointwise [k0_pay303, k0_pay302]
  simp only [ha, A.sv_eq s c _ _ _ hc, Par.gst, Nat.zero_add, Nat.add_zero, Fin.val_zero]

/-- A head's state after a chunk. -/
theorem T_pc (h r0 c : ℕ) (e : r0 = 64 * c) (hc : c < 8) {a : FVec Ideal S1x128x256 .f32} {b : FVec Ideal S1x64x128 .bf16}
    {v : FVec Ideal S64x256 .bf16} {w : FVec Ideal S1x128x1 .f32} {c1 : ℕ} (e1 : c1 = 4096 + 256 * h)
    (ha : ∀ (u : Fin 1) (i : Fin 128) (j : Fin 256), a (ix3 u i j) = A.sv s c (h + u) (0 + i) (0 + j))
    (hb : ∀ (u : Fin 1) (i : Fin 64) (d : Fin 128), b (ix3 u i d) = A.gke s (h + u) (r0 + i) (0 + d))
    (hv : ∀ (i : Fin 64) (j : Fin 256), v (ix2 i j) = A.gP s (r0 + i) (c1 + j))
    (hw : ∀ (u : Fin 1) (i : Fin 128) (d : Fin 1), w (ix3 u i d) = A.gdc s (h + u) (0 + i) (c + d))
    (u : Fin 1) (i : Fin 128) (j : Fin 256) :
    k0_pay204 (F := Ideal) a b v w (ix3 u i j) = A.sv s (c + 1) (h + u) (0 + i) (0 + j) := by
  obtain rfl : u = 0 := Subsingleton.elim _ _
  have e0 : r0 % 64 = 0 := by omega
  have e2 : r0 / 64 = c := by omega
  rw [A.sv_succ s c _ _ _ hc]
  pointwise [k0_pay204, k0_pay202]
  simp only [ha, hb, hv, hw, Par.gke, Par.gP, Par.gdc, if_pos hc, Par.dl, row_div e0, row_mod e0, row_eq s e0, Nat.zero_add, e1, e2,
    Fin.val_zero, Nat.add_zero, Nat.add_assoc]

/-- The attention's columns of one chunk and head. -/
theorem o_pc (h r0 c : ℕ) (e : r0 = 64 * c) {a : FVec Ideal S1x64x64 .bf16} {v r : FVec Ideal S64x256 .bf16}
    {q : FVec Ideal S1x64x128 .bf16} {t : FVec Ideal S1x1x128x256 .bf16} {g : FVec Ideal S1x256 .f32} {c1 c2 c3 c4 : ℕ}
    (hh : h < 4) (e1 : c1 = 4096 + 256 * h) (e2 : c2 = 256 * h) (e3 : c3 = 5120 + 256 * h) (e4 : c4 = 1024 + 256 * h)
    (ha : ∀ (u : Fin 1) (i j : Fin 64), a (ix3 u i j) = A.gsc s (h + u) (r0 + i) (0 + j))
    (hv : ∀ (i : Fin 64) (j : Fin 256), v (ix2 i j) = A.gP s (r0 + i) (c1 + j))
    (hq : ∀ (u : Fin 1) (i : Fin 64) (d : Fin 128), q (ix3 u i d) = A.gqd s (h + u) (r0 + i) (0 + d))
    (ht : ∀ (u w : Fin 1) (i : Fin 128) (j : Fin 256), t (ix4 u w i j) = A.gst s (h + u) (c + w) (0 + i) (0 + j))
    (hg : ∀ (u : Fin 1) (j : Fin 256), g (ix2 u j) = A.ggg (0 + u) (c2 + j))
    (hr : ∀ (i : Fin 64) (j : Fin 256), r (ix2 i j) = A.gP s (r0 + i) (c3 + j))
    (i : Fin 64) (j : Fin 256) :
    k0_pay316 (F := Ideal) a v q t g r (ix2 i j) = A.gY s (r0 + i) (c4 + j) := by
  have e5 : r0 % 64 = 0 := by omega
  have e6 : r0 / 64 = c := by omega
  have hY : A.gY s (r0 + i) (c4 + j) = A.yg (8 * s + c) h i j := by
    rw [Par.gY, Par.Y, if_neg (by omega), row_eq s e5, e6]
    congr 1 <;> omega
  rw [hY]
  pointwise [k0_pay316]
  simp only [ha, hv, hq, ht, hg, hr, Par.gsc, Par.gP, Par.gqd, Par.gst, Par.ggg, row_div e5, row_mod e5, row_eq s e5,
    Nat.zero_add, e1, e2, e3, e6, Fin.val_zero, Nat.add_zero]
  rfl

/-! ### The convolution -/

/-- The convolution's input `k` rows before: from the same group of eight rows, from the group before, or from the
    rows carried over from the block before. -/
theorem shift_eq (k i c : ℕ) (hk : k = 1 ∨ k = 2) (hi : i < 512) :
    (if i % 8 < k then (if i / 8 < 1 then A.gcar s ((i % 8 + 8 - k) % 8) c
        else A.hh (512 * s + ((i / 8 - 1) * 8 + (i % 8 + 8 - k) % 8)) c)
      else A.hh (512 * s + (i / 8 * 8 + (i % 8 + 8 - k) % 8)) c) = A.hs k (512 * s + i) c := by
  rw [Par.gcar, Par.hs]
  split_ifs
  all_goals first
    | rfl
    | (exfalso; omega)
    | (congr 1; omega)

theorem slt_iff (n k : ℕ) (hn : n < 8) (hk : k < 8) :
    IntOp.cmpi .slt (BitVec.ofNat 32 n) (BitVec.ofNat 32 k) = if n < k then 1#1 else 0#1 := by
  have h : ∀ n k : Fin 8, IntOp.cmpi .slt (BitVec.ofNat 32 (n : ℕ)) (BitVec.ofNat 32 (k : ℕ)) = if (n : ℕ) < k then 1#1 else 0#1 := by
    decide +kernel
  exact h ⟨n, hn⟩ ⟨k, hk⟩

theorem select_ite {p : Prop} [Decidable p] (a b : EReal) :
    Scalar.select (if p then 1#1 else 0#1) a b = if p then a else b := by
  split_ifs <;> rfl

section
variable (c0 c1 c2 : ℕ) (e1 : c1 = 1024 + c0) (e2 : c2 = 2048 + c0) {a b p : FVec Ideal S512x128 .bf16} {k w : FVec Ideal S8x128 .f32}
  (ha : ∀ (i : Fin 512) (d : Fin 128), a (ix2 i d) = A.gP s (0 + i) (c1 + d))
  (hb : ∀ (i : Fin 512) (d : Fin 128), b (ix2 i d) = A.gP s (0 + i) (c2 + d))
include e1 e2 ha hb

/-- The convolution's inputs carried over to the next block. -/
theorem cn_pc (i : Fin 8) (j : Fin 128) : k0_pay9 (F := Ideal) (k0_pay7 a) b (ix2 i j) = A.gcn s (0 + i) (c0 + j) := by
  pointwise [k0_pay9, k0_pay8, k0_pay7]
  simp only [ha, hb, Par.gP, Par.gcn, Par.hh, e1, e2, Nat.zero_add, Nat.add_assoc]

theorem hh_eq (r : ℕ) (hr : r < 512) (j : Fin 128) :
    a (ix2 ⟨r, hr⟩ j) * b (ix2 ⟨r, hr⟩ j) = A.hh (512 * s + r) (c0 + j) := by
  rw [ha, hb, Nat.zero_add, e1, e2, Nat.add_assoc, Nat.add_assoc]; rfl

variable (hp : ∀ (i : Fin 512) (d : Fin 128), p (ix2 i d) = A.gP s (0 + i) (c0 + d))
  (hk : ∀ (i : Fin 8) (d : Fin 128), k (ix2 i d) = A.gcar s (0 + i) (c0 + d))
  (hw : ∀ (i : Fin 8) (d : Fin 128), w (ix2 i d) = A.cw (0 + i) (c0 + d))
include hp hk hw

set_option maxHeartbeats 1000000 in
/-- The gated convolution. -/
theorem cv_pc (i : Fin 512) (j : Fin 128) :
    k0_pay10 (F := Ideal) (k0_pay7 a) b k w p (ix2 i j) = A.cv (512 * s + i) (c0 + j) := by
  pointwise [k0_pay10, k0_pay8, k0_pay7]
  have hi := i.2
  have hm : (i : ℕ) % 8 < 8 := Nat.mod_lt _ (by norm_num)
  have s1 : IntOp.cmpi .slt (BitVec.ofNat 32 ((i : ℕ) % 8)) 1#32 = _ := slt_iff _ 1 hm (by norm_num)
  have s2 : IntOp.cmpi .slt (BitVec.ofNat 32 ((i : ℕ) % 8)) 2#32 = _ := slt_iff _ 2 hm (by norm_num)
  rw [s1, s2, select_ite, select_ite]
  rw [Par.cv, ← shift_eq A s 1 i _ (.inl rfl) hi, ← shift_eq A s 2 i _ (.inr rfl) hi]
  simp only [hh_eq A s c0 c1 c2 e1 e2 ha hb, hp, hk, hw, Nat.zero_add, dite_eq_ite]
  rfl

/-- The convolution's columns of one group. -/
theorem c_pc (g : ℕ) (hg : g < 8) (e0 : c0 = 128 * g) {n : FVec Ideal S1x128 .f32}
    (hn : ∀ (u : Fin 1) (d : Fin 128), n (ix2 u d) = A.gcg (0 + u) (c0 + d)) (i : Fin 512) (j : Fin 128) :
    k0_pay12 (F := Ideal) (k0_pay10 (k0_pay7 a) b k w p) (k0_pay11 (k0_pay7 a) b k w p) n (ix2 i j)
      = A.gY s (0 + i) (c0 + j) := by
  have hY : A.gY s (0 + i) (c0 + j) = A.yc (512 * s + i) g j := by
    rw [Par.gY, Par.Y, if_pos (by omega), Nat.zero_add]
    congr 1 <;> omega
  rw [hY]
  pointwise [k0_pay12, k0_pay11]
  simp only [cv_pc A s c0 c1 c2 e1 e2 ha hb hp hk hw, hn, e0]
  rfl

/-- The same, the group read off the first column. -/
theorem c_pc' (hc : c0 < 1024) (h0 : c0 % 128 = 0) {n : FVec Ideal S1x128 .f32}
    (hn : ∀ (u : Fin 1) (d : Fin 128), n (ix2 u d) = A.gcg (0 + u) (c0 + d)) (i : Fin 512) (j : Fin 128) :
    k0_pay12 (F := Ideal) (k0_pay10 (k0_pay7 a) b k w p) (k0_pay11 (k0_pay7 a) b k w p) n (ix2 i j)
      = A.gY s (0 + i) (c0 + j) :=
  c_pc A s c0 c1 c2 e1 e2 ha hb hp hk hw (c0 / 128) (by omega) (by omega) hn i j
end

end Cert.Mixer
end
end
-- ==== Proof.Norm.lean ====
/- The second half of a step: the projection of the block before and its layer norm, given what their loads read. -/
module

public import proofs.«01_k».proof.Proof.Blk

@[expose] public section

set_option maxRecDepth 16384

noncomputable section

namespace Cert.Mixer

open Idealize.ShloMosaic Idealize.ShloMosaic.TcCoe Idealize.SL.Sem
open Cert.KernelIdeal Cert.KernelIdeal.Gen

/-- Block `s` of the projection. -/
def Par.gmix (A : Par) (s r c : ℕ) : EReal := A.mix (512 * s + r) c
/-- Block `s` of the result. -/
def Par.gO (A : Par) (s r c : ℕ) : EReal := A.out (512 * s + r) c

/-- The arguments of the second half are block `t`'s part of the arguments, the carried columns those of block `t`. -/
structure Outp (A : Par) (t : ℕ) (x2 : Vec Ideal S512x2048 .f32) (x3 : Vec Ideal S2048x2048 .bf16) (x9 : Vec Ideal S1x2048 .f32)
    (x10 : Vec Ideal S1x2048 .f32) (xs0 : Vec Ideal S512x2048 .bf16) : Prop where
  h2 : ∀ y, x2 y = A.gX t (y 0) (y 1)
  h3 : ∀ y, x3 y = A.W (y 0) (y 1)
  h9 : ∀ y, x9 y = A.glg (y 0) (y 1)
  h10 : ∀ y, x10 y = A.glb (y 0) (y 1)
  hy : ∀ y, xs0 y = A.gY t (y 0) (y 1)

variable (A : Par) (t : ℕ)

/-- The columns of the block before, taken over. -/
theorem yp_pc {a : FVec Ideal S512x2048 .bf16} (ha : ∀ (i : Fin 512) (j : Fin 2048), a (ix2 i j) = A.gY t (0 + i) (0 + j))
    (i : Fin 512) (j : Fin 2048) : k0_pay5 (F := Ideal) a (ix2 i j) = A.gY t (0 + i) (0 + j) := by
  pointwise [k0_pay5]
  simpa only [Nat.zero_add] using ha i j

/-- A tile of the projection. -/
theorem mix_pc (r0 c0 : ℕ) {a : FVec Ideal S256x2048 .bf16} {b : FVec Ideal S2048x512 .bf16}
    (ha : ∀ (i : Fin 256) (d : Fin 2048), a (ix2 i d) = A.gY t (r0 + i) (0 + d))
    (hb : ∀ (d : Fin 2048) (j : Fin 512), b (ix2 d j) = A.W (0 + d) (c0 + j)) (i : Fin 256) (j : Fin 512) :
    k0_pay13 (F := Ideal) a b (ix2 i j) = A.gmix t (r0 + i) (c0 + j) := by
  pointwise [k0_pay13]
  simp only [ha, hb, Nat.zero_add]
  rfl

/-- A tile of the layer norm. -/
theorem out_pc (r0 : ℕ) {x m : FVec Ideal S128x2048 .f32} {g b : FVec Ideal S1x2048 .f32}
    (hx : ∀ (i : Fin 128) (j : Fin 2048), x (ix2 i j) = A.gX t (r0 + i) (0 + j))
    (hm : ∀ (i : Fin 128) (j : Fin 2048), m (ix2 i j) = A.gmix t (r0 + i) (0 + j))
    (hg : ∀ (u : Fin 1) (j : Fin 2048), g (ix2 u j) = A.glg (0 + u) (0 + j))
    (hb : ∀ (u : Fin 1) (j : Fin 2048), b (ix2 u j) = A.glb (0 + u) (0 + j))
    (i : Fin 128) (j : Fin 2048) : k0_pay1 (F := Ideal) (k0_pay400 x m g b) (ix2 i j) = A.gO t (r0 + i) (0 + j) := by
  pointwise [k0_pay1, k0_pay400]
  simp only [hx, hm, hg, hb, Nat.zero_add]
  rfl

/-- Under a store below row `r0` the earlier stores are read unchanged. -/
theorem canon_above {n0 n1 m0 m1 : ℕ} {e : EltTy} (r0 c0 n : ℕ) (inb) (w) (L : List (View.Piece (Elt Ideal) ⟨2, ![n0, n1]⟩ e))
    (hn : n ≤ r0) (y : (⟨2, ![n0, n1]⟩ : Shape).Idx) (hy : (y 0 : ℕ) < n) :
    View.canon (⟨Rect.unit (s := ⟨2, ![n0, n1]⟩) ![r0, c0] ![m0, m1] inb, w⟩ :: L) y = View.canon L y := by
  refine View.canon_cons_of_not_mem _ _ fun h => ?_
  have h0 : r0 ≤ (y 0 : ℕ) := ((Rect.mem_set_unit (inb := inb)).mp h 0).1
  omega

/-- A load of rows of a scratch of which only the rows before `n` have been written. -/
theorem rc2_above {n0 n1 m0 m1 : ℕ} {e : EltTy} (arg : Memref sig .tc .vmem ⟨2, ![n0, n1]⟩ e)
    (L : List (View.Piece (Elt Ideal) ⟨2, ![n0, n1]⟩ e)) (g : ℕ → ℕ → Elt Ideal e) (n : ℕ)
    (hL : ∀ y : (⟨2, ![n0, n1]⟩ : Shape).Idx, (y 0 : ℕ) < n → View.canon L y = g (y 0) (y 1)) (r0 c0 : ℕ) (hn : r0 + m0 ≤ n)
    (inb) (i : Fin m0) (j : Fin m1) :
    arg.view.readCov L (Rect.unit (s := ⟨2, ![n0, n1]⟩) ![r0, c0] ![m0, m1] inb).toLoadRect (ix2 i j)
      = g (r0 + i) (c0 + j) := by
  rw [View.readCov_eq_canon']
  refine (hL _ ?_).trans ?_
  · show r0 + 1 * (i : ℕ) < n
    have := i.2
    omega
  · show g (r0 + 1 * i) (c0 + 1 * j) = _
    rw [one_mul, one_mul]

end Cert.Mixer
end
end
-- ==== Proof.Windows.lean ====
/- What the windows hold at each grid point, in terms of the arguments. -/
module

public import proofs.«01_k».proof.Proof.Gen.KernelIdeal.Value
public import proofs.«01_k».proof.Proof.Blk
public import proofs.«01_k».proof.Proof.Norm

@[expose] public section

set_option maxRecDepth 16384
set_option maxHeartbeats 300000

noncomputable section

namespace Cert.Mixer

open Idealize.ShloMosaic Idealize.ShloMosaic.TcCoe Idealize.SL.Sem
open Cert.KernelIdeal Cert.KernelIdeal.Gen

/-- The arguments as functions of row and column numbers; outside an array its rows and columns are read again. -/
def parOf (x0 : Vec Ideal S8192x6144 .bf16) (x1 : Vec Ideal S8192x16 .bf16) (x2 : Vec Ideal S2x4096x2048 .f32)
    (x3 : Vec Ideal S2048x2048 .bf16) (x4 : Vec Ideal S1x3x1024 .f32) (x5 : Vec Ideal S1x1024 .f32)
    (x6 : Vec Ideal S1x16x512 .f32) (x7 : Vec Ideal S1x512 .f32) (x8 : Vec Ideal S1x1024 .f32)
    (x9 x10 : Vec Ideal S1x2048 .f32) : Par where
  P r k := x0 (ix2 (Fin.ofNat 8192 r) (Fin.ofNat 6144 k))
  Z r k := x1 (ix2 (Fin.ofNat 8192 r) (Fin.ofNat 16 k))
  X r k := x2 (ix3 (Fin.ofNat 2 (r / 4096)) (Fin.ofNat 4096 r) (Fin.ofNat 2048 k))
  W r k := x3 (ix2 (Fin.ofNat 2048 r) (Fin.ofNat 2048 k))
  cw i k := if h : i < 3 then x4 (ix3 0 ⟨i, h⟩ (Fin.ofNat 1024 k)) else 0
  cg k := x5 (ix2 0 (Fin.ofNat 1024 k))
  wg i k := x6 (ix3 0 (Fin.ofNat 16 i) (Fin.ofNat 512 k))
  gb k := x7 (ix2 0 (Fin.ofNat 512 k))
  gg k := x8 (ix2 0 (Fin.ofNat 1024 k))
  lg k := x9 (ix2 0 (Fin.ofNat 2048 k))
  lb k := x10 (ix2 0 (Fin.ofNat 2048 k))

variable (m : (ℓ : Loc nD τ sig) → Buf (Elt Ideal) ℓ) (c : Dev nD)

/-- The arguments as launched. -/
def par : Par :=
  parOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-! Each window's block index at a point. -/
theorem idx_w0 : ∀ t : Fin cfg0.N, win0_0.index t (0 : Fin 2) = min t.val 15 ∧ win0_0.index t (1 : Fin 2) = 0 :=
  (by decide +kernel : ∀ t : Fin grid0.N, _)
theorem idx_w1 : ∀ t : Fin cfg0.N, win0_1.index t (0 : Fin 2) = min t.val 15 ∧ win0_1.index t (1 : Fin 2) = 0 :=
  (by decide +kernel : ∀ t : Fin grid0.N, _)
theorem idx_w2 : ∀ t : Fin cfg0.N, win0_2.index t (0 : Fin 2) = t.val - 1 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = t.val - 1 ∧ win0_11.index t (1 : Fin 2) = 0 :=
  (by decide +kernel : ∀ t : Fin grid0.N, _)
theorem flush_w11 : ∀ t : Fin cfg0.N, (cfg0.win 11).flush t = decide (t.val ≠ 0) :=
  (by decide +kernel : ∀ t : Fin grid0.N, _)

/-! The arrays the region finds, at an index. -/
theorem v0_at (r : Fin 8192) (k : Fin 2048) : V m c main_v0 (ix2 r k)
    = m ((c : Thread nD τ).loc main_arg2) (ix3 (⟨r / 4096, by omega⟩ : Fin 2) (⟨r % 4096, by omega⟩ : Fin 4096) k) := by
  simp only [V, List.flatten_cons, List.flatten_nil, List.append_nil, List.cons_append, List.nil_append]
  entry_read
  pointwise

theorem v2_at (r : Fin 16) (k : Fin 512) : V m c main_v2 (ix2 r k)
    = m ((c : Thread nD τ).loc main_arg6) (ix3 (0 : Fin 1) r k) := by
  simp only [V, List.flatten_cons, List.flatten_nil, List.append_nil, List.cons_append, List.nil_append]
  entry_read
  pointwise

/-- Three rows padded by five rows of a value. -/
theorem pad_rows (x : S3x1024.Idx → EReal) (v : S_.Idx → EReal) (hp : S3x1024.Pads ![0, 0] ![5, 0] ![0, 0] S8x1024)
    (hu : 0 < S_.numel) (r : Fin 8) (k : Fin 1024) :
    pad S8x1024 ![0, 0] ![5, 0] ![0, 0] x v hp hu (ix2 r k)
      = if h : r.val < 3 then x (ix2 (⟨r, h⟩ : Fin 3) k) else v (Shape.Idx.first hu) := by
  rw [pad_apply]
  by_cases h : r.val < 3
  · rw [dif_pos h, dif_pos]
    · refine congrArg x (funext fun a => Fin.ext ?_)
      match a with
      | ⟨0, _⟩ => show (r.val - 0) / (0 + 1) = r.val; omega
      | ⟨1, _⟩ => show (k.val - 0) / (0 + 1) = k.val; omega
    · intro a
      match a with
      | ⟨0, _⟩ => show 0 ≤ r.val ∧ (r.val - 0) % (0 + 1) = 0 ∧ (r.val - 0) / (0 + 1) < 3; omega
      | ⟨1, _⟩ => show 0 ≤ k.val ∧ (k.val - 0) % (0 + 1) = 0 ∧ (k.val - 0) / (0 + 1) < 1024; omega
  · rw [dif_neg h, dif_neg]
    intro hin
    have h0 : 0 ≤ r.val ∧ (r.val - 0) % (0 + 1) = 0 ∧ (r.val - 0) / (0 + 1) < 3 := hin 0
    omega

theorem cast_rows (x : S1x3x1024.Idx → EReal) (h : S1x3x1024.ShapeCasts S3x1024) (i : Fin 3) (k : Fin 1024) :
    shapeCast S3x1024 x h (ix2 i k) = x (ix3 (0 : Fin 1) i k) := by
  pointwise

theorem v6_at (r : Fin 8) (k : Fin 1024) : V m c main_v6 (ix2 r k)
    = if h : r.val < 3 then m ((c : Thread nD τ).loc main_arg4) (ix3 (0 : Fin 1) (⟨r, h⟩ : Fin 3) k) else (0 : EReal) := by
  simp only [V, List.flatten_cons, List.flatten_nil, List.append_nil, List.cons_append, List.nil_append]
  entry_read
  simp only [StableHlo.TRef.ofBuf_toBuf]
  refine (pad_rows (shapeCast S3x1024 (m (c, Proc.tc.devRef main_arg4)) shapeCasts_S1x3x1024_S3x1024)
    (sitofp (F := Ideal) .f32 (constantI S_ 32 0#32)) pads_S3x1024_S8x1024_050_000 h_S_ r k).trans ?_
  by_cases h : r.val < 3
  · rw [dif_pos h, dif_pos h]
    exact cast_rows _ _ _ _
  · rw [dif_neg h, dif_neg h]
    show (((0 : ℤ) : ℝ) : EReal) = 0
    simp

theorem v4_at (k : Fin 512) : V m c main_v4 (ix2 0 k) = m ((c : Thread nD τ).loc main_arg7) (ix2 (0 : Fin 1) k) := by
  simp only [V, List.flatten_cons, List.flatten_nil, List.append_nil, List.cons_append, List.nil_append]
  entry_read
  pointwise

theorem v12_at (k : Fin 2048) : V m c main_v12 (ix2 0 k) = m ((c : Thread nD τ).loc main_arg9) (ix2 (0 : Fin 1) k) := by
  simp only [V, List.flatten_cons, List.flatten_nil, List.append_nil, List.cons_append, List.nil_append]
  entry_read
  pointwise

theorem v8_at (k : Fin 1024) : V m c main_v8 (ix2 0 k) = m ((c : Thread nD τ).loc main_arg5) (ix2 (0 : Fin 1) k) := by
  simp only [V, List.flatten_cons, List.flatten_nil, List.append_nil, List.cons_append, List.nil_append]
  entry_read
  pointwise

theorem v10_at (k : Fin 1024) : V m c main_v10 (ix2 0 k) = m ((c : Thread nD τ).loc main_arg8) (ix2 (0 : Fin 1) k) := by
  simp only [V, List.flatten_cons, List.flatten_nil, List.append_nil, List.cons_append, List.nil_append]
  entry_read
  pointwise

theorem v14_at (k : Fin 2048) : V m c main_v14 (ix2 0 k) = m ((c : Thread nD τ).loc main_arg10) (ix2 (0 : Fin 1) k) := by
  simp only [V, List.flatten_cons, List.flatten_nil, List.append_nil, List.cons_append, List.nil_append]
  entry_read
  pointwise

/-- A remainder below its modulus. -/
theorem ofNat_eq {n : ℕ} [NeZero n] (i : Fin n) (k : ℕ) (h : k = i.val) : Fin.ofNat n k = i := by
  apply Fin.ext; show k % n = i.val; rw [h, Nat.mod_eq_of_lt i.2]

/-- An index by its two coordinates. -/
theorem idx_eq {N C : ℕ} (e : (⟨2, ![N, C]⟩ : Shape).Idx) (r : Fin N) (k : Fin C) (h0 : (e 0).val = r.val) (h1 : (e 1).val = k.val) :
    e = ix2 r k := by
  funext a; apply Fin.ext
  match a with
  | ⟨0, _⟩ => exact h0
  | ⟨1, _⟩ => exact h1

/-- A read at an index with given coordinates. -/
theorem read_eq {N C : ℕ} [NeZero N] [NeZero C] (x : (⟨2, ![N, C]⟩ : Shape).Idx → EReal) (e : (⟨2, ![N, C]⟩ : Shape).Idx) (r k : ℕ)
    (h0 : (e 0).val = r) (h1 : (e 1).val = k) : x e = x (ix2 (Fin.ofNat N r) (Fin.ofNat C k)) := by
  have hr : Fin.ofNat N r = e 0 := ofNat_eq (n := N) (e 0) r h0.symm
  have hk : Fin.ofNat C k = e 1 := ofNat_eq (n := C) (e 1) k h1.symm
  rw [hr, hk, ← eq_ix2]

/-! Each window's block at a point. -/
theorem in0 (t : Fin cfg0.N) (y : S512x6144.Idx) : (iblk m c 0 t) y = (par m c).gP (min t.val 15) (y 0) (y 1) := by
  obtain ⟨e0, e1⟩ := idx_w0 t
  have q0 : ((((cfg0.win 0).blk t).view.emb y) 0).val = 512 * min t.val 15 + (y 0).val := by
    show win0_0.index t (0 : Fin 2) * 512 + 1 * (y 0).val = _; rw [e0]; omega
  have q1 : ((((cfg0.win 0).blk t).view.emb y) 1).val = (y 1).val := by
    show win0_0.index t (1 : Fin 2) * 6144 + 1 * (y 1).val = _; rw [e1]; omega
  show V m c main_arg0 (((cfg0.win 0).blk t).view.emb y) = _
  rw [V_main_arg0]
  exact read_eq _ _ _ _ q0 q1

theorem in1 (t : Fin cfg0.N) (y : S512x16.Idx) : (iblk m c 1 t) y = (par m c).gZ (min t.val 15) (y 0) (y 1) := by
  obtain ⟨e0, e1⟩ := idx_w1 t
  have q0 : ((((cfg0.win 1).blk t).view.emb y) 0).val = 512 * min t.val 15 + (y 0).val := by
    show win0_1.index t (0 : Fin 2) * 512 + 1 * (y 0).val = _; rw [e0]; omega
  have q1 : ((((cfg0.win 1).blk t).view.emb y) 1).val = (y 1).val := by
    show win0_1.index t (1 : Fin 2) * 16 + 1 * (y 1).val = _; rw [e1]; omega
  show V m c main_arg1 (((cfg0.win 1).blk t).view.emb y) = _
  rw [V_main_arg1]
  exact read_eq _ _ _ _ q0 q1

theorem in3 (t : Fin cfg0.N) (y : S2048x2048.Idx) : (iblk m c 3 t) y = (par m c).W (y 0) (y 1) := by
  obtain ⟨e0, e1⟩ := idx_w3 t
  have q0 : ((((cfg0.win 3).blk t).view.emb y) 0).val = (y 0).val := by
    show win0_3.index t (0 : Fin 2) * 2048 + 1 * (y 0).val = _; rw [e0]; omega
  have q1 : ((((cfg0.win 3).blk t).view.emb y) 1).val = (y 1).val := by
    show win0_3.index t (1 : Fin 2) * 2048 + 1 * (y 1).val = _; rw [e1]; omega
  show V m c main_arg3 (((cfg0.win 3).blk t).view.emb y) = _
  rw [V_main_arg3]
  exact read_eq _ _ _ _ q0 q1

theorem in2 (t : Fin cfg0.N) (y : S512x2048.Idx) : (iblk m c 2 t) y = (par m c).gX (t.val - 1) (y 0) (y 1) := by
  obtain ⟨e0, e1⟩ := idx_w2 t
  have q0 : ((((cfg0.win 2).blk t).view.emb y) 0).val = 512 * (t.val - 1) + (y 0).val := by
    show win0_2.index t (0 : Fin 2) * 512 + 1 * (y 0).val = _; rw [e0]; omega
  have q1 : ((((cfg0.win 2).blk t).view.emb y) 1).val = (y 1).val := by
    show win0_2.index t (1 : Fin 2) * 2048 + 1 * (y 1).val = _; rw [e1]; omega
  have hy : (y 0).val < 512 := (y 0).2
  have ht : t.val < 17 := t.2
  show V m c main_v0 (((cfg0.win 2).blk t).view.emb y) = _
  refine (congrArg (V m c main_v0) (idx_eq (((cfg0.win 2).blk t).view.emb y) (⟨512 * (t.val - 1) + (y 0).val, by omega⟩ : Fin 8192) (y 1 : Fin 2048) q0 q1)).trans ?_
  refine (v0_at m c _ _).trans ?_
  exact congrArg₂ (fun a b => m ((c : Thread nD τ).loc main_arg2) (ix3 a (Fin.ofNat 4096 (512 * (t.val - 1) + (y 0).val)) b))
    (ofNat_eq (n := 2) ⟨(512 * (t.val - 1) + (y 0).val) / 4096, by omega⟩ _ rfl).symm (ofNat_eq (n := 2048) (y 1) _ rfl).symm

theorem in4 (t : Fin cfg0.N) (y : S8x1024.Idx) : (iblk m c 4 t) y = (par m c).cw (y 0) (y 1) := by
  obtain ⟨e0, e1⟩ := idx_w4 t
  have q0 : ((((cfg0.win 4).blk t).view.emb y) 0).val = (y 0).val := by
    show win0_4.index t (0 : Fin 2) * 8 + 1 * (y 0).val = _; rw [e0]; omega
  have q1 : ((((cfg0.win 4).blk t).view.emb y) 1).val = (y 1).val := by
    show win0_4.index t (1 : Fin 2) * 1024 + 1 * (y 1).val = _; rw [e1]; omega
  show V m c main_v6 (((cfg0.win 4).blk t).view.emb y) = if h : (y 0).val < 3 then m ((c : Thread nD τ).loc main_arg4) (ix3 (0 : Fin 1) ⟨(y 0).val, h⟩ (Fin.ofNat 1024 _)) else (0 : EReal)
  refine (congrArg (V m c main_v6) (idx_eq (((cfg0.win 4).blk t).view.emb y) (y 0 : Fin 8) (y 1 : Fin 1024) q0 q1)).trans ?_
  refine (v6_at m c _ _).trans ?_
  exact congrArg (fun k => if h : (y 0).val < 3 then m ((c : Thread nD τ).loc main_arg4) (ix3 (0 : Fin 1) ⟨(y 0).val, h⟩ k) else (0 : EReal))
    (ofNat_eq (n := 1024) (y 1) _ rfl).symm

theorem in6 (t : Fin cfg0.N) (y : S16x512.Idx) : (iblk m c 6 t) y = (par m c).wg (y 0) (y 1) := by
  obtain ⟨e0, e1⟩ := idx_w6 t
  have q0 : ((((cfg0.win 6).blk t).view.emb y) 0).val = (y 0).val := by
    show win0_6.index t (0 : Fin 2) * 16 + 1 * (y 0).val = _; rw [e0]; omega
  have q1 : ((((cfg0.win 6).blk t).view.emb y) 1).val = (y 1).val := by
    show win0_6.index t (1 : Fin 2) * 512 + 1 * (y 1).val = _; rw [e1]; omega
  show V m c main_v2 (((cfg0.win 6).blk t).view.emb y) = m ((c : Thread nD τ).loc main_arg6) (ix3 (0 : Fin 1) (Fin.ofNat 16 _) (Fin.ofNat 512 _))
  refine (congrArg (V m c main_v2) (idx_eq (((cfg0.win 6).blk t).view.emb y) (y 0 : Fin 16) (y 1 : Fin 512) q0 q1)).trans ?_
  refine (v2_at m c _ _).trans ?_
  exact congrArg₂ (fun a b => m ((c : Thread nD τ).loc main_arg6) (ix3 (0 : Fin 1) a b))
    (ofNat_eq (n := 16) (y 0) _ rfl).symm (ofNat_eq (n := 512) (y 1) _ rfl).symm

theorem in5 (t : Fin cfg0.N) (y : S1x1024.Idx) : (iblk m c 5 t) y = (par m c).gcg (y 0) (y 1) := by
  obtain ⟨e0, e1⟩ := idx_w5 t
  have q0 : ((((cfg0.win 5).blk t).view.emb y) 0).val = (y 0).val := by
    show win0_5.index t (0 : Fin 2) * 1 + 1 * (y 0).val = _; rw [e0]; omega
  have q1 : ((((cfg0.win 5).blk t).view.emb y) 1).val = (y 1).val := by
    show win0_5.index t (1 : Fin 2) * 1024 + 1 * (y 1).val = _; rw [e1]; omega
  have hy : (y 0).val < 1 := (y 0).2
  show V m c main_v8 (((cfg0.win 5).blk t).view.emb y) = m ((c : Thread nD τ).loc main_arg5) (ix2 (0 : Fin 1) (Fin.ofNat 1024 _))
  refine (congrArg (V m c main_v8) (idx_eq (((cfg0.win 5).blk t).view.emb y) (0 : Fin 1) (y 1 : Fin 1024) (by rw [q0]; show (y 0).val = 0; omega) q1)).trans ?_
  refine (v8_at m c _).trans ?_
  exact congrArg (fun k => m ((c : Thread nD τ).loc main_arg5) (ix2 (0 : Fin 1) k)) (ofNat_eq (n := 1024) (y 1) _ rfl).symm

theorem in7 (t : Fin cfg0.N) (y : S1x512.Idx) : (iblk m c 7 t) y = (par m c).ggb (y 0) (y 1) := by
  obtain ⟨e0, e1⟩ := idx_w7 t
  have q0 : ((((cfg0.win 7).blk t).view.emb y) 0).val = (y 0).val := by
    show win0_7.index t (0 : Fin 2) * 1 + 1 * (y 0).val = _; rw [e0]; omega
  have q1 : ((((cfg0.win 7).blk t).view.emb y) 1).val = (y 1).val := by
    show win0_7.index t (1 : Fin 2) * 512 + 1 * (y 1).val = _; rw [e1]; omega
  have hy : (y 0).val < 1 := (y 0).2
  show V m c main_v4 (((cfg0.win 7).blk t).view.emb y) = m ((c : Thread nD τ).loc main_arg7) (ix2 (0 : Fin 1) (Fin.ofNat 512 _))
  refine (congrArg (V m c main_v4) (idx_eq (((cfg0.win 7).blk t).view.emb y) (0 : Fin 1) (y 1 : Fin 512) (by rw [q0]; show (y 0).val = 0; omega) q1)).trans ?_
  refine (v4_at m c _).trans ?_
  exact congrArg (fun k => m ((c : Thread nD τ).loc main_arg7) (ix2 (0 : Fin 1) k)) (ofNat_eq (n := 512) (y 1) _ rfl).symm

theorem in8 (t : Fin cfg0.N) (y : S1x1024.Idx) : (iblk m c 8 t) y = (par m c).ggg (y 0) (y 1) := by
  obtain ⟨e0, e1⟩ := idx_w8 t
  have q0 : ((((cfg0.win 8).blk t).view.emb y) 0).val = (y 0).val := by
    show win0_8.index t (0 : Fin 2) * 1 + 1 * (y 0).val = _; rw [e0]; omega
  have q1 : ((((cfg0.win 8).blk t).view.emb y) 1).val = (y 1).val := by
    show win0_8.index t (1 : Fin 2) * 1024 + 1 * (y 1).val = _; rw [e1]; omega
  have hy : (y 0).val < 1 := (y 0).2
  show V m c main_v10 (((cfg0.win 8).blk t).view.emb y) = m ((c : Thread nD τ).loc main_arg8) (ix2 (0 : Fin 1) (Fin.ofNat 1024 _))
  refine (congrArg (V m c main_v10) (idx_eq (((cfg0.win 8).blk t).view.emb y) (0 : Fin 1) (y 1 : Fin 1024) (by rw [q0]; show (y 0).val = 0; omega) q1)).trans ?_
  refine (v10_at m c _).trans ?_
  exact congrArg (fun k => m ((c : Thread nD τ).loc main_arg8) (ix2 (0 : Fin 1) k)) (ofNat_eq (n := 1024) (y 1) _ rfl).symm

theorem in9 (t : Fin cfg0.N) (y : S1x2048.Idx) : (iblk m c 9 t) y = (par m c).glg (y 0) (y 1) := by
  obtain ⟨e0, e1⟩ := idx_w9 t
  have q0 : ((((cfg0.win 9).blk t).view.emb y) 0).val = (y 0).val := by
    show win0_9.index t (0 : Fin 2) * 1 + 1 * (y 0).val = _; rw [e0]; omega
  have q1 : ((((cfg0.win 9).blk t).view.emb y) 1).val = (y 1).val := by
    show win0_9.index t (1 : Fin 2) * 2048 + 1 * (y 1).val = _; rw [e1]; omega
  have hy : (y 0).val < 1 := (y 0).2
  show V m c main_v12 (((cfg0.win 9).blk t).view.emb y) = m ((c : Thread nD τ).loc main_arg9) (ix2 (0 : Fin 1) (Fin.ofNat 2048 _))
  refine (congrArg (V m c main_v12) (idx_eq (((cfg0.win 9).blk t).view.emb y) (0 : Fin 1) (y 1 : Fin 2048) (by rw [q0]; show (y 0).val = 0; omega) q1)).trans ?_
  refine (v12_at m c _).trans ?_
  exact congrArg (fun k => m ((c : Thread nD τ).loc main_arg9) (ix2 (0 : Fin 1) k)) (ofNat_eq (n := 2048) (y 1) _ rfl).symm

theorem in10 (t : Fin cfg0.N) (y : S1x2048.Idx) : (iblk m c 10 t) y = (par m c).glb (y 0) (y 1) := by
  obtain ⟨e0, e1⟩ := idx_w10 t
  have q0 : ((((cfg0.win 10).blk t).view.emb y) 0).val = (y 0).val := by
    show win0_10.index t (0 : Fin 2) * 1 + 1 * (y 0).val = _; rw [e0]; omega
  have q1 : ((((cfg0.win 10).blk t).view.emb y) 1).val = (y 1).val := by
    show win0_10.index t (1 : Fin 2) * 2048 + 1 * (y 1).val = _; rw [e1]; omega
  have hy : (y 0).val < 1 := (y 0).2
  show V m c main_v14 (((cfg0.win 10).blk t).view.emb y) = m ((c : Thread nD τ).loc main_arg10) (ix2 (0 : Fin 1) (Fin.ofNat 2048 _))
  refine (congrArg (V m c main_v14) (idx_eq (((cfg0.win 10).blk t).view.emb y) (0 : Fin 1) (y 1 : Fin 2048) (by rw [q0]; show (y 0).val = 0; omega) q1)).trans ?_
  refine (v14_at m c _).trans ?_
  exact congrArg (fun k => m ((c : Thread nD τ).loc main_arg10) (ix2 (0 : Fin 1) k)) (ofNat_eq (n := 2048) (y 1) _ rfl).symm

/-- The windows that the mixers read. -/
theorem inp (t : Fin cfg0.N) : Inp (par m c) (min t.val 15) (iblk m c 0 t) (iblk m c 1 t) (iblk m c 4 t) (iblk m c 5 t) (iblk m c 6 t)
    (iblk m c 7 t) (iblk m c 8 t) :=
  ⟨in0 m c t, in1 m c t, in4 m c t, in5 m c t, in6 m c t, in7 m c t, in8 m c t⟩

/-- The windows that the projection reads, beside the step before's columns. -/
theorem outp (t : Fin cfg0.N) (x : Vec Ideal S512x2048 .bf16) (hx : ∀ y, x y = (par m c).gY (t.val - 1) (y 0) (y 1)) :
    Outp (par m c) (t.val - 1) (iblk m c 2 t) (iblk m c 3 t) (iblk m c 9 t) (iblk m c 10 t) x :=
  ⟨in2 m c t, in3 m c t, in9 m c t, in10 m c t, hx⟩

end Cert.Mixer
end
-- ==== Proof.Chain.lean ====
/- Buffers that are read between two of their stores: what they hold after every store of a block. -/
module

public import proofs.«01_k».proof.Proof.Blk

@[expose] public section

set_option maxRecDepth 16384

namespace Cert.Mixer

open Idealize.ShloMosaic Idealize.ShloMosaic.TcCoe Idealize.SL.Sem
open Cert.KernelIdeal Cert.KernelIdeal.Gen

/-- The last `n` stores of a list are numbered from `k0`: after each of them the list satisfies its predicate. -/
def Chain {α : Type} (OK : ℕ → List α → Prop) (k0 : ℕ) : ℕ → List α → Prop
  | 0, L => OK k0 L
  | n + 1, L => OK (k0 + n + 1) L ∧ Chain OK k0 n L.tail

theorem Chain.head {α : Type} {OK : ℕ → List α → Prop} {k0 n : ℕ} {L : List α} (h : Chain OK k0 n L) : OK (k0 + n) L := by
  cases n with
  | zero => exact h
  | succ n => exact h.1

theorem Chain.get {α : Type} {OK : ℕ → List α → Prop} {k0 : ℕ} : ∀ {n j : ℕ} {L : List α}, Chain OK k0 n L → j ≤ n →
    OK (k0 + (n - j)) (L.drop j)
  | n, 0, L, h, _ => h.head
  | n + 1, j + 1, L, h, hj => by
    rw [Nat.add_sub_add_right, ← List.drop_tail]
    exact h.2.get (Nat.le_of_succ_le_succ hj)

section
variable (A : Par) (s : ℕ)

/-- The state after `k` steps. -/
def StOK (k : ℕ) (L : List (View.Piece (Elt Ideal) S4x128x256 .f32)) : Prop :=
  ∀ y : S4x128x256.Idx, View.canon L y = A.gSt s k (y 0) (y 1) (y 2)

/-- The carried rows after `k` groups. -/
def CaOK (k : ℕ) (L : List (View.Piece (Elt Ideal) S8x1024 .f32)) : Prop :=
  ∀ y : S8x1024.Idx, View.canon L y = A.gK s k (y 0) (y 1)

/-- One more chunk of one head. -/
theorem chain_step {arg16 : Memref sig .tc .vmem S4x128x256 .f32} {k0 n : ℕ} (h r0 c c1 : ℕ)
    {L : List (View.Piece (Elt Ideal) S4x128x256 .f32)} {inb inb'}
    {p : FVec Ideal S1x128x256 .f32} {b : FVec Ideal S1x64x128 .bf16} {v : FVec Ideal S64x256 .bf16} {w : FVec Ideal S1x128x1 .f32}
    (hL : Chain (StOK A s) k0 n L)
    (hp : p = k0_pay204 (arg16.view.readCov L (Rect.unit (s := S4x128x256) ![h, 0, 0] S1x128x256.size inb').toLoadRect) b v w)
    (hb : ∀ (u : Fin 1) (i : Fin 64) (d : Fin 128), b (ix3 u i d) = A.gke s (h + u) (r0 + i) (0 + d))
    (hv : ∀ (i : Fin 64) (j : Fin 256), v (ix2 i j) = A.gP s (r0 + i) (c1 + j))
    (hw : ∀ (u : Fin 1) (i : Fin 128) (d : Fin 1), w (ix3 u i d) = A.gdc s (h + u) (0 + i) (c + d))
    (hk : k0 + n = 4 * c + h) (hh : h < 4) (hc : c < 8) (e : r0 = 64 * c) (e1 : c1 = 4096 + 256 * h) :
    Chain (StOK A s) k0 (n + 1) (⟨Rect.unit (s := S4x128x256) ![h, 0, 0] S1x128x256.size inb, p⟩ :: L) := by
  subst hp
  refine ⟨fun y => ?_, hL⟩
  have ha : ∀ (u : Fin 1) (i : Fin 128) (j : Fin 256),
      arg16.view.readCov L (Rect.unit (s := S4x128x256) ![h, 0, 0] S1x128x256.size inb').toLoadRect (ix3 u i j)
        = A.sv s c (h + u) (0 + i) (0 + j) := fun u i j => by
    obtain rfl : u = 0 := Subsingleton.elim _ _
    refine (rc3 (e := .f32) arg16 L (A.gSt s (k0 + n)) hL.head h 0 0 _ 0 i j).trans ?_
    rw [Par.gSt, hk, show (4 * c + h + 3 - (h + ((0 : Fin 1) : ℕ))) / 4 = c from by simp only [Fin.val_zero]; omega]
  by_cases hy : ((y 0 : Fin 4) : ℕ) = h
  · have hy' : y = (Rect.unit (s := S4x128x256) ![h, 0, 0] S1x128x256.size inb).emb (ix3 (0 : Fin 1) (y 1 : Fin 128) (y 2 : Fin 256)) := by
      funext a
      apply Fin.ext
      fin_cases a
      · show _ = h + 1 * 0
        rw [← hy]; rfl
      · show _ = 0 + 1 * _
        rw [one_mul, zero_add]; rfl
      · show _ = 0 + 1 * _
        rw [one_mul, zero_add]; rfl
    conv_lhs => rw [hy']
    rw [View.canon_cons_emb]
    refine (T_pc A s h r0 c e hc e1 ha hb hv hw 0 (y 1) (y 2)).trans ?_
    rw [Par.gSt, hy, show (k0 + n + 1 + 3 - h) / 4 = c + 1 from by omega]
    simp only [Fin.val_zero, Nat.add_zero, Nat.zero_add]
  · rw [View.canon_cons_of_not_mem]
    · refine (hL.head y).trans ?_
      have h4 : ((y 0 : Fin 4) : ℕ) < 4 := (y 0).2
      rw [Par.gSt, Par.gSt, show (k0 + n + 1 + 3 - ((y 0 : Fin 4) : ℕ)) / 4 = (k0 + n + 3 - ((y 0 : Fin 4) : ℕ)) / 4 from by omega]
    · intro hm
      have := (Rect.mem_set_unit (inb := inb)).mp hm 0
      have h1 : h ≤ ((y 0 : Fin 4) : ℕ) ∧ ((y 0 : Fin 4) : ℕ) < h + 1 := this
      omega

/-- A state kept on the way. -/
theorem st_at {arg16 : Memref sig .tc .vmem S4x128x256 .f32} {k0 n : ℕ} {L : List (View.Piece (Elt Ideal) S4x128x256 .f32)}
    (hL : Chain (StOK A s) k0 n L) (h c : ℕ) {inb} (hk : k0 ≤ 4 * c + h) (hn : 4 * c + h ≤ k0 + n) (hh : h < 4) (hc : c < 8)
    {L' : List (View.Piece (Elt Ideal) S4x128x256 .f32)} (hd : L.drop (k0 + n - (4 * c + h)) = L')
    (u w : Fin 1) (i : Fin 128) (j : Fin 256) :
    A.gst s (h + u) (c + w) (0 + i) (0 + j)
      = k0_pay303 (F := Ideal) (arg16.view.readCov L'
          (Rect.unit (s := S4x128x256) ![h, 0, 0] S1x128x256.size inb).toLoadRect) (ix4 u w i j) := by
  subst hd
  refine (st_pc A s h c hc (fun u i j => ?_) u w i j).symm
  have hg := hL.get (j := k0 + n - (4 * c + h)) (by omega)
  rw [show k0 + (n - (k0 + n - (4 * c + h))) = 4 * c + h from by omega] at hg
  obtain rfl : u = 0 := Subsingleton.elim _ _
  refine (rc3 (e := .f32) arg16 _ (A.gSt s (4 * c + h)) hg h 0 0 _ 0 i j).trans ?_
  rw [Par.gSt, show (4 * c + h + 3 - (h + ((0 : Fin 1) : ℕ))) / 4 = c from by simp only [Fin.val_zero]; omega]

/-- One more group of carried rows. -/
theorem car_step {k0 n : ℕ} (c0 : ℕ) {L : List (View.Piece (Elt Ideal) S8x1024 .f32)} {inb} {w v : FVec Ideal S8x128 .f32}
    (hL : Chain (CaOK A s) k0 n L) (hv : w = v)
    (hw : ∀ (i : Fin 8) (j : Fin 128), v (ix2 i j) = A.gcn s (0 + i) (c0 + j)) (e : c0 = 128 * (k0 + n)) :
    Chain (CaOK A s) k0 (n + 1) (⟨Rect.unit (s := S8x1024) ![0, c0] S8x128.size inb, w⟩ :: L) := by
  subst hv
  refine ⟨fun y => ?_, hL⟩
  by_cases hy : c0 ≤ ((y 1 : Fin 1024) : ℕ) ∧ ((y 1 : Fin 1024) : ℕ) < c0 + 128
  · have hy' : y = (Rect.unit (s := S8x1024) ![0, c0] S8x128.size inb).emb
        (ix2 (y 0 : Fin 8) (⟨(y 1 : Fin 1024) - c0, by omega⟩ : Fin 128)) := by
      funext a
      apply Fin.ext
      fin_cases a
      · show _ = 0 + 1 * _
        rw [one_mul, zero_add]; rfl
      · show ((y 1 : Fin 1024) : ℕ) = c0 + 1 * (((y 1 : Fin 1024) : ℕ) - c0)
        omega
    conv_lhs => rw [hy']
    rw [View.canon_cons_emb]
    refine (hw _ _).trans ?_
    rw [Par.gK, if_pos (by omega), Nat.zero_add]
    congr 1
    show c0 + (((y 1 : Fin 1024) : ℕ) - c0) = _
    omega
  · rw [View.canon_cons_of_not_mem]
    · refine (hL.head y).trans ?_
      rw [Par.gK, Par.gK]
      by_cases h1 : ((y 1 : Fin 1024) : ℕ) < 128 * (k0 + n)
      · rw [if_pos h1, if_pos (by omega)]
      · rw [if_neg h1, if_neg (by omega)]
    · intro hm
      have := (Rect.mem_set_unit (inb := inb)).mp hm 1
      have h1 : c0 ≤ ((y 1 : Fin 1024) : ℕ) ∧ ((y 1 : Fin 1024) : ℕ) < c0 + 128 := this
      omega

/-- Carried rows read before their group is stored. -/
theorem car_at {arg17 : Memref sig .tc .vmem S8x1024 .f32} {n : ℕ} {L : List (View.Piece (Elt Ideal) S8x1024 .f32)}
    (hL : Chain (CaOK A s) 0 n L) (c0 : ℕ) {inb} (hn : c0 ≤ 128 * n) (hc : c0 % 128 = 0)
    {L' : List (View.Piece (Elt Ideal) S8x1024 .f32)} (hd : L.drop (n - c0 / 128) = L') (i : Fin 8) (j : Fin 128) :
    A.gcar s (0 + i) (c0 + j)
      = arg17.view.readCov L' (Rect.unit (s := S8x1024) ![0, c0] S8x128.size inb).toLoadRect (ix2 i j) := by
  subst hd
  have hg := hL.get (j := n - c0 / 128) (by omega)
  rw [show 0 + (n - (n - c0 / 128)) = c0 / 128 from by omega] at hg
  refine ((rc2 (e := .f32) arg17 _ (A.gK s (c0 / 128)) hg 0 c0 _ i j).trans ?_).symm
  rw [Par.gK, if_neg (by omega)]

end
end Cert.Mixer
end
-- ==== Proof.BufC.lean ====
/- A block at the start of a sequence: the buffers stored once. -/
module

public import Idealize.ShloMosaic.Lib.Pipeline.ValueKit
public import proofs.«01_k».proof.Proof.Gen.KernelIdeal.Frame.RunC
public import proofs.«01_k».proof.Proof.Chain

@[expose] public section

set_option maxRecDepth 16384
set_option maxHeartbeats 1000000

namespace Cert.Mixer.CaseC

open Idealize.ShloMosaic Idealize.ShloMosaic.TcCoe Idealize.SL.Sem
open Cert.KernelIdeal Cert.KernelIdeal.Gen

section
variable {c : Dev nD}
  {arg1 : Memref sig .tc .vmem S512x6144 .bf16} {harg1 : arg1.IsWhole}
  {arg2 : Memref sig .tc .vmem S512x16 .bf16} {harg2 : arg2.IsWhole}
  {arg7 : Memref sig .tc .vmem S16x512 .bf16} {harg7 : arg7.IsWhole}
  {arg8 : Memref sig .tc .vmem S1x512 .f32} {harg8 : arg8.IsWhole}
  {arg22 : Memref sig .tc .vmem S512x512 .f32} {harg22 : arg22.IsWhole}
  {x0 : Vec Ideal S512x6144 .bf16} {x1 : Vec Ideal S512x16 .bf16} {x4 : Vec Ideal S8x1024 .f32} {x5 : Vec Ideal S1x1024 .f32} {x6 : Vec Ideal S16x512 .bf16} {x7 : Vec Ideal S1x512 .f32} {x8 : Vec Ideal S1x1024 .f32}
  (A : Par) (s : ℕ) (I : Inp A s x0 x1 x4 x5 x6 x7 x8)
include I

/-- The gate before its bias. -/
theorem z_at (y) : View.canon (kernelRun0_C.sl.HS9_1 (F := Ideal) c arg2 harg2 arg7 harg7 x1 x6) y = A.gz s (y 0) (y 1) := by
  refine canon_of (S := S512x512) (e := .f32) (fun y => A.gz s (y 0) (y 1)) _ ?_ (View.cover_of_tiledL _ S512x512.size (by rfl)) y
  refine ⟨?_, trivial⟩
  exact pc2 (e := .f32) (A.gz s) _ _ (by decide) _ rfl (z_pc A s (rd2 (e := .bf16) _ _ _ _ I.h1 _ _ _) (rd2 (e := .bf16) _ _ _ _ I.h6 _ _ _))

/-- The decayed queries. -/
theorem qd_at (y) : View.canon (kernelRun0_C.sl.HS5_4 (F := Ideal) c arg1 harg1 arg2 harg2 arg7 harg7 arg8 harg8 arg22 x0 x1 x6 x7) y = A.gqd s (y 0) (y 1) (y 2) := by
  refine canon_of (S := S4x512x128) (e := .bf16) (fun y => A.gqd s (y 0) (y 1) (y 2)) _ ?_ (View.cover_of_tiledL _ S1x512x128.size (by rfl)) y
  refine ⟨?_, ?_, ?_, ?_, trivial⟩
  all_goals exact pc3 (e := .bf16) (A.gqd s) _ _ _ (by decide) _ rfl (qd_pc A s _ _ _ (rc2 (e := .f32) arg22 _ _ (z_at A s I) 0 _ _)
    (rd2 (e := .f32) arg8 harg8 _ _ I.h7 0 _ _) (by rfl) (rd2 (e := .bf16) arg1 harg1 _ _ I.h0 0 _ _) (by rfl))

/-- The keys, their decay undone. -/
theorem ki_at (y) : View.canon (kernelRun0_C.sl.HS6_4 (F := Ideal) c arg1 harg1 arg2 harg2 arg7 harg7 arg8 harg8 arg22 x0 x1 x6 x7) y = A.gki s (y 0) (y 1) (y 2) := by
  refine canon_of (S := S4x512x128) (e := .bf16) (fun y => A.gki s (y 0) (y 1) (y 2)) _ ?_ (View.cover_of_tiledL _ S1x512x128.size (by rfl)) y
  refine ⟨?_, ?_, ?_, ?_, trivial⟩
  all_goals exact pc3 (e := .bf16) (A.gki s) _ _ _ (by decide) _ rfl (ki_pc A s _ _ _ (rc2 (e := .f32) arg22 _ _ (z_at A s I) 0 _ _)
    (rd2 (e := .f32) arg8 harg8 _ _ I.h7 0 _ _) (by rfl) (rd2 (e := .bf16) arg1 harg1 _ _ I.h0 0 _ _) (by rfl))

/-- The keys, decayed to their chunk's end. -/
theorem ke_at (y) : View.canon (kernelRun0_C.sl.HS7_4 (F := Ideal) c arg1 harg1 arg2 harg2 arg7 harg7 arg8 harg8 arg22 x0 x1 x6 x7) y = A.gke s (y 0) (y 1) (y 2) := by
  refine canon_of (S := S4x512x128) (e := .bf16) (fun y => A.gke s (y 0) (y 1) (y 2)) _ ?_ (View.cover_of_tiledL _ S1x512x128.size (by rfl)) y
  refine ⟨?_, ?_, ?_, ?_, trivial⟩
  all_goals exact pc3 (e := .bf16) (A.gke s) _ _ _ (by decide) _ rfl (ke_pc A s _ _ _ (rc2 (e := .f32) arg22 _ _ (z_at A s I) 0 _ _)
    (rd2 (e := .f32) arg8 harg8 _ _ I.h7 0 _ _) (by rfl) (rd2 (e := .bf16) arg1 harg1 _ _ I.h0 0 _ _) (by rfl))

/-- The decays over whole chunks. -/
theorem dc_at (y) : View.canon (kernelRun0_C.sl.HS8_4 (F := Ideal) c arg2 harg2 arg7 harg7 arg8 harg8 arg22 x1 x6 x7) y = A.gdc s (y 0) (y 1) (y 2) := by
  refine canon_of (S := S4x128x128) (e := .f32) (fun y => A.gdc s (y 0) (y 1) (y 2)) _ ?_ (View.cover_of_tiledL _ S1x128x128.size (by rfl)) y
  refine ⟨?_, ?_, ?_, ?_, trivial⟩
  all_goals exact pc3 (e := .f32) (A.gdc s) _ _ _ (by decide) _ rfl (dc_pc A s _ _ (rc2 (e := .f32) arg22 _ _ (z_at A s I) 0 _ _)
    (rd2 (e := .f32) arg8 harg8 _ _ I.h7 0 _ _) (by rfl))

end
end Cert.Mixer.CaseC
end
-- ==== Proof.StateC.lean ====
/- A block at the start of a sequence: the scores and the state. -/
module

public import Idealize.ShloMosaic.Lib.Pipeline.ValueKit
public import proofs.«01_k».proof.Proof.Gen.KernelIdeal.Frame.RunC
public import proofs.«01_k».proof.Proof.BufC
public import proofs.«01_k».proof.Proof.Chain

@[expose] public section

set_option maxRecDepth 16384
set_option maxHeartbeats 1000000

namespace Cert.Mixer.CaseC

open Idealize.ShloMosaic Idealize.ShloMosaic.TcCoe Idealize.SL.Sem
open Cert.KernelIdeal Cert.KernelIdeal.Gen

section
/-- The state a sequence starts from. -/
theorem st_zero (A : Par) (s : ℕ) (h8 : s % 8 = 0) : StOK A s 0 (kernelRun0_C.sl.HS3_1 (F := Ideal)) := by
  intro y
  refine canon_of (S := S4x128x256) (e := .f32) (fun y => A.gSt s 0 (y 0) (y 1) (y 2)) _ ?_ (View.cover_of_tiledL _ S4x128x256.size (by rfl)) y
  refine ⟨?_, trivial⟩
  refine pc3 (e := .f32) (A.gSt s 0) 0 0 0 (by decide) _ rfl fun a i j => ?_
  have h : (0 + 3 - (0 + (a : ℕ))) / 4 = 0 := by omega
  rw [Par.gSt, h, Par.sv, if_pos rfl, A.S_zero _ _ _ _ (by omega)]
  pointwise [k0_pay3]

variable {c : Dev nD}
  {arg1 : Memref sig .tc .vmem S512x6144 .bf16} {harg1 : arg1.IsWhole}
  {arg2 : Memref sig .tc .vmem S512x16 .bf16} {harg2 : arg2.IsWhole}
  {arg7 : Memref sig .tc .vmem S16x512 .bf16} {harg7 : arg7.IsWhole}
  {arg8 : Memref sig .tc .vmem S1x512 .f32} {harg8 : arg8.IsWhole}
  {arg16 : Memref sig .tc .vmem S4x128x256 .f32} {harg16 : arg16.IsWhole}
  {arg18 : Memref sig .tc .vmem S4x512x128 .bf16} {harg18 : arg18.IsWhole}
  {arg19 : Memref sig .tc .vmem S4x512x128 .bf16} {harg19 : arg19.IsWhole}
  {arg20 : Memref sig .tc .vmem S4x512x128 .bf16} {harg20 : arg20.IsWhole}
  {arg21 : Memref sig .tc .vmem S4x128x128 .f32} {harg21 : arg21.IsWhole}
  {arg22 : Memref sig .tc .vmem S512x512 .f32} {harg22 : arg22.IsWhole}
  {x0 : Vec Ideal S512x6144 .bf16} {x1 : Vec Ideal S512x16 .bf16} {x4 : Vec Ideal S8x1024 .f32} {x5 : Vec Ideal S1x1024 .f32} {x6 : Vec Ideal S16x512 .bf16} {x7 : Vec Ideal S1x512 .f32} {x8 : Vec Ideal S1x1024 .f32}
  (A : Par) (s : ℕ) (I : Inp A s x0 x1 x4 x5 x6 x7 x8) (h8 : s % 8 = 0)
include I

/-- The causal scores. -/
theorem sc_at (y) : View.canon (kernelRun0_C.sl.HS10_32 (F := Ideal) c arg1 harg1 arg2 harg2 arg7 harg7 arg8 harg8 arg18 arg19 arg22 x0 x1 x6 x7) y = A.gsc s (y 0) (y 1) (y 2) := by
  refine canon_of (S := S4x512x64) (e := .bf16) (fun y => A.gsc s (y 0) (y 1) (y 2)) _ ?_ (View.cover_of_tiledL _ S1x64x64.size (by rfl)) y
  dsimp only [kernelRun0_C.sl.HS10_32, kernelRun0_C.sl.r_78, kernelRun0_C.sl.r_79, kernelRun0_C.sl.r_80, kernelRun0_C.sl.r_81, kernelRun0_C.sl.r_82, kernelRun0_C.sl.r_83, kernelRun0_C.sl.r_84, kernelRun0_C.sl.r_85, kernelRun0_C.sl.r_86, kernelRun0_C.sl.r_87, kernelRun0_C.sl.r_88, k0_pay151, k0_pay152, k0_pay155, k0_pay161, k0_pay162, k0_pay165, k0_pay166, k0_pay167, k0_pay170, k0_pay173, k0_pay176, k0_pay177, k0_pay180, k0_pay184, k0_pay187, k0_pay188, k0_pay189, k0_pay192, k0_pay196, k0_pay199, k0_pay200]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals exact pc3 (e := .bf16) (A.gsc s) _ _ _ (by decide) _ (v := k0_pay150 (F := Ideal) _ _) rfl (sc_pc A s _ _ (by rfl)
    (rc3 (e := .bf16) arg18 _ _ (qd_at A s I) _ _ _ _) (rc3 (e := .bf16) arg19 _ _ (ki_at A s I) _ _ _ _))

include h8

/-- The state after every chunk and head. -/
theorem st_chain : Chain (StOK A s) 0 32 (⟨Rect.unit ![3, 0, 0] S1x128x256.size inb_S4x128x256_S1x128x256_3_0_0,
    k0_pay315 (kernelRun0_C.sl.r_121 (F := Ideal) c arg1 harg1 arg2 harg2 arg7 harg7 arg8 harg8 arg16 arg20 arg21 arg22 x0 x1 x6 x7)⟩ ::
  kernelRun0_C.sl.HS3_32 (F := Ideal) c arg1 harg1 arg2 harg2 arg7 harg7 arg8 harg8 arg16 arg20 arg21 arg22 x0 x1 x6 x7) := by
  dsimp only [kernelRun0_C.sl.HS3_2, kernelRun0_C.sl.HS3_3, kernelRun0_C.sl.HS3_4, kernelRun0_C.sl.HS3_5, kernelRun0_C.sl.HS3_6, kernelRun0_C.sl.HS3_7, kernelRun0_C.sl.HS3_8, kernelRun0_C.sl.HS3_9, kernelRun0_C.sl.HS3_10, kernelRun0_C.sl.HS3_11, kernelRun0_C.sl.HS3_12, kernelRun0_C.sl.HS3_13, kernelRun0_C.sl.HS3_14, kernelRun0_C.sl.HS3_15, kernelRun0_C.sl.HS3_16, kernelRun0_C.sl.HS3_17, kernelRun0_C.sl.HS3_18, kernelRun0_C.sl.HS3_19, kernelRun0_C.sl.HS3_20, kernelRun0_C.sl.HS3_21, kernelRun0_C.sl.HS3_22, kernelRun0_C.sl.HS3_23, kernelRun0_C.sl.HS3_24, kernelRun0_C.sl.HS3_25, kernelRun0_C.sl.HS3_26, kernelRun0_C.sl.HS3_27, kernelRun0_C.sl.HS3_28, kernelRun0_C.sl.HS3_29, kernelRun0_C.sl.HS3_30, kernelRun0_C.sl.HS3_31, kernelRun0_C.sl.HS3_32, kernelRun0_C.sl.r_100, kernelRun0_C.sl.r_101, kernelRun0_C.sl.r_102, kernelRun0_C.sl.r_103, kernelRun0_C.sl.r_104, kernelRun0_C.sl.r_105, kernelRun0_C.sl.r_106, kernelRun0_C.sl.r_107, kernelRun0_C.sl.r_108, kernelRun0_C.sl.r_110, kernelRun0_C.sl.r_111, kernelRun0_C.sl.r_112, kernelRun0_C.sl.r_114, kernelRun0_C.sl.r_115, kernelRun0_C.sl.r_116, kernelRun0_C.sl.r_117, kernelRun0_C.sl.r_119, kernelRun0_C.sl.r_120, kernelRun0_C.sl.r_121, kernelRun0_C.sl.r_89, kernelRun0_C.sl.r_91, kernelRun0_C.sl.r_92, kernelRun0_C.sl.r_93, kernelRun0_C.sl.r_95, kernelRun0_C.sl.r_96, kernelRun0_C.sl.r_97, kernelRun0_C.sl.r_98, k0_pay205, k0_pay209, k0_pay211, k0_pay216, k0_pay220, k0_pay222, k0_pay223, k0_pay228, k0_pay234, k0_pay239, k0_pay244, k0_pay249, k0_pay258, k0_pay260, k0_pay268, k0_pay270, k0_pay275, k0_pay279, k0_pay281, k0_pay286, k0_pay290, k0_pay292, k0_pay293, k0_pay298, k0_pay304, k0_pay309, k0_pay314]
  iterate 32
    refine chain_step A s (arg16 := arg16) _ _ _ _ ?_ rfl (rc3 (e := .bf16) arg20 _ _ (ke_at A s I) _ _ _ _)
      (rd2 (e := .bf16) arg1 harg1 _ _ I.h0 _ _ _) (rc3 (e := .f32) arg21 _ _ (dc_at A s I) _ _ _ _)
      (by rfl) (by norm_num) (by norm_num) (by rfl) (by rfl)
  exact st_zero A s h8

end
end Cert.Mixer.CaseC
end
-- ==== Proof.KeptC.lean ====
/- A block at the start of a sequence: the states kept, the carried rows. -/
module

public import Idealize.ShloMosaic.Lib.Pipeline.ValueKit
public import proofs.«01_k».proof.Proof.Gen.KernelIdeal.Frame.RunC
public import proofs.«01_k».proof.Proof.StateC
public import proofs.«01_k».proof.Proof.Chain

@[expose] public section

set_option maxRecDepth 16384
set_option maxHeartbeats 1000000

namespace Cert.Mixer.CaseC

open Idealize.ShloMosaic Idealize.ShloMosaic.TcCoe Idealize.SL.Sem
open Cert.KernelIdeal Cert.KernelIdeal.Gen

section
/-- A sequence starts from no carried rows. -/
theorem ca_zero (A : Par) (s : ℕ) (h8 : s % 8 = 0) : CaOK A s 0 (kernelRun0_C.sl.HS4_1 (F := Ideal)) := by
  intro y
  refine canon_of (S := S8x1024) (e := .f32) (fun y => A.gK s 0 (y 0) (y 1)) _ ?_ (View.cover_of_tiledL _ S8x1024.size (by rfl)) y
  refine ⟨?_, trivial⟩
  refine pc2 (e := .f32) (A.gK s 0) 0 0 (by decide) _ rfl fun i j => ?_
  rw [Par.gK, if_neg (by omega), Par.gcar, if_pos h8]
  pointwise [k0_pay4]

variable {c : Dev nD}
  {arg1 : Memref sig .tc .vmem S512x6144 .bf16} {harg1 : arg1.IsWhole}
  {arg2 : Memref sig .tc .vmem S512x16 .bf16} {harg2 : arg2.IsWhole}
  {arg7 : Memref sig .tc .vmem S16x512 .bf16} {harg7 : arg7.IsWhole}
  {arg8 : Memref sig .tc .vmem S1x512 .f32} {harg8 : arg8.IsWhole}
  {arg16 : Memref sig .tc .vmem S4x128x256 .f32} {harg16 : arg16.IsWhole}
  {arg17 : Memref sig .tc .vmem S8x1024 .f32} {harg17 : arg17.IsWhole}
  {arg20 : Memref sig .tc .vmem S4x512x128 .bf16} {harg20 : arg20.IsWhole}
  {arg21 : Memref sig .tc .vmem S4x128x128 .f32} {harg21 : arg21.IsWhole}
  {arg22 : Memref sig .tc .vmem S512x512 .f32} {harg22 : arg22.IsWhole}
  {x0 : Vec Ideal S512x6144 .bf16} {x1 : Vec Ideal S512x16 .bf16} {x4 : Vec Ideal S8x1024 .f32} {x5 : Vec Ideal S1x1024 .f32} {x6 : Vec Ideal S16x512 .bf16} {x7 : Vec Ideal S1x512 .f32} {x8 : Vec Ideal S1x1024 .f32}
  (A : Par) (s : ℕ) (I : Inp A s x0 x1 x4 x5 x6 x7 x8) (h8 : s % 8 = 0)
include I h8

/-- The states kept for each chunk. -/
theorem st_at (y) : View.canon (kernelRun0_C.sl.HS11_32 (F := Ideal) c arg1 harg1 arg2 harg2 arg7 harg7 arg8 harg8 arg16 arg20 arg21 arg22 x0 x1 x6 x7) y = A.gst s (y 0) (y 1) (y 2) (y 3) := by
  refine canon_of (S := S4x8x128x256) (e := .bf16) (fun y => A.gst s (y 0) (y 1) (y 2) (y 3)) _ ?_ (View.cover_of_tiledL _ S1x1x128x256.size (by rfl)) y
  dsimp only [kernelRun0_C.sl.HS11_32, kernelRun0_C.sl.r_109, kernelRun0_C.sl.r_113, kernelRun0_C.sl.r_118, kernelRun0_C.sl.r_90, kernelRun0_C.sl.r_94, kernelRun0_C.sl.r_99, k0_pay206, k0_pay217, k0_pay229, k0_pay276, k0_pay287, k0_pay299]
  have hc := st_chain (c := c) (arg1 := arg1) (harg1 := harg1) (arg2 := arg2) (harg2 := harg2) (arg7 := arg7) (harg7 := harg7) (arg8 := arg8) (harg8 := harg8) (arg16 := arg16) (arg20 := arg20) (arg21 := arg21) (arg22 := arg22) (x0 := x0) (x1 := x1) (x6 := x6) (x7 := x7) A s I h8
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals exact pc4 (e := .bf16) (A.gst s) _ _ _ _ (by decide) _ (v := k0_pay303 (F := Ideal) _) rfl
                (fun u w i j => (Mixer.st_at A s hc _ _ (by norm_num) (by norm_num) (by norm_num) (by norm_num) (by rfl) u w i j).symm)

/-- The carried rows, group by group. -/
theorem ca_chain : Chain (CaOK A s) 0 8 (⟨Rect.unit ![0, 896] S8x128.size inb_S8x1024_S8x128_0_896, k0_pay73 (kernelRun0_C.sl.r_35 (F := Ideal) c arg1 harg1 x0)⟩ :: kernelRun0_C.sl.HS4_8 (F := Ideal) c arg1 harg1 x0) := by
  dsimp only [kernelRun0_C.sl.HS4_2, kernelRun0_C.sl.HS4_3, kernelRun0_C.sl.HS4_4, kernelRun0_C.sl.HS4_5, kernelRun0_C.sl.HS4_6, kernelRun0_C.sl.HS4_7, kernelRun0_C.sl.HS4_8, kernelRun0_C.sl.r, kernelRun0_C.sl.r_1, kernelRun0_C.sl.r_15, kernelRun0_C.sl.r_18, kernelRun0_C.sl.r_29, kernelRun0_C.sl.r_35, kernelRun0_C.sl.r_4, k0_pay14, k0_pay32, k0_pay39, k0_pay56, k0_pay67, k0_pay7]
  iterate 8
    refine car_step A s _ (v := k0_pay9 (F := Ideal) (k0_pay7 _) _) ?_ rfl
      (cn_pc A s _ _ _ (by rfl) (by rfl) (rd2 (e := .bf16) arg1 harg1 _ _ I.h0 _ _ _) (rd2 (e := .bf16) arg1 harg1 _ _ I.h0 _ _ _)) (by rfl)
  exact ca_zero A s h8

end
end Cert.Mixer.CaseC
end
-- ==== Proof.RowsC.lean ====
/- A block at the start of a sequence: the mixer's columns. -/
module

public import Idealize.ShloMosaic.Lib.Pipeline.ValueKit
public import proofs.«01_k».proof.Proof.Gen.KernelIdeal.Frame.RunC
public import proofs.«01_k».proof.Proof.KeptC
public import proofs.«01_k».proof.Proof.Chain

@[expose] public section

set_option maxRecDepth 16384
set_option maxHeartbeats 1000000

namespace Cert.Mixer.CaseC

open Idealize.ShloMosaic Idealize.ShloMosaic.TcCoe Idealize.SL.Sem
open Cert.KernelIdeal Cert.KernelIdeal.Gen

section
variable {c : Dev nD}
  {arg1 : Memref sig .tc .vmem S512x6144 .bf16} {harg1 : arg1.IsWhole}
  {arg2 : Memref sig .tc .vmem S512x16 .bf16} {harg2 : arg2.IsWhole}
  {arg5 : Memref sig .tc .vmem S8x1024 .f32} {harg5 : arg5.IsWhole}
  {arg6 : Memref sig .tc .vmem S1x1024 .f32} {harg6 : arg6.IsWhole}
  {arg7 : Memref sig .tc .vmem S16x512 .bf16} {harg7 : arg7.IsWhole}
  {arg8 : Memref sig .tc .vmem S1x512 .f32} {harg8 : arg8.IsWhole}
  {arg9 : Memref sig .tc .vmem S1x1024 .f32} {harg9 : arg9.IsWhole}
  {arg16 : Memref sig .tc .vmem S4x128x256 .f32} {harg16 : arg16.IsWhole}
  {arg17 : Memref sig .tc .vmem S8x1024 .f32} {harg17 : arg17.IsWhole}
  {arg18 : Memref sig .tc .vmem S4x512x128 .bf16} {harg18 : arg18.IsWhole}
  {arg19 : Memref sig .tc .vmem S4x512x128 .bf16} {harg19 : arg19.IsWhole}
  {arg20 : Memref sig .tc .vmem S4x512x128 .bf16} {harg20 : arg20.IsWhole}
  {arg21 : Memref sig .tc .vmem S4x128x128 .f32} {harg21 : arg21.IsWhole}
  {arg22 : Memref sig .tc .vmem S512x512 .f32} {harg22 : arg22.IsWhole}
  {arg23 : Memref sig .tc .vmem S4x512x64 .bf16} {harg23 : arg23.IsWhole}
  {arg24 : Memref sig .tc .vmem S4x8x128x256 .bf16} {harg24 : arg24.IsWhole}
  {x0 : Vec Ideal S512x6144 .bf16} {x1 : Vec Ideal S512x16 .bf16} {x4 : Vec Ideal S8x1024 .f32} {x5 : Vec Ideal S1x1024 .f32} {x6 : Vec Ideal S16x512 .bf16} {x7 : Vec Ideal S1x512 .f32} {x8 : Vec Ideal S1x1024 .f32}
  (A : Par) (s : ℕ) (I : Inp A s x0 x1 x4 x5 x6 x7 x8) (h8 : s % 8 = 0)
include I h8

/-- The stores of the mixer's columns. -/
theorem y_pieces : View.PiecesOf (fun y : S512x2048.Idx => A.gY s (y 0) (y 1)) (⟨Rect.unit (s := S512x2048) ![448, 1792] S64x256.size inb_S512x2048_S64x256_448_1792,
    k0_pay393
      (kernelRun0_C.sl.r_165 (F := Ideal) c arg1 harg1 arg2 harg2 arg7 harg7 arg8 harg8 arg16 arg18 arg19 arg20 arg21 arg22 arg23 arg24 x0 x1 x6 x7)
      (kernelRun0_C.sl.r_166 (F := Ideal) c arg1 harg1 arg2 harg2 arg7 harg7 arg8 harg8 arg16 arg18 arg19 arg20 arg21 arg22 arg23 arg24 x0 x1 x6 x7)
      k0_pay392
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![448, 5888] S64x256.size inb_S512x6144_S64x256_448_5888).toLoadRect
        (harg1.unread x0))⟩ ::
  ⟨Rect.unit (s := S512x2048) ![448, 1536] S64x256.size inb_S512x2048_S64x256_448_1536,
    k0_pay389
      (kernelRun0_C.sl.r_163 (F := Ideal) c arg1 harg1 arg2 harg2 arg7 harg7 arg8 harg8 arg16 arg18 arg19 arg20 arg21 arg22 arg23 arg24 x0 x1 x6 x7)
      (kernelRun0_C.sl.r_164 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![448, 5632] S64x256.size inb_S512x6144_S64x256_448_5632).toLoadRect
        (harg1.unread x0))⟩ ::
  ⟨Rect.unit (s := S512x2048) ![448, 1280] S64x256.size inb_S512x2048_S64x256_448_1280,
    k0_pay386
      (kernelRun0_C.sl.r_162 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![448, 5376] S64x256.size inb_S512x6144_S64x256_448_5376).toLoadRect
        (harg1.unread x0))⟩ ::
  ⟨Rect.unit (s := S512x2048) ![448, 1024] S64x256.size inb_S512x2048_S64x256_448_1024,
    k0_pay384 (kernelRun0_C.sl.r_159 (F := Ideal) c arg1 harg1 arg2 harg2 arg7 harg7 arg8 harg8 arg18 arg19 arg22 arg23 x0 x1 x6 x7)
      (kernelRun0_C.sl.r_160 (F := Ideal) c arg1 harg1 arg2 harg2 arg7 harg7 arg8 harg8 arg18 arg22 x0 x1 x6 x7)
      (kernelRun0_C.sl.r_161 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![448, 5120] S64x256.size inb_S512x6144_S64x256_448_5120).toLoadRect
        (harg1.unread x0))⟩ ::
  ⟨Rect.unit (s := S512x2048) ![384, 1792] S64x256.size inb_S512x2048_S64x256_384_1792,
    k0_pay380 (kernelRun0_C.sl.r_157 (F := Ideal) c arg1 harg1 arg2 harg2 arg7 harg7 arg8 harg8 arg18 arg19 arg22 arg23 x0 x1 x6 x7)
      (kernelRun0_C.sl.r_158 (F := Ideal) c arg1 harg1 arg2 harg2 arg7 harg7 arg8 harg8 arg18 arg22 x0 x1 x6 x7)
      (kernelRun0_C.sl.v3064 (F := Ideal) c arg1 harg1 arg2 harg2 arg7 harg7 arg8 harg8 arg16 arg20 arg21 arg22 arg24 x0 x1 x6 x7)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![384, 5888] S64x256.size inb_S512x6144_S64x256_384_5888).toLoadRect
        (harg1.unread x0))⟩ ::
  ⟨Rect.unit (s := S512x2048) ![384, 1536] S64x256.size inb_S512x2048_S64x256_384_1536,
    k0_pay377 (kernelRun0_C.sl.r_155 (F := Ideal) c arg1 harg1 arg2 harg2 arg7 harg7 arg8 harg8 arg18 arg19 arg22 arg23 x0 x1 x6 x7)
      (kernelRun0_C.sl.r_156 (F := Ideal) c arg1 harg1 arg2 harg2 arg7 harg7 arg8 harg8 arg18 arg22 x0 x1 x6 x7)
      (kernelRun0_C.sl.v3031 (F := Ideal) c arg1 harg1 arg2 harg2 arg7 harg7 arg8 harg8 arg16 arg20 arg21 arg22 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![384, 5632] S64x256.size inb_S512x6144_S64x256_384_5632).toLoadRect
        (harg1.unread x0))⟩ ::
  ⟨Rect.unit (s := S512x2048) ![384, 1280] S64x256.size inb_S512x2048_S64x256_384_1280,
    k0_pay374 (kernelRun0_C.sl.r_154 (F := Ideal) c arg1 harg1 arg2 harg2 arg7 harg7 arg8 harg8 arg18 arg19 arg22 arg23 x0 x1 x6 x7)
      (kernelRun0_C.sl.v1496 (F := Ideal) c arg1 harg1 arg2 harg2 arg7 harg7 arg8 harg8 arg18 arg22 x0 x1 x6 x7)
      (kernelRun0_C.sl.v2998 (F := Ideal) c arg1 harg1 arg2 harg2 arg7 harg7 arg8 harg8 arg16 arg20 arg21 arg22 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![384, 5376] S64x256.size inb_S512x6144_S64x256_384_5376).toLoadRect
        (harg1.unread x0))⟩ ::
  ⟨Rect.unit (s := S512x2048) ![384, 1024] S64x256.size inb_S512x2048_S64x256_384_1024,
    k0_pay372 (kernelRun0_C.sl.r_152 (F := Ideal) c arg1 harg1 arg2 harg2 arg7 harg7 arg8 harg8 arg18 arg19 arg22 arg23 x0 x1 x6 x7)
      (kernelRun0_C.sl.r_153 (F := Ideal) c arg1 harg1 x0) kernelRun0_C.sl.cst_1453 (F := Ideal) (kernelRun0_C.sl.v1482 (F := Ideal) c arg1 harg1 arg2 harg2 arg7 harg7 arg8 harg8 arg18 arg22 x0 x1 x6 x7)
      (kernelRun0_C.sl.v2965 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![384, 5120] S64x256.size inb_S512x6144_S64x256_384_5120).toLoadRect
        (harg1.unread x0))⟩ ::
  ⟨Rect.unit (s := S512x2048) ![320, 1792] S64x256.size inb_S512x2048_S64x256_320_1792,
    k0_pay370 (kernelRun0_C.sl.r_151 (F := Ideal) c arg1 harg1 arg2 harg2 arg7 harg7 arg8 harg8 arg18 arg19 arg22 arg23 x0 x1 x6 x7)
      (View.readAt (Elt Ideal) arg1.view (Rect.unit (s := S512x6144) ![320, 4864] S64x256.size inb_S512x6144_S64x256_320_4864).toLoadRect
        (harg1.unread x0))
      (kernelRun0_C.sl.v1468 (F := Ideal) c arg1 harg1 arg2 harg2 arg7 harg7 arg8 harg8 arg18 arg22 x0 x1 x6 x7)
      (kernelRun0_C.sl.v2932 (F := Ideal) c arg1 harg1 arg2 harg2 arg7 harg7 arg8 harg8 arg16 arg20 arg21 arg22 arg24 x0 x1 x6 x7)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![320, 5888] S64x256.size inb_S512x6144_S64x256_320_5888).toLoadRect
        (harg1.unread x0))⟩ ::
  ⟨Rect.unit (s := S512x2048) ![320, 1536] S64x256.size inb_S512x2048_S64x256_320_1536,
    k0_pay368 (kernelRun0_C.sl.v2893 (F := Ideal) c arg1 harg1 arg2 harg2 arg7 harg7 arg8 harg8 arg18 arg19 arg22 arg23 x0 x1 x6 x7)
      (View.readAt (Elt Ideal) arg1.view (Rect.unit (s := S512x6144) ![320, 4608] S64x256.size inb_S512x6144_S64x256_320_4608).toLoadRect
        (harg1.unread x0))
      (kernelRun0_C.sl.v1454 (F := Ideal) c arg1 harg1 arg2 harg2 arg7 harg7 arg8 harg8 arg18 arg22 x0 x1 x6 x7)
      (kernelRun0_C.sl.v2899 (F := Ideal) c arg1 harg1 arg2 harg2 arg7 harg7 arg8 harg8 arg16 arg20 arg21 arg22 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![320, 5632] S64x256.size inb_S512x6144_S64x256_320_5632).toLoadRect
        (harg1.unread x0))⟩ ::
  ⟨Rect.unit (s := S512x2048) ![320, 1280] S64x256.size inb_S512x2048_S64x256_320_1280,
    k0_pay367 (kernelRun0_C.sl.v2860 (F := Ideal) c arg1 harg1 arg2 harg2 arg7 harg7 arg8 harg8 arg18 arg19 arg22 arg23 x0 x1 x6 x7)
      (View.readAt (Elt Ideal) arg1.view (Rect.unit (s := S512x6144) ![320, 4352] S64x256.size inb_S512x6144_S64x256_320_4352).toLoadRect
        (harg1.unread x0))
      (kernelRun0_C.sl.v1440 (F := Ideal) c arg1 harg1 arg2 harg2 arg7 harg7 arg8 harg8 arg18 arg22 x0 x1 x6 x7)
      (kernelRun0_C.sl.v2866 (F := Ideal) c arg1 harg1 arg2 harg2 arg7 harg7 arg8 harg8 arg16 arg20 arg21 arg22 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![320, 5376] S64x256.size inb_S512x6144_S64x256_320_5376).toLoadRect
        (harg1.unread x0))⟩ ::
  ⟨Rect.unit (s := S512x2048) ![320, 1024] S64x256.size inb_S512x2048_S64x256_320_1024,
    k0_pay366 (kernelRun0_C.sl.v2827 (F := Ideal) c arg1 harg1 arg2 harg2 arg7 harg7 arg8 harg8 arg18 arg19 arg22 arg23 x0 x1 x6 x7)
      (View.readAt (Elt Ideal) arg1.view (Rect.unit (s := S512x6144) ![320, 4096] S64x256.size inb_S512x6144_S64x256_320_4096).toLoadRect
        (harg1.unread x0))
      (kernelRun0_C.sl.v1426 (F := Ideal) c arg1 harg1 arg2 harg2 arg7 harg7 arg8 harg8 arg18 arg22 x0 x1 x6 x7)
      (kernelRun0_C.sl.v2833 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![320, 5120] S64x256.size inb_S512x6144_S64x256_320_5120).toLoadRect
        (harg1.unread x0))⟩ ::
  ⟨Rect.unit (s := S512x2048) ![256, 1792] S64x256.size inb_S512x2048_S64x256_256_1792,
    k0_pay365
      (kernelRun0_C.sl.r_150 (F := Ideal) c arg1 harg1 arg2 harg2 arg7 harg7 arg8 harg8 arg9 harg9 arg16 arg18 arg19 arg20 arg21 arg22 arg23 arg24 x0
        x1 x6 x7 x8)⟩ ::
  ⟨Rect.unit (s := S512x2048) ![256, 1536] S64x256.size inb_S512x2048_S64x256_256_1536,
    k0_pay363
      (kernelRun0_C.sl.r_149 (F := Ideal) c arg1 harg1 arg2 harg2 arg7 harg7 arg8 harg8 arg9 harg9 arg16 arg18 arg19 arg20 arg21 arg22 arg23 arg24 x0
        x1 x6 x7 x8)⟩ ::
  ⟨Rect.unit (s := S512x2048) ![256, 1280] S64x256.size inb_S512x2048_S64x256_256_1280,
    k0_pay361
      (kernelRun0_C.sl.r_146 (F := Ideal) c arg1 harg1 arg2 harg2 arg7 harg7 arg8 harg8 arg9 harg9 arg16 arg18 arg19 arg20 arg21 arg22 arg23 arg24 x0
        x1 x6 x7 x8)
      (kernelRun0_C.sl.r_147 (F := Ideal) c arg1 harg1 x0) (kernelRun0_C.sl.r_148 (F := Ideal) c arg1 harg1 x0)⟩ ::
  ⟨Rect.unit (s := S512x2048) ![256, 1024] S64x256.size inb_S512x2048_S64x256_256_1024,
    k0_pay357
      (kernelRun0_C.sl.r_145 (F := Ideal) c arg1 harg1 arg2 harg2 arg7 harg7 arg8 harg8 arg9 harg9 arg16 arg18 arg19 arg20 arg21 arg22 arg23 arg24 x0
        x1 x6 x7 x8)
      (View.readAt (Elt Ideal) arg1.view (Rect.unit (s := S512x6144) ![256, 5120] S64x256.size inb_S512x6144_S64x256_256_5120).toLoadRect
        (harg1.unread x0))⟩ ::
  ⟨Rect.unit (s := S512x2048) ![192, 1792] S64x256.size inb_S512x2048_S64x256_192_1792,
    k0_pay355
      (kernelRun0_C.sl.r_143 (F := Ideal) c arg1 harg1 arg2 harg2 arg7 harg7 arg8 harg8 arg16 arg18 arg19 arg20 arg21 arg22 arg23 arg24 x0 x1 x6 x7)
      (kernelRun0_C.sl.r_144 (F := Ideal) c arg9 harg9 x8)
      (View.readAt (Elt Ideal) arg1.view (Rect.unit (s := S512x6144) ![192, 5888] S64x256.size inb_S512x6144_S64x256_192_5888).toLoadRect
        (harg1.unread x0))⟩ ::
  ⟨Rect.unit (s := S512x2048) ![192, 1536] S64x256.size inb_S512x2048_S64x256_192_1536,
    k0_pay352
      (kernelRun0_C.sl.r_142 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![192, 5632] S64x256.size inb_S512x6144_S64x256_192_5632).toLoadRect
        (harg1.unread x0))⟩ ::
  ⟨Rect.unit (s := S512x2048) ![192, 1280] S64x256.size inb_S512x2048_S64x256_192_1280,
    k0_pay350
      (kernelRun0_C.sl.r_140 (F := Ideal) c arg1 harg1 arg2 harg2 arg7 harg7 arg8 harg8 arg16 arg18 arg19 arg20 arg21 arg22 arg23 arg24 x0 x1 x6 x7)
      (kernelRun0_C.sl.r_141 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![192, 5376] S64x256.size inb_S512x6144_S64x256_192_5376).toLoadRect
        (harg1.unread x0))⟩ ::
  ⟨Rect.unit (s := S512x2048) ![192, 1024] S64x256.size inb_S512x2048_S64x256_192_1024,
    k0_pay347
      (kernelRun0_C.sl.r_138 (F := Ideal) c arg1 harg1 arg2 harg2 arg7 harg7 arg8 harg8 arg16 arg18 arg19 arg20 arg21 arg22 arg23 arg24 x0 x1 x6 x7)
      (kernelRun0_C.sl.r_139 (F := Ideal) c arg1 harg1 arg2 harg2 arg7 harg7 arg8 harg8 arg16 arg18 arg19 arg20 arg21 arg22 arg23 arg24 x0 x1 x6 x7)
      k0_pay346
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![192, 5120] S64x256.size inb_S512x6144_S64x256_192_5120).toLoadRect
        (harg1.unread x0))⟩ ::
  ⟨Rect.unit (s := S512x2048) ![128, 1792] S64x256.size inb_S512x2048_S64x256_128_1792,
    k0_pay343
      (kernelRun0_C.sl.r_136 (F := Ideal) c arg1 harg1 arg2 harg2 arg7 harg7 arg8 harg8 arg16 arg18 arg19 arg20 arg21 arg22 arg23 arg24 x0 x1 x6 x7)
      (kernelRun0_C.sl.r_137 (F := Ideal) c arg1 harg1 arg2 harg2 arg7 harg7 arg8 harg8 arg16 arg18 arg19 arg20 arg21 arg22 arg23 arg24 x0 x1 x6 x7)
      k0_pay342
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![128, 5888] S64x256.size inb_S512x6144_S64x256_128_5888).toLoadRect
        (harg1.unread x0))⟩ ::
  ⟨Rect.unit (s := S512x2048) ![128, 1536] S64x256.size inb_S512x2048_S64x256_128_1536,
    k0_pay339
      (kernelRun0_C.sl.r_134 (F := Ideal) c arg1 harg1 arg2 harg2 arg7 harg7 arg8 harg8 arg16 arg18 arg19 arg20 arg21 arg22 arg23 arg24 x0 x1 x6 x7)
      (kernelRun0_C.sl.r_135 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![128, 5632] S64x256.size inb_S512x6144_S64x256_128_5632).toLoadRect
        (harg1.unread x0))⟩ ::
  ⟨Rect.unit (s := S512x2048) ![128, 1280] S64x256.size inb_S512x2048_S64x256_128_1280,
    k0_pay336
      (kernelRun0_C.sl.r_133 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![128, 5376] S64x256.size inb_S512x6144_S64x256_128_5376).toLoadRect
        (harg1.unread x0))⟩ ::
  ⟨Rect.unit (s := S512x2048) ![128, 1024] S64x256.size inb_S512x2048_S64x256_128_1024,
    k0_pay334 (kernelRun0_C.sl.r_130 (F := Ideal) c arg1 harg1 arg2 harg2 arg7 harg7 arg8 harg8 arg18 arg19 arg22 arg23 x0 x1 x6 x7)
      (kernelRun0_C.sl.r_131 (F := Ideal) c arg1 harg1 arg2 harg2 arg7 harg7 arg8 harg8 arg18 arg22 x0 x1 x6 x7)
      (kernelRun0_C.sl.r_132 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![128, 5120] S64x256.size inb_S512x6144_S64x256_128_5120).toLoadRect
        (harg1.unread x0))⟩ ::
  ⟨Rect.unit (s := S512x2048) ![64, 1792] S64x256.size inb_S512x2048_S64x256_64_1792,
    k0_pay330 (kernelRun0_C.sl.r_128 (F := Ideal) c arg1 harg1 arg2 harg2 arg7 harg7 arg8 harg8 arg18 arg19 arg22 arg23 x0 x1 x6 x7)
      (kernelRun0_C.sl.r_129 (F := Ideal) c arg1 harg1 arg2 harg2 arg7 harg7 arg8 harg8 arg18 arg22 x0 x1 x6 x7)
      (kernelRun0_C.sl.v2404 (F := Ideal) c arg1 harg1 arg2 harg2 arg7 harg7 arg8 harg8 arg16 arg20 arg21 arg22 arg24 x0 x1 x6 x7)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![64, 5888] S64x256.size inb_S512x6144_S64x256_64_5888).toLoadRect
        (harg1.unread x0))⟩ ::
  ⟨Rect.unit (s := S512x2048) ![64, 1536] S64x256.size inb_S512x2048_S64x256_64_1536,
    k0_pay327 (kernelRun0_C.sl.r_126 (F := Ideal) c arg1 harg1 arg2 harg2 arg7 harg7 arg8 harg8 arg18 arg19 arg22 arg23 x0 x1 x6 x7)
      (kernelRun0_C.sl.r_127 (F := Ideal) c arg1 harg1 arg2 harg2 arg7 harg7 arg8 harg8 arg18 arg22 x0 x1 x6 x7)
      (kernelRun0_C.sl.v2371 (F := Ideal) c arg1 harg1 arg2 harg2 arg7 harg7 arg8 harg8 arg16 arg20 arg21 arg22 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![64, 5632] S64x256.size inb_S512x6144_S64x256_64_5632).toLoadRect
        (harg1.unread x0))⟩ ::
  ⟨Rect.unit (s := S512x2048) ![64, 1280] S64x256.size inb_S512x2048_S64x256_64_1280,
    k0_pay324 (kernelRun0_C.sl.r_125 (F := Ideal) c arg1 harg1 arg2 harg2 arg7 harg7 arg8 harg8 arg18 arg19 arg22 arg23 x0 x1 x6 x7)
      (kernelRun0_C.sl.v1216 (F := Ideal) c arg1 harg1 arg2 harg2 arg7 harg7 arg8 harg8 arg18 arg22 x0 x1 x6 x7)
      (kernelRun0_C.sl.v2338 (F := Ideal) c arg1 harg1 arg2 harg2 arg7 harg7 arg8 harg8 arg16 arg20 arg21 arg22 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![64, 5376] S64x256.size inb_S512x6144_S64x256_64_5376).toLoadRect
        (harg1.unread x0))⟩ ::
  ⟨Rect.unit (s := S512x2048) ![64, 1024] S64x256.size inb_S512x2048_S64x256_64_1024,
    k0_pay322 (kernelRun0_C.sl.r_123 (F := Ideal) c arg1 harg1 arg2 harg2 arg7 harg7 arg8 harg8 arg18 arg19 arg22 arg23 x0 x1 x6 x7)
      (kernelRun0_C.sl.r_124 (F := Ideal) c arg1 harg1 x0) kernelRun0_C.sl.cst_1453 (F := Ideal) (kernelRun0_C.sl.v1202 (F := Ideal) c arg1 harg1 arg2 harg2 arg7 harg7 arg8 harg8 arg18 arg22 x0 x1 x6 x7)
      (kernelRun0_C.sl.v2305 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![64, 5120] S64x256.size inb_S512x6144_S64x256_64_5120).toLoadRect
        (harg1.unread x0))⟩ ::
  ⟨Rect.unit (s := S512x2048) ![0, 1792] S64x256.size inb_S512x2048_S64x256_0_1792,
    k0_pay320 (kernelRun0_C.sl.r_122 (F := Ideal) c arg1 harg1 arg2 harg2 arg7 harg7 arg8 harg8 arg18 arg19 arg22 arg23 x0 x1 x6 x7)
      (View.readAt (Elt Ideal) arg1.view (Rect.unit (s := S512x6144) ![0, 4864] S64x256.size inb_S512x6144_S64x256_0_4864).toLoadRect
        (harg1.unread x0))
      (kernelRun0_C.sl.v1188 (F := Ideal) c arg1 harg1 arg2 harg2 arg7 harg7 arg8 harg8 arg18 arg22 x0 x1 x6 x7)
      (kernelRun0_C.sl.v2272 (F := Ideal) c arg1 harg1 arg2 harg2 arg7 harg7 arg8 harg8 arg16 arg20 arg21 arg22 arg24 x0 x1 x6 x7)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![0, 5888] S64x256.size inb_S512x6144_S64x256_0_5888).toLoadRect
        (harg1.unread x0))⟩ ::
  ⟨Rect.unit (s := S512x2048) ![0, 1536] S64x256.size inb_S512x2048_S64x256_0_1536,
    k0_pay318 (kernelRun0_C.sl.v2233 (F := Ideal) c arg1 harg1 arg2 harg2 arg7 harg7 arg8 harg8 arg18 arg19 arg22 arg23 x0 x1 x6 x7)
      (View.readAt (Elt Ideal) arg1.view (Rect.unit (s := S512x6144) ![0, 4608] S64x256.size inb_S512x6144_S64x256_0_4608).toLoadRect
        (harg1.unread x0))
      (kernelRun0_C.sl.v1174 (F := Ideal) c arg1 harg1 arg2 harg2 arg7 harg7 arg8 harg8 arg18 arg22 x0 x1 x6 x7)
      (kernelRun0_C.sl.v2239 (F := Ideal) c arg1 harg1 arg2 harg2 arg7 harg7 arg8 harg8 arg16 arg20 arg21 arg22 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![0, 5632] S64x256.size inb_S512x6144_S64x256_0_5632).toLoadRect
        (harg1.unread x0))⟩ ::
  ⟨Rect.unit (s := S512x2048) ![0, 1280] S64x256.size inb_S512x2048_S64x256_0_1280,
    k0_pay317 (kernelRun0_C.sl.v2200 (F := Ideal) c arg1 harg1 arg2 harg2 arg7 harg7 arg8 harg8 arg18 arg19 arg22 arg23 x0 x1 x6 x7)
      (View.readAt (Elt Ideal) arg1.view (Rect.unit (s := S512x6144) ![0, 4352] S64x256.size inb_S512x6144_S64x256_0_4352).toLoadRect
        (harg1.unread x0))
      (kernelRun0_C.sl.v1160 (F := Ideal) c arg1 harg1 arg2 harg2 arg7 harg7 arg8 harg8 arg18 arg22 x0 x1 x6 x7)
      (kernelRun0_C.sl.v2206 (F := Ideal) c arg1 harg1 arg2 harg2 arg7 harg7 arg8 harg8 arg16 arg20 arg21 arg22 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![0, 5376] S64x256.size inb_S512x6144_S64x256_0_5376).toLoadRect
        (harg1.unread x0))⟩ ::
  ⟨Rect.unit (s := S512x2048) ![0, 1024] S64x256.size inb_S512x2048_S64x256_0_1024,
    k0_pay316 (kernelRun0_C.sl.v2167 (F := Ideal) c arg1 harg1 arg2 harg2 arg7 harg7 arg8 harg8 arg18 arg19 arg22 arg23 x0 x1 x6 x7)
      (View.readAt (Elt Ideal) arg1.view (Rect.unit (s := S512x6144) ![0, 4096] S64x256.size inb_S512x6144_S64x256_0_4096).toLoadRect
        (harg1.unread x0))
      (kernelRun0_C.sl.v1146 (F := Ideal) c arg1 harg1 arg2 harg2 arg7 harg7 arg8 harg8 arg18 arg22 x0 x1 x6 x7)
      (kernelRun0_C.sl.v2173 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![0, 5120] S64x256.size inb_S512x6144_S64x256_0_5120).toLoadRect
        (harg1.unread x0))⟩ ::
  ⟨Rect.unit (s := S512x2048) ![0, 896] S512x128.size inb_S512x2048_S512x128_0_896,
    k0_pay74 (kernelRun0_C.sl.r_35 (F := Ideal) c arg1 harg1 x0) (kernelRun0_C.sl.r_36 (F := Ideal) c arg1 harg1 arg17 x0) kernelRun0_C.sl.v105 (F := Ideal) (kernelRun0_C.sl.r_37 (F := Ideal) c arg1 harg1 x0)
      (kernelRun0_C.sl.r_38 (F := Ideal) c arg1 harg1 arg17 x0)
      (View.readAt (Elt Ideal) arg5.view (Rect.unit (s := S8x1024) ![0, 896] S8x128.size inb_S8x1024_S8x128_0_896).toLoadRect
        (harg5.unread x4))
      (View.readAt (Elt Ideal) arg1.view (Rect.unit (s := S512x6144) ![0, 896] S512x128.size inb_S512x6144_S512x128_0_896).toLoadRect
        (harg1.unread x0))
      (View.readAt (Elt Ideal) arg6.view (Rect.unit (s := S1x1024) ![0, 896] S1x128.size inb_S1x1024_S1x128_0_896).toLoadRect
        (harg6.unread x5))⟩ ::
  ⟨Rect.unit (s := S512x2048) ![0, 768] S512x128.size inb_S512x2048_S512x128_0_768,
    k0_pay60 (kernelRun0_C.sl.r_30 (F := Ideal) c arg1 harg1 arg5 harg5 arg17 x0 x4)
      (View.readAt (Elt Ideal) arg6.view (Rect.unit (s := S1x1024) ![0, 768] S1x128.size inb_S1x1024_S1x128_0_768).toLoadRect
        (harg6.unread x5))⟩ ::
  ⟨Rect.unit (s := S512x2048) ![0, 640] S512x128.size inb_S512x2048_S512x128_0_640,
    k0_pay54 (kernelRun0_C.sl.r_25 (F := Ideal) c arg1 harg1 x0) (kernelRun0_C.sl.r_26 (F := Ideal) c arg1 harg1 arg17 x0) (kernelRun0_C.sl.r_27 (F := Ideal) c arg1 harg1 arg17 x0) (kernelRun0_C.sl.r_28 (F := Ideal) c arg5 harg5 x4)
      (View.readAt (Elt Ideal) arg1.view (Rect.unit (s := S512x6144) ![0, 640] S512x128.size inb_S512x6144_S512x128_0_640).toLoadRect
        (harg1.unread x0))
      (View.readAt (Elt Ideal) arg6.view (Rect.unit (s := S1x1024) ![0, 640] S1x128.size inb_S1x1024_S1x128_0_640).toLoadRect
        (harg6.unread x5))⟩ ::
  ⟨Rect.unit (s := S512x2048) ![0, 512] S512x128.size inb_S512x2048_S512x128_0_512,
    k0_pay46 (kernelRun0_C.sl.r_23 (F := Ideal) c arg1 harg1 arg5 harg5 arg17 x0 x4) (kernelRun0_C.sl.r_24 (F := Ideal) c arg6 harg6 x5)⟩ ::
  ⟨Rect.unit (s := S512x2048) ![0, 384] S512x128.size inb_S512x2048_S512x128_0_384,
    k0_pay37 (kernelRun0_C.sl.r_16 (F := Ideal) c arg1 harg1 arg5 harg5 arg17 x0 x4) (kernelRun0_C.sl.r_17 (F := Ideal) c arg1 harg1 arg5 harg5 arg17 x0 x4)
      (View.readAt (Elt Ideal) arg6.view (Rect.unit (s := S1x1024) ![0, 384] S1x128.size inb_S1x1024_S1x128_0_384).toLoadRect
        (harg6.unread x5))⟩ ::
  ⟨Rect.unit (s := S512x2048) ![0, 256] S512x128.size inb_S512x2048_S512x128_0_256,
    k0_pay30 (kernelRun0_C.sl.r_11 (F := Ideal) c arg1 harg1 x0) (kernelRun0_C.sl.r_12 (F := Ideal) c arg1 harg1 arg17 x0) (kernelRun0_C.sl.r_13 (F := Ideal) c arg1 harg1 arg17 x0) (kernelRun0_C.sl.r_14 (F := Ideal) c arg5 harg5 x4)
      (View.readAt (Elt Ideal) arg1.view (Rect.unit (s := S512x6144) ![0, 256] S512x128.size inb_S512x6144_S512x128_0_256).toLoadRect
        (harg1.unread x0))
      (View.readAt (Elt Ideal) arg6.view (Rect.unit (s := S1x1024) ![0, 256] S1x128.size inb_S1x1024_S1x128_0_256).toLoadRect
        (harg6.unread x5))⟩ ::
  ⟨Rect.unit (s := S512x2048) ![0, 128] S512x128.size inb_S512x2048_S512x128_0_128,
    k0_pay22 (kernelRun0_C.sl.r_9 (F := Ideal) c arg1 harg1 arg5 harg5 arg17 x0 x4) (kernelRun0_C.sl.r_10 (F := Ideal) c arg6 harg6 x5)⟩ ::
  ⟨Rect.unit (s := S512x2048) ![0, 0] S512x128.size inb_S512x2048_S512x128_0_0,
    k0_pay12 (kernelRun0_C.sl.r_2 (F := Ideal) c arg1 harg1 arg5 harg5 arg17 x0 x4) (kernelRun0_C.sl.r_3 (F := Ideal) c arg1 harg1 arg5 harg5 arg17 x0 x4)
      (View.readAt (Elt Ideal) arg6.view (Rect.unit (s := S1x1024) ![0, 0] S1x128.size inb_S1x1024_S1x128_0_0).toLoadRect
        (harg6.unread x5))⟩ :: [] : List (View.Piece (Elt Ideal) S512x2048 .bf16)) := by
  dsimp only [kernelRun0_C.sl.r, kernelRun0_C.sl.r_1, kernelRun0_C.sl.r_10, kernelRun0_C.sl.r_11, kernelRun0_C.sl.r_12, kernelRun0_C.sl.r_122, kernelRun0_C.sl.r_123, kernelRun0_C.sl.r_124, kernelRun0_C.sl.r_125, kernelRun0_C.sl.r_126, kernelRun0_C.sl.r_127, kernelRun0_C.sl.r_128, kernelRun0_C.sl.r_129, kernelRun0_C.sl.r_13, kernelRun0_C.sl.r_130, kernelRun0_C.sl.r_131, kernelRun0_C.sl.r_132, kernelRun0_C.sl.r_133, kernelRun0_C.sl.r_134, kernelRun0_C.sl.r_135, kernelRun0_C.sl.r_136, kernelRun0_C.sl.r_137, kernelRun0_C.sl.r_138, kernelRun0_C.sl.r_139, kernelRun0_C.sl.r_14, kernelRun0_C.sl.r_140, kernelRun0_C.sl.r_141, kernelRun0_C.sl.r_142, kernelRun0_C.sl.r_143, kernelRun0_C.sl.r_144, kernelRun0_C.sl.r_145, kernelRun0_C.sl.r_146, kernelRun0_C.sl.r_147, kernelRun0_C.sl.r_148, kernelRun0_C.sl.r_149, kernelRun0_C.sl.r_15, kernelRun0_C.sl.r_150, kernelRun0_C.sl.r_151, kernelRun0_C.sl.r_152, kernelRun0_C.sl.r_153, kernelRun0_C.sl.r_154, kernelRun0_C.sl.r_155, kernelRun0_C.sl.r_156, kernelRun0_C.sl.r_157, kernelRun0_C.sl.r_158, kernelRun0_C.sl.r_159, kernelRun0_C.sl.r_16, kernelRun0_C.sl.r_160, kernelRun0_C.sl.r_161, kernelRun0_C.sl.r_162, kernelRun0_C.sl.r_163, kernelRun0_C.sl.r_164, kernelRun0_C.sl.r_165, kernelRun0_C.sl.r_166, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_3, kernelRun0_C.sl.r_30, kernelRun0_C.sl.r_35, kernelRun0_C.sl.r_36, kernelRun0_C.sl.r_37, kernelRun0_C.sl.r_38, kernelRun0_C.sl.r_4, kernelRun0_C.sl.r_5, kernelRun0_C.sl.r_6, kernelRun0_C.sl.r_7, kernelRun0_C.sl.r_8, kernelRun0_C.sl.r_9, k0_pay10, k0_pay11, k0_pay14, k0_pay15, k0_pay16, k0_pay17, k0_pay18, k0_pay20, k0_pay21, k0_pay23, k0_pay26, k0_pay27, k0_pay29, k0_pay319, k0_pay32, k0_pay321, k0_pay323, k0_pay325, k0_pay326, k0_pay328, k0_pay329, k0_pay331, k0_pay332, k0_pay333, k0_pay335, k0_pay337, k0_pay338, k0_pay340, k0_pay341, k0_pay342, k0_pay344, k0_pay345, k0_pay346, k0_pay348, k0_pay349, k0_pay35, k0_pay351, k0_pay353, k0_pay354, k0_pay356, k0_pay358, k0_pay359, k0_pay36, k0_pay360, k0_pay362, k0_pay364, k0_pay369, k0_pay371, k0_pay373, k0_pay375, k0_pay376, k0_pay378, k0_pay379, k0_pay381, k0_pay382, k0_pay383, k0_pay385, k0_pay387, k0_pay388, k0_pay39, k0_pay390, k0_pay391, k0_pay392, k0_pay40, k0_pay41, k0_pay42, k0_pay43, k0_pay45, k0_pay47, k0_pay50, k0_pay51, k0_pay53, k0_pay56, k0_pay59, k0_pay67, k0_pay7, k0_pay70, k0_pay71, k0_pay72]
  have hc := ca_chain (c := c) (arg1 := arg1) (harg1 := harg1) (x0 := x0) A s I h8
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  iterate 32
    exact pc2 (e := .bf16) (A.gY s) _ _ (by decide) _ (v := k0_pay316 (F := Ideal) _ _ _ _ _ _) rfl
      (o_pc A s _ _ _ (by rfl) (by norm_num) (by rfl) (by rfl) (by rfl) (by rfl)
        (rc3 (e := .bf16) arg23 _ _ (sc_at A s I) _ _ _ _) (rd2 (e := .bf16) arg1 harg1 _ _ I.h0 _ _ _)
        (rc3 (e := .bf16) arg18 _ _ (qd_at A s I) _ _ _ _) (rc4 (e := .bf16) arg24 _ _ (st_at A s I h8) _ _ _ _ _)
        (rd2 (e := .f32) arg9 harg9 _ _ I.h8 _ _ _) (rd2 (e := .bf16) arg1 harg1 _ _ I.h0 _ _ _))
  iterate 8
    exact pc2 (e := .bf16) (A.gY s) _ _ (by decide) _
      (v := k0_pay12 (F := Ideal) (k0_pay10 (k0_pay7 _) _ _ _ _) (k0_pay11 (k0_pay7 _) _ _ _ _) _) rfl
      (c_pc' A s _ _ _ (by rfl) (by rfl) (rd2 (e := .bf16) arg1 harg1 _ _ I.h0 _ _ _) (rd2 (e := .bf16) arg1 harg1 _ _ I.h0 _ _ _)
        (rd2 (e := .bf16) arg1 harg1 _ _ I.h0 _ _ _)
        (fun i j => (Mixer.car_at A s hc _ (by norm_num) (by norm_num) (by rfl) i j).symm)
        (rd2 (e := .f32) arg5 harg5 _ _ I.h4 _ _ _) (by norm_num) (by norm_num) (rd2 (e := .f32) arg6 harg6 _ _ I.h5 _ _ _))

/-- The mixer's columns of the block. -/
theorem y_at (y : S512x2048.Idx) : View.canon (⟨Rect.unit (s := S512x2048) ![448, 1792] S64x256.size inb_S512x2048_S64x256_448_1792,
    k0_pay393
      (kernelRun0_C.sl.r_165 (F := Ideal) c arg1 harg1 arg2 harg2 arg7 harg7 arg8 harg8 arg16 arg18 arg19 arg20 arg21 arg22 arg23 arg24 x0 x1 x6 x7)
      (kernelRun0_C.sl.r_166 (F := Ideal) c arg1 harg1 arg2 harg2 arg7 harg7 arg8 harg8 arg16 arg18 arg19 arg20 arg21 arg22 arg23 arg24 x0 x1 x6 x7)
      k0_pay392
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![448, 5888] S64x256.size inb_S512x6144_S64x256_448_5888).toLoadRect
        (harg1.unread x0))⟩ ::
  ⟨Rect.unit (s := S512x2048) ![448, 1536] S64x256.size inb_S512x2048_S64x256_448_1536,
    k0_pay389
      (kernelRun0_C.sl.r_163 (F := Ideal) c arg1 harg1 arg2 harg2 arg7 harg7 arg8 harg8 arg16 arg18 arg19 arg20 arg21 arg22 arg23 arg24 x0 x1 x6 x7)
      (kernelRun0_C.sl.r_164 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![448, 5632] S64x256.size inb_S512x6144_S64x256_448_5632).toLoadRect
        (harg1.unread x0))⟩ ::
  ⟨Rect.unit (s := S512x2048) ![448, 1280] S64x256.size inb_S512x2048_S64x256_448_1280,
    k0_pay386
      (kernelRun0_C.sl.r_162 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![448, 5376] S64x256.size inb_S512x6144_S64x256_448_5376).toLoadRect
        (harg1.unread x0))⟩ ::
  ⟨Rect.unit (s := S512x2048) ![448, 1024] S64x256.size inb_S512x2048_S64x256_448_1024,
    k0_pay384 (kernelRun0_C.sl.r_159 (F := Ideal) c arg1 harg1 arg2 harg2 arg7 harg7 arg8 harg8 arg18 arg19 arg22 arg23 x0 x1 x6 x7)
      (kernelRun0_C.sl.r_160 (F := Ideal) c arg1 harg1 arg2 harg2 arg7 harg7 arg8 harg8 arg18 arg22 x0 x1 x6 x7)
      (kernelRun0_C.sl.r_161 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![448, 5120] S64x256.size inb_S512x6144_S64x256_448_5120).toLoadRect
        (harg1.unread x0))⟩ ::
  ⟨Rect.unit (s := S512x2048) ![384, 1792] S64x256.size inb_S512x2048_S64x256_384_1792,
    k0_pay380 (kernelRun0_C.sl.r_157 (F := Ideal) c arg1 harg1 arg2 harg2 arg7 harg7 arg8 harg8 arg18 arg19 arg22 arg23 x0 x1 x6 x7)
      (kernelRun0_C.sl.r_158 (F := Ideal) c arg1 harg1 arg2 harg2 arg7 harg7 arg8 harg8 arg18 arg22 x0 x1 x6 x7)
      (kernelRun0_C.sl.v3064 (F := Ideal) c arg1 harg1 arg2 harg2 arg7 harg7 arg8 harg8 arg16 arg20 arg21 arg22 arg24 x0 x1 x6 x7)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![384, 5888] S64x256.size inb_S512x6144_S64x256_384_5888).toLoadRect
        (harg1.unread x0))⟩ ::
  ⟨Rect.unit (s := S512x2048) ![384, 1536] S64x256.size inb_S512x2048_S64x256_384_1536,
    k0_pay377 (kernelRun0_C.sl.r_155 (F := Ideal) c arg1 harg1 arg2 harg2 arg7 harg7 arg8 harg8 arg18 arg19 arg22 arg23 x0 x1 x6 x7)
      (kernelRun0_C.sl.r_156 (F := Ideal) c arg1 harg1 arg2 harg2 arg7 harg7 arg8 harg8 arg18 arg22 x0 x1 x6 x7)
      (kernelRun0_C.sl.v3031 (F := Ideal) c arg1 harg1 arg2 harg2 arg7 harg7 arg8 harg8 arg16 arg20 arg21 arg22 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![384, 5632] S64x256.size inb_S512x6144_S64x256_384_5632).toLoadRect
        (harg1.unread x0))⟩ ::
  ⟨Rect.unit (s := S512x2048) ![384, 1280] S64x256.size inb_S512x2048_S64x256_384_1280,
    k0_pay374 (kernelRun0_C.sl.r_154 (F := Ideal) c arg1 harg1 arg2 harg2 arg7 harg7 arg8 harg8 arg18 arg19 arg22 arg23 x0 x1 x6 x7)
      (kernelRun0_C.sl.v1496 (F := Ideal) c arg1 harg1 arg2 harg2 arg7 harg7 arg8 harg8 arg18 arg22 x0 x1 x6 x7)
      (kernelRun0_C.sl.v2998 (F := Ideal) c arg1 harg1 arg2 harg2 arg7 harg7 arg8 harg8 arg16 arg20 arg21 arg22 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![384, 5376] S64x256.size inb_S512x6144_S64x256_384_5376).toLoadRect
        (harg1.unread x0))⟩ ::
  ⟨Rect.unit (s := S512x2048) ![384, 1024] S64x256.size inb_S512x2048_S64x256_384_1024,
    k0_pay372 (kernelRun0_C.sl.r_152 (F := Ideal) c arg1 harg1 arg2 harg2 arg7 harg7 arg8 harg8 arg18 arg19 arg22 arg23 x0 x1 x6 x7)
      (kernelRun0_C.sl.r_153 (F := Ideal) c arg1 harg1 x0) kernelRun0_C.sl.cst_1453 (F := Ideal) (kernelRun0_C.sl.v1482 (F := Ideal) c arg1 harg1 arg2 harg2 arg7 harg7 arg8 harg8 arg18 arg22 x0 x1 x6 x7)
      (kernelRun0_C.sl.v2965 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![384, 5120] S64x256.size inb_S512x6144_S64x256_384_5120).toLoadRect
        (harg1.unread x0))⟩ ::
  ⟨Rect.unit (s := S512x2048) ![320, 1792] S64x256.size inb_S512x2048_S64x256_320_1792,
    k0_pay370 (kernelRun0_C.sl.r_151 (F := Ideal) c arg1 harg1 arg2 harg2 arg7 harg7 arg8 harg8 arg18 arg19 arg22 arg23 x0 x1 x6 x7)
      (View.readAt (Elt Ideal) arg1.view (Rect.unit (s := S512x6144) ![320, 4864] S64x256.size inb_S512x6144_S64x256_320_4864).toLoadRect
        (harg1.unread x0))
      (kernelRun0_C.sl.v1468 (F := Ideal) c arg1 harg1 arg2 harg2 arg7 harg7 arg8 harg8 arg18 arg22 x0 x1 x6 x7)
      (kernelRun0_C.sl.v2932 (F := Ideal) c arg1 harg1 arg2 harg2 arg7 harg7 arg8 harg8 arg16 arg20 arg21 arg22 arg24 x0 x1 x6 x7)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![320, 5888] S64x256.size inb_S512x6144_S64x256_320_5888).toLoadRect
        (harg1.unread x0))⟩ ::
  ⟨Rect.unit (s := S512x2048) ![320, 1536] S64x256.size inb_S512x2048_S64x256_320_1536,
    k0_pay368 (kernelRun0_C.sl.v2893 (F := Ideal) c arg1 harg1 arg2 harg2 arg7 harg7 arg8 harg8 arg18 arg19 arg22 arg23 x0 x1 x6 x7)
      (View.readAt (Elt Ideal) arg1.view (Rect.unit (s := S512x6144) ![320, 4608] S64x256.size inb_S512x6144_S64x256_320_4608).toLoadRect
        (harg1.unread x0))
      (kernelRun0_C.sl.v1454 (F := Ideal) c arg1 harg1 arg2 harg2 arg7 harg7 arg8 harg8 arg18 arg22 x0 x1 x6 x7)
      (kernelRun0_C.sl.v2899 (F := Ideal) c arg1 harg1 arg2 harg2 arg7 harg7 arg8 harg8 arg16 arg20 arg21 arg22 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![320, 5632] S64x256.size inb_S512x6144_S64x256_320_5632).toLoadRect
        (harg1.unread x0))⟩ ::
  ⟨Rect.unit (s := S512x2048) ![320, 1280] S64x256.size inb_S512x2048_S64x256_320_1280,
    k0_pay367 (kernelRun0_C.sl.v2860 (F := Ideal) c arg1 harg1 arg2 harg2 arg7 harg7 arg8 harg8 arg18 arg19 arg22 arg23 x0 x1 x6 x7)
      (View.readAt (Elt Ideal) arg1.view (Rect.unit (s := S512x6144) ![320, 4352] S64x256.size inb_S512x6144_S64x256_320_4352).toLoadRect
        (harg1.unread x0))
      (kernelRun0_C.sl.v1440 (F := Ideal) c arg1 harg1 arg2 harg2 arg7 harg7 arg8 harg8 arg18 arg22 x0 x1 x6 x7)
      (kernelRun0_C.sl.v2866 (F := Ideal) c arg1 harg1 arg2 harg2 arg7 harg7 arg8 harg8 arg16 arg20 arg21 arg22 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![320, 5376] S64x256.size inb_S512x6144_S64x256_320_5376).toLoadRect
        (harg1.unread x0))⟩ ::
  ⟨Rect.unit (s := S512x2048) ![320, 1024] S64x256.size inb_S512x2048_S64x256_320_1024,
    k0_pay366 (kernelRun0_C.sl.v2827 (F := Ideal) c arg1 harg1 arg2 harg2 arg7 harg7 arg8 harg8 arg18 arg19 arg22 arg23 x0 x1 x6 x7)
      (View.readAt (Elt Ideal) arg1.view (Rect.unit (s := S512x6144) ![320, 4096] S64x256.size inb_S512x6144_S64x256_320_4096).toLoadRect
        (harg1.unread x0))
      (kernelRun0_C.sl.v1426 (F := Ideal) c arg1 harg1 arg2 harg2 arg7 harg7 arg8 harg8 arg18 arg22 x0 x1 x6 x7)
      (kernelRun0_C.sl.v2833 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![320, 5120] S64x256.size inb_S512x6144_S64x256_320_5120).toLoadRect
        (harg1.unread x0))⟩ ::
  ⟨Rect.unit (s := S512x2048) ![256, 1792] S64x256.size inb_S512x2048_S64x256_256_1792,
    k0_pay365
      (kernelRun0_C.sl.r_150 (F := Ideal) c arg1 harg1 arg2 harg2 arg7 harg7 arg8 harg8 arg9 harg9 arg16 arg18 arg19 arg20 arg21 arg22 arg23 arg24 x0
        x1 x6 x7 x8)⟩ ::
  ⟨Rect.unit (s := S512x2048) ![256, 1536] S64x256.size inb_S512x2048_S64x256_256_1536,
    k0_pay363
      (kernelRun0_C.sl.r_149 (F := Ideal) c arg1 harg1 arg2 harg2 arg7 harg7 arg8 harg8 arg9 harg9 arg16 arg18 arg19 arg20 arg21 arg22 arg23 arg24 x0
        x1 x6 x7 x8)⟩ ::
  ⟨Rect.unit (s := S512x2048) ![256, 1280] S64x256.size inb_S512x2048_S64x256_256_1280,
    k0_pay361
      (kernelRun0_C.sl.r_146 (F := Ideal) c arg1 harg1 arg2 harg2 arg7 harg7 arg8 harg8 arg9 harg9 arg16 arg18 arg19 arg20 arg21 arg22 arg23 arg24 x0
        x1 x6 x7 x8)
      (kernelRun0_C.sl.r_147 (F := Ideal) c arg1 harg1 x0) (kernelRun0_C.sl.r_148 (F := Ideal) c arg1 harg1 x0)⟩ ::
  ⟨Rect.unit (s := S512x2048) ![256, 1024] S64x256.size inb_S512x2048_S64x256_256_1024,
    k0_pay357
      (kernelRun0_C.sl.r_145 (F := Ideal) c arg1 harg1 arg2 harg2 arg7 harg7 arg8 harg8 arg9 harg9 arg16 arg18 arg19 arg20 arg21 arg22 arg23 arg24 x0
        x1 x6 x7 x8)
      (View.readAt (Elt Ideal) arg1.view (Rect.unit (s := S512x6144) ![256, 5120] S64x256.size inb_S512x6144_S64x256_256_5120).toLoadRect
        (harg1.unread x0))⟩ ::
  ⟨Rect.unit (s := S512x2048) ![192, 1792] S64x256.size inb_S512x2048_S64x256_192_1792,
    k0_pay355
      (kernelRun0_C.sl.r_143 (F := Ideal) c arg1 harg1 arg2 harg2 arg7 harg7 arg8 harg8 arg16 arg18 arg19 arg20 arg21 arg22 arg23 arg24 x0 x1 x6 x7)
      (kernelRun0_C.sl.r_144 (F := Ideal) c arg9 harg9 x8)
      (View.readAt (Elt Ideal) arg1.view (Rect.unit (s := S512x6144) ![192, 5888] S64x256.size inb_S512x6144_S64x256_192_5888).toLoadRect
        (harg1.unread x0))⟩ ::
  ⟨Rect.unit (s := S512x2048) ![192, 1536] S64x256.size inb_S512x2048_S64x256_192_1536,
    k0_pay352
      (kernelRun0_C.sl.r_142 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![192, 5632] S64x256.size inb_S512x6144_S64x256_192_5632).toLoadRect
        (harg1.unread x0))⟩ ::
  ⟨Rect.unit (s := S512x2048) ![192, 1280] S64x256.size inb_S512x2048_S64x256_192_1280,
    k0_pay350
      (kernelRun0_C.sl.r_140 (F := Ideal) c arg1 harg1 arg2 harg2 arg7 harg7 arg8 harg8 arg16 arg18 arg19 arg20 arg21 arg22 arg23 arg24 x0 x1 x6 x7)
      (kernelRun0_C.sl.r_141 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![192, 5376] S64x256.size inb_S512x6144_S64x256_192_5376).toLoadRect
        (harg1.unread x0))⟩ ::
  ⟨Rect.unit (s := S512x2048) ![192, 1024] S64x256.size inb_S512x2048_S64x256_192_1024,
    k0_pay347
      (kernelRun0_C.sl.r_138 (F := Ideal) c arg1 harg1 arg2 harg2 arg7 harg7 arg8 harg8 arg16 arg18 arg19 arg20 arg21 arg22 arg23 arg24 x0 x1 x6 x7)
      (kernelRun0_C.sl.r_139 (F := Ideal) c arg1 harg1 arg2 harg2 arg7 harg7 arg8 harg8 arg16 arg18 arg19 arg20 arg21 arg22 arg23 arg24 x0 x1 x6 x7)
      k0_pay346
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![192, 5120] S64x256.size inb_S512x6144_S64x256_192_5120).toLoadRect
        (harg1.unread x0))⟩ ::
  ⟨Rect.unit (s := S512x2048) ![128, 1792] S64x256.size inb_S512x2048_S64x256_128_1792,
    k0_pay343
      (kernelRun0_C.sl.r_136 (F := Ideal) c arg1 harg1 arg2 harg2 arg7 harg7 arg8 harg8 arg16 arg18 arg19 arg20 arg21 arg22 arg23 arg24 x0 x1 x6 x7)
      (kernelRun0_C.sl.r_137 (F := Ideal) c arg1 harg1 arg2 harg2 arg7 harg7 arg8 harg8 arg16 arg18 arg19 arg20 arg21 arg22 arg23 arg24 x0 x1 x6 x7)
      k0_pay342
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![128, 5888] S64x256.size inb_S512x6144_S64x256_128_5888).toLoadRect
        (harg1.unread x0))⟩ ::
  ⟨Rect.unit (s := S512x2048) ![128, 1536] S64x256.size inb_S512x2048_S64x256_128_1536,
    k0_pay339
      (kernelRun0_C.sl.r_134 (F := Ideal) c arg1 harg1 arg2 harg2 arg7 harg7 arg8 harg8 arg16 arg18 arg19 arg20 arg21 arg22 arg23 arg24 x0 x1 x6 x7)
      (kernelRun0_C.sl.r_135 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![128, 5632] S64x256.size inb_S512x6144_S64x256_128_5632).toLoadRect
        (harg1.unread x0))⟩ ::
  ⟨Rect.unit (s := S512x2048) ![128, 1280] S64x256.size inb_S512x2048_S64x256_128_1280,
    k0_pay336
      (kernelRun0_C.sl.r_133 (F := Ideal) c arg1 harg1 arg2 harg2 arg7 harg7 arg8 harg8 arg16 arg18 arg19 arg20 arg21 arg22 arg23 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![128, 5376] S64x256.size inb_S512x6144_S64x256_128_5376).toLoadRect
        (harg1.unread x0))⟩ ::
  ⟨Rect.unit (s := S512x2048) ![128, 1024] S64x256.size inb_S512x2048_S64x256_128_1024,
    k0_pay334 (kernelRun0_C.sl.r_130 (F := Ideal) c arg1 harg1 arg2 harg2 arg7 harg7 arg8 harg8 arg18 arg19 arg22 arg23 x0 x1 x6 x7)
      (kernelRun0_C.sl.r_131 (F := Ideal) c arg1 harg1 arg2 harg2 arg7 harg7 arg8 harg8 arg18 arg22 x0 x1 x6 x7)
      (kernelRun0_C.sl.r_132 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![128, 5120] S64x256.size inb_S512x6144_S64x256_128_5120).toLoadRect
        (harg1.unread x0))⟩ ::
  ⟨Rect.unit (s := S512x2048) ![64, 1792] S64x256.size inb_S512x2048_S64x256_64_1792,
    k0_pay330 (kernelRun0_C.sl.r_128 (F := Ideal) c arg1 harg1 arg2 harg2 arg7 harg7 arg8 harg8 arg18 arg19 arg22 arg23 x0 x1 x6 x7)
      (kernelRun0_C.sl.r_129 (F := Ideal) c arg1 harg1 arg2 harg2 arg7 harg7 arg8 harg8 arg18 arg22 x0 x1 x6 x7)
      (kernelRun0_C.sl.v2404 (F := Ideal) c arg1 harg1 arg2 harg2 arg7 harg7 arg8 harg8 arg16 arg20 arg21 arg22 arg24 x0 x1 x6 x7)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![64, 5888] S64x256.size inb_S512x6144_S64x256_64_5888).toLoadRect
        (harg1.unread x0))⟩ ::
  ⟨Rect.unit (s := S512x2048) ![64, 1536] S64x256.size inb_S512x2048_S64x256_64_1536,
    k0_pay327 (kernelRun0_C.sl.r_126 (F := Ideal) c arg1 harg1 arg2 harg2 arg7 harg7 arg8 harg8 arg18 arg19 arg22 arg23 x0 x1 x6 x7)
      (kernelRun0_C.sl.r_127 (F := Ideal) c arg1 harg1 arg2 harg2 arg7 harg7 arg8 harg8 arg18 arg22 x0 x1 x6 x7)
      (kernelRun0_C.sl.v2371 (F := Ideal) c arg1 harg1 arg2 harg2 arg7 harg7 arg8 harg8 arg16 arg20 arg21 arg22 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![64, 5632] S64x256.size inb_S512x6144_S64x256_64_5632).toLoadRect
        (harg1.unread x0))⟩ ::
  ⟨Rect.unit (s := S512x2048) ![64, 1280] S64x256.size inb_S512x2048_S64x256_64_1280,
    k0_pay324 (kernelRun0_C.sl.r_125 (F := Ideal) c arg1 harg1 arg2 harg2 arg7 harg7 arg8 harg8 arg18 arg19 arg22 arg23 x0 x1 x6 x7)
      (kernelRun0_C.sl.v1216 (F := Ideal) c arg1 harg1 arg2 harg2 arg7 harg7 arg8 harg8 arg18 arg22 x0 x1 x6 x7)
      (kernelRun0_C.sl.v2338 (F := Ideal) c arg1 harg1 arg2 harg2 arg7 harg7 arg8 harg8 arg16 arg20 arg21 arg22 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![64, 5376] S64x256.size inb_S512x6144_S64x256_64_5376).toLoadRect
        (harg1.unread x0))⟩ ::
  ⟨Rect.unit (s := S512x2048) ![64, 1024] S64x256.size inb_S512x2048_S64x256_64_1024,
    k0_pay322 (kernelRun0_C.sl.r_123 (F := Ideal) c arg1 harg1 arg2 harg2 arg7 harg7 arg8 harg8 arg18 arg19 arg22 arg23 x0 x1 x6 x7)
      (kernelRun0_C.sl.r_124 (F := Ideal) c arg1 harg1 x0) kernelRun0_C.sl.cst_1453 (F := Ideal) (kernelRun0_C.sl.v1202 (F := Ideal) c arg1 harg1 arg2 harg2 arg7 harg7 arg8 harg8 arg18 arg22 x0 x1 x6 x7)
      (kernelRun0_C.sl.v2305 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![64, 5120] S64x256.size inb_S512x6144_S64x256_64_5120).toLoadRect
        (harg1.unread x0))⟩ ::
  ⟨Rect.unit (s := S512x2048) ![0, 1792] S64x256.size inb_S512x2048_S64x256_0_1792,
    k0_pay320 (kernelRun0_C.sl.r_122 (F := Ideal) c arg1 harg1 arg2 harg2 arg7 harg7 arg8 harg8 arg18 arg19 arg22 arg23 x0 x1 x6 x7)
      (View.readAt (Elt Ideal) arg1.view (Rect.unit (s := S512x6144) ![0, 4864] S64x256.size inb_S512x6144_S64x256_0_4864).toLoadRect
        (harg1.unread x0))
      (kernelRun0_C.sl.v1188 (F := Ideal) c arg1 harg1 arg2 harg2 arg7 harg7 arg8 harg8 arg18 arg22 x0 x1 x6 x7)
      (kernelRun0_C.sl.v2272 (F := Ideal) c arg1 harg1 arg2 harg2 arg7 harg7 arg8 harg8 arg16 arg20 arg21 arg22 arg24 x0 x1 x6 x7)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![0, 5888] S64x256.size inb_S512x6144_S64x256_0_5888).toLoadRect
        (harg1.unread x0))⟩ ::
  ⟨Rect.unit (s := S512x2048) ![0, 1536] S64x256.size inb_S512x2048_S64x256_0_1536,
    k0_pay318 (kernelRun0_C.sl.v2233 (F := Ideal) c arg1 harg1 arg2 harg2 arg7 harg7 arg8 harg8 arg18 arg19 arg22 arg23 x0 x1 x6 x7)
      (View.readAt (Elt Ideal) arg1.view (Rect.unit (s := S512x6144) ![0, 4608] S64x256.size inb_S512x6144_S64x256_0_4608).toLoadRect
        (harg1.unread x0))
      (kernelRun0_C.sl.v1174 (F := Ideal) c arg1 harg1 arg2 harg2 arg7 harg7 arg8 harg8 arg18 arg22 x0 x1 x6 x7)
      (kernelRun0_C.sl.v2239 (F := Ideal) c arg1 harg1 arg2 harg2 arg7 harg7 arg8 harg8 arg16 arg20 arg21 arg22 arg24 x0 x1 x6 x7)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![0, 5632] S64x256.size inb_S512x6144_S64x256_0_5632).toLoadRect
        (harg1.unread x0))⟩ ::
  ⟨Rect.unit (s := S512x2048) ![0, 1280] S64x256.size inb_S512x2048_S64x256_0_1280,
    k0_pay317 (kernelRun0_C.sl.v2200 (F := Ideal) c arg1 harg1 arg2 harg2 arg7 harg7 arg8 harg8 arg18 arg19 arg22 arg23 x0 x1 x6 x7)
      (View.readAt (Elt Ideal) arg1.view (Rect.unit (s := S512x6144) ![0, 4352] S64x256.size inb_S512x6144_S64x256_0_4352).toLoadRect
        (harg1.unread x0))
      (kernelRun0_C.sl.v1160 (F := Ideal) c arg1 harg1 arg2 harg2 arg7 harg7 arg8 harg8 arg18 arg22 x0 x1 x6 x7)
      (kernelRun0_C.sl.v2206 (F := Ideal) c arg1 harg1 arg2 harg2 arg7 harg7 arg8 harg8 arg16 arg20 arg21 arg22 arg24 x0 x1 x6 x7)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![0, 5376] S64x256.size inb_S512x6144_S64x256_0_5376).toLoadRect
        (harg1.unread x0))⟩ ::
  ⟨Rect.unit (s := S512x2048) ![0, 1024] S64x256.size inb_S512x2048_S64x256_0_1024,
    k0_pay316 (kernelRun0_C.sl.v2167 (F := Ideal) c arg1 harg1 arg2 harg2 arg7 harg7 arg8 harg8 arg18 arg19 arg22 arg23 x0 x1 x6 x7)
      (View.readAt (Elt Ideal) arg1.view (Rect.unit (s := S512x6144) ![0, 4096] S64x256.size inb_S512x6144_S64x256_0_4096).toLoadRect
        (harg1.unread x0))
      (kernelRun0_C.sl.v1146 (F := Ideal) c arg1 harg1 arg2 harg2 arg7 harg7 arg8 harg8 arg18 arg22 x0 x1 x6 x7)
      (kernelRun0_C.sl.v2173 (F := Ideal) c arg1 harg1 arg2 harg2 arg7 harg7 arg8 harg8 arg16 arg20 arg21 arg22 arg24 x0 x1 x6 x7)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![0, 5120] S64x256.size inb_S512x6144_S64x256_0_5120).toLoadRect
        (harg1.unread x0))⟩ ::
  ⟨Rect.unit (s := S512x2048) ![0, 896] S512x128.size inb_S512x2048_S512x128_0_896,
    k0_pay74 (kernelRun0_C.sl.r_35 (F := Ideal) c arg1 harg1 x0) (kernelRun0_C.sl.r_36 (F := Ideal) c arg1 harg1 arg17 x0) kernelRun0_C.sl.v105 (F := Ideal) (kernelRun0_C.sl.r_37 (F := Ideal) c arg1 harg1 x0)
      (kernelRun0_C.sl.r_38 (F := Ideal) c arg1 harg1 arg17 x0)
      (View.readAt (Elt Ideal) arg5.view (Rect.unit (s := S8x1024) ![0, 896] S8x128.size inb_S8x1024_S8x128_0_896).toLoadRect
        (harg5.unread x4))
      (View.readAt (Elt Ideal) arg1.view (Rect.unit (s := S512x6144) ![0, 896] S512x128.size inb_S512x6144_S512x128_0_896).toLoadRect
        (harg1.unread x0))
      (View.readAt (Elt Ideal) arg6.view (Rect.unit (s := S1x1024) ![0, 896] S1x128.size inb_S1x1024_S1x128_0_896).toLoadRect
        (harg6.unread x5))⟩ ::
  ⟨Rect.unit (s := S512x2048) ![0, 768] S512x128.size inb_S512x2048_S512x128_0_768,
    k0_pay60 (kernelRun0_C.sl.r_30 (F := Ideal) c arg1 harg1 arg5 harg5 arg17 x0 x4)
      (View.readAt (Elt Ideal) arg6.view (Rect.unit (s := S1x1024) ![0, 768] S1x128.size inb_S1x1024_S1x128_0_768).toLoadRect
        (harg6.unread x5))⟩ ::
  ⟨Rect.unit (s := S512x2048) ![0, 640] S512x128.size inb_S512x2048_S512x128_0_640,
    k0_pay54 (kernelRun0_C.sl.r_25 (F := Ideal) c arg1 harg1 x0) (kernelRun0_C.sl.r_26 (F := Ideal) c arg1 harg1 arg17 x0) (kernelRun0_C.sl.r_27 (F := Ideal) c arg1 harg1 arg17 x0) (kernelRun0_C.sl.r_28 (F := Ideal) c arg5 harg5 x4)
      (View.readAt (Elt Ideal) arg1.view (Rect.unit (s := S512x6144) ![0, 640] S512x128.size inb_S512x6144_S512x128_0_640).toLoadRect
        (harg1.unread x0))
      (View.readAt (Elt Ideal) arg6.view (Rect.unit (s := S1x1024) ![0, 640] S1x128.size inb_S1x1024_S1x128_0_640).toLoadRect
        (harg6.unread x5))⟩ ::
  ⟨Rect.unit (s := S512x2048) ![0, 512] S512x128.size inb_S512x2048_S512x128_0_512,
    k0_pay46 (kernelRun0_C.sl.r_23 (F := Ideal) c arg1 harg1 arg5 harg5 arg17 x0 x4) (kernelRun0_C.sl.r_24 (F := Ideal) c arg6 harg6 x5)⟩ ::
  ⟨Rect.unit (s := S512x2048) ![0, 384] S512x128.size inb_S512x2048_S512x128_0_384,
    k0_pay37 (kernelRun0_C.sl.r_16 (F := Ideal) c arg1 harg1 arg5 harg5 arg17 x0 x4) (kernelRun0_C.sl.r_17 (F := Ideal) c arg1 harg1 arg5 harg5 arg17 x0 x4)
      (View.readAt (Elt Ideal) arg6.view (Rect.unit (s := S1x1024) ![0, 384] S1x128.size inb_S1x1024_S1x128_0_384).toLoadRect
        (harg6.unread x5))⟩ ::
  ⟨Rect.unit (s := S512x2048) ![0, 256] S512x128.size inb_S512x2048_S512x128_0_256,
    k0_pay30 (kernelRun0_C.sl.r_11 (F := Ideal) c arg1 harg1 x0) (kernelRun0_C.sl.r_12 (F := Ideal) c arg1 harg1 arg17 x0) (kernelRun0_C.sl.r_13 (F := Ideal) c arg1 harg1 arg17 x0) (kernelRun0_C.sl.r_14 (F := Ideal) c arg5 harg5 x4)
      (View.readAt (Elt Ideal) arg1.view (Rect.unit (s := S512x6144) ![0, 256] S512x128.size inb_S512x6144_S512x128_0_256).toLoadRect
        (harg1.unread x0))
      (View.readAt (Elt Ideal) arg6.view (Rect.unit (s := S1x1024) ![0, 256] S1x128.size inb_S1x1024_S1x128_0_256).toLoadRect
        (harg6.unread x5))⟩ ::
  ⟨Rect.unit (s := S512x2048) ![0, 128] S512x128.size inb_S512x2048_S512x128_0_128,
    k0_pay22 (kernelRun0_C.sl.r_9 (F := Ideal) c arg1 harg1 arg5 harg5 arg17 x0 x4) (kernelRun0_C.sl.r_10 (F := Ideal) c arg6 harg6 x5)⟩ ::
  ⟨Rect.unit (s := S512x2048) ![0, 0] S512x128.size inb_S512x2048_S512x128_0_0,
    k0_pay12 (kernelRun0_C.sl.r_2 (F := Ideal) c arg1 harg1 arg5 harg5 arg17 x0 x4) (kernelRun0_C.sl.r_3 (F := Ideal) c arg1 harg1 arg5 harg5 arg17 x0 x4)
      (View.readAt (Elt Ideal) arg6.view (Rect.unit (s := S1x1024) ![0, 0] S1x128.size inb_S1x1024_S1x128_0_0).toLoadRect
        (harg6.unread x5))⟩ :: [] : List (View.Piece (Elt Ideal) S512x2048 .bf16)) y = A.gY s (y 0) (y 1) :=
  canon_of (S := S512x2048) (e := .bf16) (fun y => A.gY s (y 0) (y 1)) _ (y_pieces A s I h8) (View.cover_of_tiledBy _ ![64, 128] (by sl_kernel_rfl)) y

end
end Cert.Mixer.CaseC
end
-- ==== Proof.StateB.lean ====
/- A block that goes on with a sequence: the buffers that do not depend on what is carried, and the state. -/
module

public import Idealize.ShloMosaic.Lib.Pipeline.ValueKit
public import proofs.«01_k».proof.Proof.Gen.KernelIdeal.Frame.RunB
public import proofs.«01_k».proof.Proof.StateC
public import proofs.«01_k».proof.Proof.Chain

@[expose] public section

set_option maxRecDepth 16384
set_option maxHeartbeats 1000000

namespace Cert.Mixer.CaseB

open Idealize.ShloMosaic Idealize.ShloMosaic.TcCoe Idealize.SL.Sem
open Cert.KernelIdeal Cert.KernelIdeal.Gen

section
/-- The state after the first chunk. -/
theorem gSt_four (A : Par) (s h i j : ℕ) (hh : h < 4) : A.sv s (0 + 1) h i j = A.gSt s 4 h i j := by
  rw [Par.gSt, show (4 + 3 - h) / 4 = 0 + 1 from by omega]

variable {c : Dev nD}
  {arg1 : Memref sig .tc .vmem S512x6144 .bf16} {harg1 : arg1.IsWhole}
  {arg2 : Memref sig .tc .vmem S512x16 .bf16} {harg2 : arg2.IsWhole}
  {arg7 : Memref sig .tc .vmem S16x512 .bf16} {harg7 : arg7.IsWhole}
  {arg8 : Memref sig .tc .vmem S1x512 .f32} {harg8 : arg8.IsWhole}
  {arg16 : Memref sig .tc .vmem S4x128x256 .f32} {harg16 : arg16.IsWhole}
  {arg18 : Memref sig .tc .vmem S4x512x128 .bf16} {harg18 : arg18.IsWhole}
  {arg19 : Memref sig .tc .vmem S4x512x128 .bf16} {harg19 : arg19.IsWhole}
  {arg20 : Memref sig .tc .vmem S4x512x128 .bf16} {harg20 : arg20.IsWhole}
  {arg21 : Memref sig .tc .vmem S4x128x128 .f32} {harg21 : arg21.IsWhole}
  {arg22 : Memref sig .tc .vmem S512x512 .f32} {harg22 : arg22.IsWhole}
  {x0 : Vec Ideal S512x6144 .bf16} {x1 : Vec Ideal S512x16 .bf16} {x4 : Vec Ideal S8x1024 .f32} {x5 : Vec Ideal S1x1024 .f32} {x6 : Vec Ideal S16x512 .bf16} {x7 : Vec Ideal S1x512 .f32} {x8 : Vec Ideal S1x1024 .f32}
  {xs3 : Vec Ideal S4x128x256 .f32} {xs4 : Vec Ideal S8x1024 .f32}
  (A : Par) (s : ℕ) (I : Inp A s x0 x1 x4 x5 x6 x7 x8)
  (hS : ∀ y, xs3 y = A.sv s 0 (y 0) (y 1) (y 2))
include I

/-- The decayed queries. -/
theorem qd_at (y) : View.canon (kernelRun0_B.sl.HS5_4 (F := Ideal) c arg1 harg1 arg2 harg2 arg7 harg7 arg8 harg8 arg22 x0 x1 x6 x7) y = A.gqd s (y 0) (y 1) (y 2) :=
  CaseC.qd_at (c := c) (arg1 := arg1) (harg1 := harg1) (arg2 := arg2) (harg2 := harg2) (arg7 := arg7) (harg7 := harg7) (arg8 := arg8) (harg8 := harg8) (arg22 := arg22) A s I y

/-- The keys, their decay undone. -/
theorem ki_at (y) : View.canon (kernelRun0_B.sl.HS6_4 (F := Ideal) c arg1 harg1 arg2 harg2 arg7 harg7 arg8 harg8 arg22 x0 x1 x6 x7) y = A.gki s (y 0) (y 1) (y 2) :=
  CaseC.ki_at (c := c) (arg1 := arg1) (harg1 := harg1) (arg2 := arg2) (harg2 := harg2) (arg7 := arg7) (harg7 := harg7) (arg8 := arg8) (harg8 := harg8) (arg22 := arg22) A s I y

/-- The keys, decayed to their chunk's end. -/
theorem ke_at (y) : View.canon (kernelRun0_B.sl.HS7_4 (F := Ideal) c arg1 harg1 arg2 harg2 arg7 harg7 arg8 harg8 arg22 x0 x1 x6 x7) y = A.gke s (y 0) (y 1) (y 2) :=
  CaseC.ke_at (c := c) (arg1 := arg1) (harg1 := harg1) (arg2 := arg2) (harg2 := harg2) (arg7 := arg7) (harg7 := harg7) (arg8 := arg8) (harg8 := harg8) (arg22 := arg22) A s I y

/-- The decays over whole chunks. -/
theorem dc_at (y) : View.canon (kernelRun0_B.sl.HS8_4 (F := Ideal) c arg2 harg2 arg7 harg7 arg8 harg8 arg22 x1 x6 x7) y = A.gdc s (y 0) (y 1) (y 2) :=
  CaseC.dc_at (c := c) (arg2 := arg2) (harg2 := harg2) (arg7 := arg7) (harg7 := harg7) (arg8 := arg8) (harg8 := harg8) (arg22 := arg22) A s I y

/-- The causal scores. -/
theorem sc_at (y) : View.canon (kernelRun0_B.sl.HS10_32 (F := Ideal) c arg1 harg1 arg2 harg2 arg7 harg7 arg8 harg8 arg18 arg19 arg22 x0 x1 x6 x7) y = A.gsc s (y 0) (y 1) (y 2) :=
  CaseC.sc_at (c := c) (arg1 := arg1) (harg1 := harg1) (arg2 := arg2) (harg2 := harg2) (arg7 := arg7) (harg7 := harg7) (arg8 := arg8) (harg8 := harg8) (arg18 := arg18) (arg19 := arg19) (arg22 := arg22) A s I y

include hS

/-- The first chunk's states, from the carried ones. -/
theorem st_base : StOK A s 4 (kernelRun0_B.sl.HS3_4 (F := Ideal) c arg1 harg1 arg2 harg2 arg7 harg7 arg8 harg8 arg16 harg16 arg20 arg21 arg22 x0 x1 x6 x7 xs3) := by
  intro y
  refine canon_of (S := S4x128x256) (e := .f32) (fun y => A.gSt s 4 (y 0) (y 1) (y 2)) _ ?_ (View.cover_of_tiledL _ S1x128x256.size (by rfl)) y
  dsimp only [kernelRun0_B.sl.HS3_4, kernelRun0_B.sl.r_89, kernelRun0_B.sl.r_91, kernelRun0_B.sl.r_92, k0_pay205, k0_pay209, k0_pay211]
  refine ⟨?_, ?_, ?_, ?_, trivial⟩
  all_goals exact pc3 (e := .f32) (A.gSt s 4) _ _ _ (by decide) _ (v := k0_pay204 (F := Ideal) _ _ _ _) rfl
                (fun u i j => (T_pc A s _ _ _ (by rfl) (by norm_num) (by rfl) (rd3 (e := .f32) arg16 harg16 _ (A.sv s 0) hS _ _ _ _)
                  (rc3 (e := .bf16) arg20 _ _ (ke_at A s I) _ _ _ _) (rd2 (e := .bf16) arg1 harg1 _ _ I.h0 _ _ _)
                  (rc3 (e := .f32) arg21 _ _ (dc_at A s I) _ _ _ _) u i j).trans (gSt_four A s _ _ _ (by have := u.2; omega)))

/-- The state after every chunk and head. -/
theorem st_chain : Chain (StOK A s) 4 28 (⟨Rect.unit (s := S4x128x256) ![3, 0, 0] S1x128x256.size inb_S4x128x256_S1x128x256_3_0_0,
    k0_pay315 (kernelRun0_B.sl.r_121 (F := Ideal) c arg1 harg1 arg2 harg2 arg7 harg7 arg8 harg8 arg16 harg16 arg20 arg21 arg22 x0 x1 x6 x7 xs3)⟩ ::
  kernelRun0_B.sl.HS3_31 (F := Ideal) c arg1 harg1 arg2 harg2 arg7 harg7 arg8 harg8 arg16 harg16 arg20 arg21 arg22 x0 x1 x6 x7 xs3) := by
  dsimp only [kernelRun0_B.sl.HS3_5, kernelRun0_B.sl.HS3_6, kernelRun0_B.sl.HS3_7, kernelRun0_B.sl.HS3_8, kernelRun0_B.sl.HS3_9, kernelRun0_B.sl.HS3_10, kernelRun0_B.sl.HS3_11, kernelRun0_B.sl.HS3_12, kernelRun0_B.sl.HS3_13, kernelRun0_B.sl.HS3_14, kernelRun0_B.sl.HS3_15, kernelRun0_B.sl.HS3_16, kernelRun0_B.sl.HS3_17, kernelRun0_B.sl.HS3_18, kernelRun0_B.sl.HS3_19, kernelRun0_B.sl.HS3_20, kernelRun0_B.sl.HS3_21, kernelRun0_B.sl.HS3_22, kernelRun0_B.sl.HS3_23, kernelRun0_B.sl.HS3_24, kernelRun0_B.sl.HS3_25, kernelRun0_B.sl.HS3_26, kernelRun0_B.sl.HS3_27, kernelRun0_B.sl.HS3_28, kernelRun0_B.sl.HS3_29, kernelRun0_B.sl.HS3_30, kernelRun0_B.sl.HS3_31, kernelRun0_B.sl.r_100, kernelRun0_B.sl.r_101, kernelRun0_B.sl.r_102, kernelRun0_B.sl.r_103, kernelRun0_B.sl.r_104, kernelRun0_B.sl.r_105, kernelRun0_B.sl.r_106, kernelRun0_B.sl.r_107, kernelRun0_B.sl.r_108, kernelRun0_B.sl.r_110, kernelRun0_B.sl.r_111, kernelRun0_B.sl.r_112, kernelRun0_B.sl.r_114, kernelRun0_B.sl.r_115, kernelRun0_B.sl.r_116, kernelRun0_B.sl.r_117, kernelRun0_B.sl.r_119, kernelRun0_B.sl.r_120, kernelRun0_B.sl.r_121, kernelRun0_B.sl.r_93, kernelRun0_B.sl.r_95, kernelRun0_B.sl.r_96, kernelRun0_B.sl.r_97, kernelRun0_B.sl.r_98, k0_pay216, k0_pay220, k0_pay222, k0_pay223, k0_pay228, k0_pay234, k0_pay239, k0_pay244, k0_pay249, k0_pay258, k0_pay260, k0_pay268, k0_pay270, k0_pay275, k0_pay279, k0_pay281, k0_pay286, k0_pay290, k0_pay292, k0_pay293, k0_pay298, k0_pay304, k0_pay309, k0_pay314]
  iterate 28
    refine chain_step A s (arg16 := arg16) _ _ _ _ ?_ rfl (rc3 (e := .bf16) arg20 _ _ (ke_at A s I) _ _ _ _)
      (rd2 (e := .bf16) arg1 harg1 _ _ I.h0 _ _ _) (rc3 (e := .f32) arg21 _ _ (dc_at A s I) _ _ _ _)
      (by rfl) (by norm_num) (by norm_num) (by rfl) (by rfl)
  exact st_base A s I hS

/-- The states kept for each chunk. -/
theorem st_at (y) : View.canon (kernelRun0_B.sl.HS11_32 (F := Ideal) c arg1 harg1 arg2 harg2 arg7 harg7 arg8 harg8 arg16 harg16 arg20 arg21 arg22 x0 x1 x6 x7 xs3) y = A.gst s (y 0) (y 1) (y 2) (y 3) := by
  refine canon_of (S := S4x8x128x256) (e := .bf16) (fun y => A.gst s (y 0) (y 1) (y 2) (y 3)) _ ?_ (View.cover_of_tiledL _ S1x1x128x256.size (by rfl)) y
  dsimp only [kernelRun0_B.sl.HS11_32, kernelRun0_B.sl.r_109, kernelRun0_B.sl.r_113, kernelRun0_B.sl.r_118, kernelRun0_B.sl.r_90, kernelRun0_B.sl.r_94, kernelRun0_B.sl.r_99, k0_pay206, k0_pay217, k0_pay229, k0_pay276, k0_pay287, k0_pay299]
  have hc := st_chain (c := c) (arg1 := arg1) (harg1 := harg1) (arg2 := arg2) (harg2 := harg2) (arg7 := arg7) (harg7 := harg7) (arg8 := arg8) (harg8 := harg8) (arg16 := arg16) (harg16 := harg16) (arg20 := arg20) (arg21 := arg21) (arg22 := arg22) (x0 := x0) (x1 := x1) (x6 := x6) (x7 := x7) A s I hS
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  iterate 28
    exact pc4 (e := .bf16) (A.gst s) _ _ _ _ (by decide) _ (v := k0_pay303 (F := Ideal) _) rfl
      (fun u w i j => (Mixer.st_at A s hc _ _ (by norm_num) (by norm_num) (by norm_num) (by norm_num) (by rfl) u w i j).symm)
  all_goals exact pc4 (e := .bf16) (A.gst s) _ _ _ _ (by decide) _ (v := k0_pay303 (F := Ideal) _) rfl
                (st_pc A s _ _ (by norm_num) (rd3 (e := .f32) arg16 harg16 _ (A.sv s 0) hS _ _ _ _))

end
end Cert.Mixer.CaseB
end
-- ==== Proof.RowsB.lean ====
/- A block that goes on with a sequence: the rows carried on and the mixer's columns. -/
module

public import Idealize.ShloMosaic.Lib.Pipeline.ValueKit
public import proofs.«01_k».proof.Proof.Gen.KernelIdeal.Frame.RunB
public import proofs.«01_k».proof.Proof.StateB
public import proofs.«01_k».proof.Proof.Chain

@[expose] public section

set_option maxRecDepth 16384
set_option maxHeartbeats 1000000

namespace Cert.Mixer.CaseB

open Idealize.ShloMosaic Idealize.ShloMosaic.TcCoe Idealize.SL.Sem
open Cert.KernelIdeal Cert.KernelIdeal.Gen

section
variable {c : Dev nD}
  {arg1 : Memref sig .tc .vmem S512x6144 .bf16} {harg1 : arg1.IsWhole}
  {arg2 : Memref sig .tc .vmem S512x16 .bf16} {harg2 : arg2.IsWhole}
  {arg5 : Memref sig .tc .vmem S8x1024 .f32} {harg5 : arg5.IsWhole}
  {arg6 : Memref sig .tc .vmem S1x1024 .f32} {harg6 : arg6.IsWhole}
  {arg7 : Memref sig .tc .vmem S16x512 .bf16} {harg7 : arg7.IsWhole}
  {arg8 : Memref sig .tc .vmem S1x512 .f32} {harg8 : arg8.IsWhole}
  {arg9 : Memref sig .tc .vmem S1x1024 .f32} {harg9 : arg9.IsWhole}
  {arg16 : Memref sig .tc .vmem S4x128x256 .f32} {harg16 : arg16.IsWhole}
  {arg17 : Memref sig .tc .vmem S8x1024 .f32} {harg17 : arg17.IsWhole}
  {arg18 : Memref sig .tc .vmem S4x512x128 .bf16} {harg18 : arg18.IsWhole}
  {arg19 : Memref sig .tc .vmem S4x512x128 .bf16} {harg19 : arg19.IsWhole}
  {arg20 : Memref sig .tc .vmem S4x512x128 .bf16} {harg20 : arg20.IsWhole}
  {arg21 : Memref sig .tc .vmem S4x128x128 .f32} {harg21 : arg21.IsWhole}
  {arg22 : Memref sig .tc .vmem S512x512 .f32} {harg22 : arg22.IsWhole}
  {arg23 : Memref sig .tc .vmem S4x512x64 .bf16} {harg23 : arg23.IsWhole}
  {arg24 : Memref sig .tc .vmem S4x8x128x256 .bf16} {harg24 : arg24.IsWhole}
  {x0 : Vec Ideal S512x6144 .bf16} {x1 : Vec Ideal S512x16 .bf16} {x4 : Vec Ideal S8x1024 .f32} {x5 : Vec Ideal S1x1024 .f32} {x6 : Vec Ideal S16x512 .bf16} {x7 : Vec Ideal S1x512 .f32} {x8 : Vec Ideal S1x1024 .f32}
  {xs3 : Vec Ideal S4x128x256 .f32} {xs4 : Vec Ideal S8x1024 .f32}
  (A : Par) (s : ℕ) (I : Inp A s x0 x1 x4 x5 x6 x7 x8)
  (hS : ∀ y, xs3 y = A.sv s 0 (y 0) (y 1) (y 2)) (hC : ∀ y, xs4 y = A.gcar s (y 0) (y 1))
include I

/-- The rows carried on. -/
theorem ca_at (y : S8x1024.Idx) : View.canon (⟨Rect.unit (s := S8x1024) ![0, 896] S8x128.size inb_S8x1024_S8x128_0_896, k0_pay73 (kernelRun0_B.sl.r_35 (F := Ideal) c arg1 harg1 x0)⟩ ::
  ⟨Rect.unit (s := S8x1024) ![0, 768] S8x128.size inb_S8x1024_S8x128_0_768,
    k0_pay58 (kernelRun0_B.sl.r_29 (F := Ideal) c arg1 harg1 x0)
      (View.readAt (Elt Ideal) arg1.view (Rect.unit (s := S512x6144) ![0, 2816] S512x128.size inb_S512x6144_S512x128_0_2816).toLoadRect
        (harg1.unread x0))⟩ ::
  ⟨Rect.unit (s := S8x1024) ![0, 640] S8x128.size inb_S8x1024_S8x128_0_640,
    k0_pay52
      (View.readAt (Elt Ideal) arg1.view (Rect.unit (s := S512x6144) ![0, 1664] S512x128.size inb_S512x6144_S512x128_0_1664).toLoadRect
        (harg1.unread x0))
      (View.readAt (Elt Ideal) arg1.view (Rect.unit (s := S512x6144) ![0, 2688] S512x128.size inb_S512x6144_S512x128_0_2688).toLoadRect
        (harg1.unread x0))⟩ ::
  ⟨Rect.unit (s := S8x1024) ![0, 512] S8x128.size inb_S8x1024_S8x128_0_512, k0_pay44 (kernelRun0_B.sl.r_18 (F := Ideal) c arg1 harg1 x0)⟩ ::
  ⟨Rect.unit (s := S8x1024) ![0, 384] S8x128.size inb_S8x1024_S8x128_0_384,
    k0_pay34 (kernelRun0_B.sl.r_15 (F := Ideal) c arg1 harg1 x0)
      (View.readAt (Elt Ideal) arg1.view (Rect.unit (s := S512x6144) ![0, 2432] S512x128.size inb_S512x6144_S512x128_0_2432).toLoadRect
        (harg1.unread x0))⟩ ::
  ⟨Rect.unit (s := S8x1024) ![0, 256] S8x128.size inb_S8x1024_S8x128_0_256,
    k0_pay28
      (View.readAt (Elt Ideal) arg1.view (Rect.unit (s := S512x6144) ![0, 1280] S512x128.size inb_S512x6144_S512x128_0_1280).toLoadRect
        (harg1.unread x0))
      (View.readAt (Elt Ideal) arg1.view (Rect.unit (s := S512x6144) ![0, 2304] S512x128.size inb_S512x6144_S512x128_0_2304).toLoadRect
        (harg1.unread x0))⟩ ::
  ⟨Rect.unit (s := S8x1024) ![0, 128] S8x128.size inb_S8x1024_S8x128_0_128, k0_pay19 (kernelRun0_B.sl.r_4 (F := Ideal) c arg1 harg1 x0)⟩ ::
  ⟨Rect.unit (s := S8x1024) ![0, 0] S8x128.size inb_S8x1024_S8x128_0_0, k0_pay9 (kernelRun0_B.sl.r (F := Ideal) c arg1 harg1 x0) (kernelRun0_B.sl.r_1 (F := Ideal) c arg1 harg1 x0)⟩ :: [] : List (View.Piece (Elt Ideal) S8x1024 .f32)) y = A.gcn s (y 0) (y 1) := by
  refine canon_of (S := S8x1024) (e := .f32) (fun y => A.gcn s (y 0) (y 1)) _ ?_ (View.cover_of_tiledL _ S8x128.size (by rfl)) y
  dsimp only [kernelRun0_B.sl.r, kernelRun0_B.sl.r_1, kernelRun0_B.sl.r_15, kernelRun0_B.sl.r_18, kernelRun0_B.sl.r_29, kernelRun0_B.sl.r_35, kernelRun0_B.sl.r_4, k0_pay14, k0_pay32, k0_pay39, k0_pay56, k0_pay67, k0_pay7]
  refine ⟨?_, ?_, ?_, ?_, ?_, ?_, ?_, ?_, trivial⟩
  all_goals exact pc2 (e := .f32) (A.gcn s) _ _ (by decide) _ (v := k0_pay9 (F := Ideal) (k0_pay7 _) _) rfl
                (cn_pc A s _ _ _ (by rfl) (by rfl) (rd2 (e := .bf16) arg1 harg1 _ _ I.h0 _ _ _) (rd2 (e := .bf16) arg1 harg1 _ _ I.h0 _ _ _))

include hS hC

/-- The mixer's columns of the block. -/
theorem y_at (y : S512x2048.Idx) : View.canon (⟨Rect.unit (s := S512x2048) ![448, 1792] S64x256.size inb_S512x2048_S64x256_448_1792,
    k0_pay393
      (kernelRun0_B.sl.r_165 (F := Ideal) c arg1 harg1 arg2 harg2 arg7 harg7 arg8 harg8 arg16 harg16 arg18 arg19 arg20 arg21 arg22 arg23 arg24 x0 x1
        x6 x7 xs3)
      (kernelRun0_B.sl.r_166 (F := Ideal) c arg1 harg1 arg2 harg2 arg7 harg7 arg8 harg8 arg16 harg16 arg18 arg19 arg20 arg21 arg22 arg23 arg24 x0 x1
        x6 x7 xs3)
      k0_pay392
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![448, 5888] S64x256.size inb_S512x6144_S64x256_448_5888).toLoadRect
        (harg1.unread x0))⟩ ::
  ⟨Rect.unit (s := S512x2048) ![448, 1536] S64x256.size inb_S512x2048_S64x256_448_1536,
    k0_pay389
      (kernelRun0_B.sl.r_163 (F := Ideal) c arg1 harg1 arg2 harg2 arg7 harg7 arg8 harg8 arg16 harg16 arg18 arg19 arg20 arg21 arg22 arg23 arg24 x0 x1
        x6 x7 xs3)
      (kernelRun0_B.sl.r_164 (F := Ideal) c arg1 harg1 arg2 harg2 arg7 harg7 arg8 harg8 arg16 harg16 arg18 arg19 arg20 arg21 arg22 arg23 arg24 x0 x1
        x6 x7 xs3)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![448, 5632] S64x256.size inb_S512x6144_S64x256_448_5632).toLoadRect
        (harg1.unread x0))⟩ ::
  ⟨Rect.unit (s := S512x2048) ![448, 1280] S64x256.size inb_S512x2048_S64x256_448_1280,
    k0_pay386
      (kernelRun0_B.sl.r_162 (F := Ideal) c arg1 harg1 arg2 harg2 arg7 harg7 arg8 harg8 arg16 harg16 arg18 arg19 arg20 arg21 arg22 arg23 arg24 x0 x1
        x6 x7 xs3)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![448, 5376] S64x256.size inb_S512x6144_S64x256_448_5376).toLoadRect
        (harg1.unread x0))⟩ ::
  ⟨Rect.unit (s := S512x2048) ![448, 1024] S64x256.size inb_S512x2048_S64x256_448_1024,
    k0_pay384 (kernelRun0_B.sl.r_159 (F := Ideal) c arg1 harg1 arg2 harg2 arg7 harg7 arg8 harg8 arg18 arg19 arg22 arg23 x0 x1 x6 x7)
      (kernelRun0_B.sl.r_160 (F := Ideal) c arg1 harg1 arg2 harg2 arg7 harg7 arg8 harg8 arg18 arg22 x0 x1 x6 x7)
      (kernelRun0_B.sl.r_161 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![448, 5120] S64x256.size inb_S512x6144_S64x256_448_5120).toLoadRect
        (harg1.unread x0))⟩ ::
  ⟨Rect.unit (s := S512x2048) ![384, 1792] S64x256.size inb_S512x2048_S64x256_384_1792,
    k0_pay380 (kernelRun0_B.sl.r_157 (F := Ideal) c arg1 harg1 arg2 harg2 arg7 harg7 arg8 harg8 arg18 arg19 arg22 arg23 x0 x1 x6 x7)
      (kernelRun0_B.sl.r_158 (F := Ideal) c arg1 harg1 arg2 harg2 arg7 harg7 arg8 harg8 arg18 arg22 x0 x1 x6 x7)
      (kernelRun0_B.sl.v3064 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![384, 5888] S64x256.size inb_S512x6144_S64x256_384_5888).toLoadRect
        (harg1.unread x0))⟩ ::
  ⟨Rect.unit (s := S512x2048) ![384, 1536] S64x256.size inb_S512x2048_S64x256_384_1536,
    k0_pay377 (kernelRun0_B.sl.r_155 (F := Ideal) c arg1 harg1 arg2 harg2 arg7 harg7 arg8 harg8 arg18 arg19 arg22 arg23 x0 x1 x6 x7)
      (kernelRun0_B.sl.r_156 (F := Ideal) c arg1 harg1 arg2 harg2 arg7 harg7 arg8 harg8 arg18 arg22 x0 x1 x6 x7)
      (kernelRun0_B.sl.v3031 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![384, 5632] S64x256.size inb_S512x6144_S64x256_384_5632).toLoadRect
        (harg1.unread x0))⟩ ::
  ⟨Rect.unit (s := S512x2048) ![384, 1280] S64x256.size inb_S512x2048_S64x256_384_1280,
    k0_pay374 (kernelRun0_B.sl.r_154 (F := Ideal) c arg1 harg1 arg2 harg2 arg7 harg7 arg8 harg8 arg18 arg19 arg22 arg23 x0 x1 x6 x7)
      (kernelRun0_B.sl.v1496 (F := Ideal) c arg1 harg1 arg2 harg2 arg7 harg7 arg8 harg8 arg18 arg22 x0 x1 x6 x7)
      (kernelRun0_B.sl.v2998 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![384, 5376] S64x256.size inb_S512x6144_S64x256_384_5376).toLoadRect
        (harg1.unread x0))⟩ ::
  ⟨Rect.unit (s := S512x2048) ![384, 1024] S64x256.size inb_S512x2048_S64x256_384_1024,
    k0_pay372 (kernelRun0_B.sl.r_152 (F := Ideal) c arg1 harg1 arg2 harg2 arg7 harg7 arg8 harg8 arg18 arg19 arg22 arg23 x0 x1 x6 x7)
      (kernelRun0_B.sl.r_153 (F := Ideal) c arg1 harg1 x0) kernelRun0_B.sl.cst_1453 (F := Ideal) (kernelRun0_B.sl.v1482 (F := Ideal) c arg1 harg1 arg2 harg2 arg7 harg7 arg8 harg8 arg18 arg22 x0 x1 x6 x7)
      (kernelRun0_B.sl.v2965 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![384, 5120] S64x256.size inb_S512x6144_S64x256_384_5120).toLoadRect
        (harg1.unread x0))⟩ ::
  ⟨Rect.unit (s := S512x2048) ![320, 1792] S64x256.size inb_S512x2048_S64x256_320_1792,
    k0_pay370 (kernelRun0_B.sl.r_151 (F := Ideal) c arg1 harg1 arg2 harg2 arg7 harg7 arg8 harg8 arg18 arg19 arg22 arg23 x0 x1 x6 x7)
      (View.readAt (Elt Ideal) arg1.view (Rect.unit (s := S512x6144) ![320, 4864] S64x256.size inb_S512x6144_S64x256_320_4864).toLoadRect
        (harg1.unread x0))
      (kernelRun0_B.sl.v1468 (F := Ideal) c arg1 harg1 arg2 harg2 arg7 harg7 arg8 harg8 arg18 arg22 x0 x1 x6 x7)
      (kernelRun0_B.sl.v2932 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![320, 5888] S64x256.size inb_S512x6144_S64x256_320_5888).toLoadRect
        (harg1.unread x0))⟩ ::
  ⟨Rect.unit (s := S512x2048) ![320, 1536] S64x256.size inb_S512x2048_S64x256_320_1536,
    k0_pay368 (kernelRun0_B.sl.v2893 (F := Ideal) c arg1 harg1 arg2 harg2 arg7 harg7 arg8 harg8 arg18 arg19 arg22 arg23 x0 x1 x6 x7)
      (View.readAt (Elt Ideal) arg1.view (Rect.unit (s := S512x6144) ![320, 4608] S64x256.size inb_S512x6144_S64x256_320_4608).toLoadRect
        (harg1.unread x0))
      (kernelRun0_B.sl.v1454 (F := Ideal) c arg1 harg1 arg2 harg2 arg7 harg7 arg8 harg8 arg18 arg22 x0 x1 x6 x7)
      (kernelRun0_B.sl.v2899 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![320, 5632] S64x256.size inb_S512x6144_S64x256_320_5632).toLoadRect
        (harg1.unread x0))⟩ ::
  ⟨Rect.unit (s := S512x2048) ![320, 1280] S64x256.size inb_S512x2048_S64x256_320_1280,
    k0_pay367 (kernelRun0_B.sl.v2860 (F := Ideal) c arg1 harg1 arg2 harg2 arg7 harg7 arg8 harg8 arg18 arg19 arg22 arg23 x0 x1 x6 x7)
      (View.readAt (Elt Ideal) arg1.view (Rect.unit (s := S512x6144) ![320, 4352] S64x256.size inb_S512x6144_S64x256_320_4352).toLoadRect
        (harg1.unread x0))
      (kernelRun0_B.sl.v1440 (F := Ideal) c arg1 harg1 arg2 harg2 arg7 harg7 arg8 harg8 arg18 arg22 x0 x1 x6 x7)
      (kernelRun0_B.sl.v2866 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![320, 5376] S64x256.size inb_S512x6144_S64x256_320_5376).toLoadRect
        (harg1.unread x0))⟩ ::
  ⟨Rect.unit (s := S512x2048) ![320, 1024] S64x256.size inb_S512x2048_S64x256_320_1024,
    k0_pay366 (kernelRun0_B.sl.v2827 (F := Ideal) c arg1 harg1 arg2 harg2 arg7 harg7 arg8 harg8 arg18 arg19 arg22 arg23 x0 x1 x6 x7)
      (View.readAt (Elt Ideal) arg1.view (Rect.unit (s := S512x6144) ![320, 4096] S64x256.size inb_S512x6144_S64x256_320_4096).toLoadRect
        (harg1.unread x0))
      (kernelRun0_B.sl.v1426 (F := Ideal) c arg1 harg1 arg2 harg2 arg7 harg7 arg8 harg8 arg18 arg22 x0 x1 x6 x7)
      (kernelRun0_B.sl.v2833 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![320, 5120] S64x256.size inb_S512x6144_S64x256_320_5120).toLoadRect
        (harg1.unread x0))⟩ ::
  ⟨Rect.unit (s := S512x2048) ![256, 1792] S64x256.size inb_S512x2048_S64x256_256_1792,
    k0_pay365
      (kernelRun0_B.sl.r_150 (F := Ideal) c arg1 harg1 arg2 harg2 arg7 harg7 arg8 harg8 arg9 harg9 arg16 harg16 arg18 arg19 arg20 arg21 arg22 arg23
        arg24 x0 x1 x6 x7 x8 xs3)⟩ ::
  ⟨Rect.unit (s := S512x2048) ![256, 1536] S64x256.size inb_S512x2048_S64x256_256_1536,
    k0_pay363
      (kernelRun0_B.sl.r_149 (F := Ideal) c arg1 harg1 arg2 harg2 arg7 harg7 arg8 harg8 arg9 harg9 arg16 harg16 arg18 arg19 arg20 arg21 arg22 arg23
        arg24 x0 x1 x6 x7 x8 xs3)⟩ ::
  ⟨Rect.unit (s := S512x2048) ![256, 1280] S64x256.size inb_S512x2048_S64x256_256_1280,
    k0_pay361
      (kernelRun0_B.sl.r_146 (F := Ideal) c arg1 harg1 arg2 harg2 arg7 harg7 arg8 harg8 arg9 harg9 arg16 harg16 arg18 arg19 arg20 arg21 arg22 arg23
        arg24 x0 x1 x6 x7 x8 xs3)
      (kernelRun0_B.sl.r_147 (F := Ideal) c arg1 harg1 x0) (kernelRun0_B.sl.r_148 (F := Ideal) c arg1 harg1 x0)⟩ ::
  ⟨Rect.unit (s := S512x2048) ![256, 1024] S64x256.size inb_S512x2048_S64x256_256_1024,
    k0_pay357
      (kernelRun0_B.sl.r_145 (F := Ideal) c arg1 harg1 arg2 harg2 arg7 harg7 arg8 harg8 arg9 harg9 arg16 harg16 arg18 arg19 arg20 arg21 arg22 arg23
        arg24 x0 x1 x6 x7 x8 xs3)
      (View.readAt (Elt Ideal) arg1.view (Rect.unit (s := S512x6144) ![256, 5120] S64x256.size inb_S512x6144_S64x256_256_5120).toLoadRect
        (harg1.unread x0))⟩ ::
  ⟨Rect.unit (s := S512x2048) ![192, 1792] S64x256.size inb_S512x2048_S64x256_192_1792,
    k0_pay355
      (kernelRun0_B.sl.r_143 (F := Ideal) c arg1 harg1 arg2 harg2 arg7 harg7 arg8 harg8 arg16 harg16 arg18 arg19 arg20 arg21 arg22 arg23 arg24 x0 x1
        x6 x7 xs3)
      (kernelRun0_B.sl.r_144 (F := Ideal) c arg9 harg9 x8)
      (View.readAt (Elt Ideal) arg1.view (Rect.unit (s := S512x6144) ![192, 5888] S64x256.size inb_S512x6144_S64x256_192_5888).toLoadRect
        (harg1.unread x0))⟩ ::
  ⟨Rect.unit (s := S512x2048) ![192, 1536] S64x256.size inb_S512x2048_S64x256_192_1536,
    k0_pay352
      (kernelRun0_B.sl.r_142 (F := Ideal) c arg1 harg1 arg2 harg2 arg7 harg7 arg8 harg8 arg16 harg16 arg18 arg19 arg20 arg21 arg22 arg23 arg24 x0 x1
        x6 x7 xs3)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![192, 5632] S64x256.size inb_S512x6144_S64x256_192_5632).toLoadRect
        (harg1.unread x0))⟩ ::
  ⟨Rect.unit (s := S512x2048) ![192, 1280] S64x256.size inb_S512x2048_S64x256_192_1280,
    k0_pay350
      (kernelRun0_B.sl.r_140 (F := Ideal) c arg1 harg1 arg2 harg2 arg7 harg7 arg8 harg8 arg16 harg16 arg18 arg19 arg20 arg21 arg22 arg23 arg24 x0 x1
        x6 x7 xs3)
      (kernelRun0_B.sl.r_141 (F := Ideal) c arg1 harg1 arg2 harg2 arg7 harg7 arg8 harg8 arg16 harg16 arg18 arg19 arg20 arg21 arg22 arg23 arg24 x0 x1
        x6 x7 xs3)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![192, 5376] S64x256.size inb_S512x6144_S64x256_192_5376).toLoadRect
        (harg1.unread x0))⟩ ::
  ⟨Rect.unit (s := S512x2048) ![192, 1024] S64x256.size inb_S512x2048_S64x256_192_1024,
    k0_pay347
      (kernelRun0_B.sl.r_138 (F := Ideal) c arg1 harg1 arg2 harg2 arg7 harg7 arg8 harg8 arg16 harg16 arg18 arg19 arg20 arg21 arg22 arg23 arg24 x0 x1
        x6 x7 xs3)
      (kernelRun0_B.sl.r_139 (F := Ideal) c arg1 harg1 arg2 harg2 arg7 harg7 arg8 harg8 arg16 harg16 arg18 arg19 arg20 arg21 arg22 arg23 arg24 x0 x1
        x6 x7 xs3)
      k0_pay346
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![192, 5120] S64x256.size inb_S512x6144_S64x256_192_5120).toLoadRect
        (harg1.unread x0))⟩ ::
  ⟨Rect.unit (s := S512x2048) ![128, 1792] S64x256.size inb_S512x2048_S64x256_128_1792,
    k0_pay343
      (kernelRun0_B.sl.r_136 (F := Ideal) c arg1 harg1 arg2 harg2 arg7 harg7 arg8 harg8 arg16 harg16 arg18 arg19 arg20 arg21 arg22 arg23 arg24 x0 x1
        x6 x7 xs3)
      (kernelRun0_B.sl.r_137 (F := Ideal) c arg1 harg1 arg2 harg2 arg7 harg7 arg8 harg8 arg16 harg16 arg18 arg19 arg20 arg21 arg22 arg23 arg24 x0 x1
        x6 x7 xs3)
      k0_pay342
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![128, 5888] S64x256.size inb_S512x6144_S64x256_128_5888).toLoadRect
        (harg1.unread x0))⟩ ::
  ⟨Rect.unit (s := S512x2048) ![128, 1536] S64x256.size inb_S512x2048_S64x256_128_1536,
    k0_pay339
      (kernelRun0_B.sl.r_134 (F := Ideal) c arg1 harg1 arg2 harg2 arg7 harg7 arg8 harg8 arg16 harg16 arg18 arg19 arg20 arg21 arg22 arg23 arg24 x0 x1
        x6 x7 xs3)
      (kernelRun0_B.sl.r_135 (F := Ideal) c arg1 harg1 arg2 harg2 arg7 harg7 arg8 harg8 arg16 harg16 arg18 arg19 arg20 arg21 arg22 arg23 arg24 x0 x1
        x6 x7 xs3)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![128, 5632] S64x256.size inb_S512x6144_S64x256_128_5632).toLoadRect
        (harg1.unread x0))⟩ ::
  ⟨Rect.unit (s := S512x2048) ![128, 1280] S64x256.size inb_S512x2048_S64x256_128_1280,
    k0_pay336
      (kernelRun0_B.sl.r_133 (F := Ideal) c arg1 harg1 arg2 harg2 arg7 harg7 arg8 harg8 arg16 harg16 arg18 arg19 arg20 arg21 arg22 arg23 arg24 x0 x1
        x6 x7 xs3)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![128, 5376] S64x256.size inb_S512x6144_S64x256_128_5376).toLoadRect
        (harg1.unread x0))⟩ ::
  ⟨Rect.unit (s := S512x2048) ![128, 1024] S64x256.size inb_S512x2048_S64x256_128_1024,
    k0_pay334 (kernelRun0_B.sl.r_130 (F := Ideal) c arg1 harg1 arg2 harg2 arg7 harg7 arg8 harg8 arg18 arg19 arg22 arg23 x0 x1 x6 x7)
      (kernelRun0_B.sl.r_131 (F := Ideal) c arg1 harg1 arg2 harg2 arg7 harg7 arg8 harg8 arg18 arg22 x0 x1 x6 x7)
      (kernelRun0_B.sl.r_132 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![128, 5120] S64x256.size inb_S512x6144_S64x256_128_5120).toLoadRect
        (harg1.unread x0))⟩ ::
  ⟨Rect.unit (s := S512x2048) ![64, 1792] S64x256.size inb_S512x2048_S64x256_64_1792,
    k0_pay330 (kernelRun0_B.sl.r_128 (F := Ideal) c arg1 harg1 arg2 harg2 arg7 harg7 arg8 harg8 arg18 arg19 arg22 arg23 x0 x1 x6 x7)
      (kernelRun0_B.sl.r_129 (F := Ideal) c arg1 harg1 arg2 harg2 arg7 harg7 arg8 harg8 arg18 arg22 x0 x1 x6 x7)
      (kernelRun0_B.sl.v2404 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![64, 5888] S64x256.size inb_S512x6144_S64x256_64_5888).toLoadRect
        (harg1.unread x0))⟩ ::
  ⟨Rect.unit (s := S512x2048) ![64, 1536] S64x256.size inb_S512x2048_S64x256_64_1536,
    k0_pay327 (kernelRun0_B.sl.r_126 (F := Ideal) c arg1 harg1 arg2 harg2 arg7 harg7 arg8 harg8 arg18 arg19 arg22 arg23 x0 x1 x6 x7)
      (kernelRun0_B.sl.r_127 (F := Ideal) c arg1 harg1 arg2 harg2 arg7 harg7 arg8 harg8 arg18 arg22 x0 x1 x6 x7)
      (kernelRun0_B.sl.v2371 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![64, 5632] S64x256.size inb_S512x6144_S64x256_64_5632).toLoadRect
        (harg1.unread x0))⟩ ::
  ⟨Rect.unit (s := S512x2048) ![64, 1280] S64x256.size inb_S512x2048_S64x256_64_1280,
    k0_pay324 (kernelRun0_B.sl.r_125 (F := Ideal) c arg1 harg1 arg2 harg2 arg7 harg7 arg8 harg8 arg18 arg19 arg22 arg23 x0 x1 x6 x7)
      (kernelRun0_B.sl.v1216 (F := Ideal) c arg1 harg1 arg2 harg2 arg7 harg7 arg8 harg8 arg18 arg22 x0 x1 x6 x7)
      (kernelRun0_B.sl.v2338 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![64, 5376] S64x256.size inb_S512x6144_S64x256_64_5376).toLoadRect
        (harg1.unread x0))⟩ ::
  ⟨Rect.unit (s := S512x2048) ![64, 1024] S64x256.size inb_S512x2048_S64x256_64_1024,
    k0_pay322 (kernelRun0_B.sl.r_123 (F := Ideal) c arg1 harg1 arg2 harg2 arg7 harg7 arg8 harg8 arg18 arg19 arg22 arg23 x0 x1 x6 x7)
      (kernelRun0_B.sl.r_124 (F := Ideal) c arg1 harg1 x0) kernelRun0_B.sl.cst_1453 (F := Ideal) (kernelRun0_B.sl.v1202 (F := Ideal) c arg1 harg1 arg2 harg2 arg7 harg7 arg8 harg8 arg18 arg22 x0 x1 x6 x7)
      (kernelRun0_B.sl.v2305 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![64, 5120] S64x256.size inb_S512x6144_S64x256_64_5120).toLoadRect
        (harg1.unread x0))⟩ ::
  ⟨Rect.unit (s := S512x2048) ![0, 1792] S64x256.size inb_S512x2048_S64x256_0_1792,
    k0_pay320 (kernelRun0_B.sl.r_122 (F := Ideal) c arg1 harg1 arg2 harg2 arg7 harg7 arg8 harg8 arg18 arg19 arg22 arg23 x0 x1 x6 x7)
      (View.readAt (Elt Ideal) arg1.view (Rect.unit (s := S512x6144) ![0, 4864] S64x256.size inb_S512x6144_S64x256_0_4864).toLoadRect
        (harg1.unread x0))
      (kernelRun0_B.sl.v1188 (F := Ideal) c arg1 harg1 arg2 harg2 arg7 harg7 arg8 harg8 arg18 arg22 x0 x1 x6 x7)
      (kernelRun0_B.sl.v2272 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 768] S1x256.size inb_S1x1024_S1x256_0_768).toLoadRect
        (harg9.unread x8))
      (View.readAt (Elt Ideal) arg1.view (Rect.unit (s := S512x6144) ![0, 5888] S64x256.size inb_S512x6144_S64x256_0_5888).toLoadRect
        (harg1.unread x0))⟩ ::
  ⟨Rect.unit (s := S512x2048) ![0, 1536] S64x256.size inb_S512x2048_S64x256_0_1536,
    k0_pay318 (kernelRun0_B.sl.v2233 (F := Ideal) c arg1 harg1 arg2 harg2 arg7 harg7 arg8 harg8 arg18 arg19 arg22 arg23 x0 x1 x6 x7)
      (View.readAt (Elt Ideal) arg1.view (Rect.unit (s := S512x6144) ![0, 4608] S64x256.size inb_S512x6144_S64x256_0_4608).toLoadRect
        (harg1.unread x0))
      (kernelRun0_B.sl.v1174 (F := Ideal) c arg1 harg1 arg2 harg2 arg7 harg7 arg8 harg8 arg18 arg22 x0 x1 x6 x7)
      (kernelRun0_B.sl.v2239 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 512] S1x256.size inb_S1x1024_S1x256_0_512).toLoadRect
        (harg9.unread x8))
      (View.readAt (Elt Ideal) arg1.view (Rect.unit (s := S512x6144) ![0, 5632] S64x256.size inb_S512x6144_S64x256_0_5632).toLoadRect
        (harg1.unread x0))⟩ ::
  ⟨Rect.unit (s := S512x2048) ![0, 1280] S64x256.size inb_S512x2048_S64x256_0_1280,
    k0_pay317 (kernelRun0_B.sl.v2200 (F := Ideal) c arg1 harg1 arg2 harg2 arg7 harg7 arg8 harg8 arg18 arg19 arg22 arg23 x0 x1 x6 x7)
      (View.readAt (Elt Ideal) arg1.view (Rect.unit (s := S512x6144) ![0, 4352] S64x256.size inb_S512x6144_S64x256_0_4352).toLoadRect
        (harg1.unread x0))
      (kernelRun0_B.sl.v1160 (F := Ideal) c arg1 harg1 arg2 harg2 arg7 harg7 arg8 harg8 arg18 arg22 x0 x1 x6 x7)
      (kernelRun0_B.sl.v2206 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 256] S1x256.size inb_S1x1024_S1x256_0_256).toLoadRect
        (harg9.unread x8))
      (View.readAt (Elt Ideal) arg1.view (Rect.unit (s := S512x6144) ![0, 5376] S64x256.size inb_S512x6144_S64x256_0_5376).toLoadRect
        (harg1.unread x0))⟩ ::
  ⟨Rect.unit (s := S512x2048) ![0, 1024] S64x256.size inb_S512x2048_S64x256_0_1024,
    k0_pay316 (kernelRun0_B.sl.v2167 (F := Ideal) c arg1 harg1 arg2 harg2 arg7 harg7 arg8 harg8 arg18 arg19 arg22 arg23 x0 x1 x6 x7)
      (View.readAt (Elt Ideal) arg1.view (Rect.unit (s := S512x6144) ![0, 4096] S64x256.size inb_S512x6144_S64x256_0_4096).toLoadRect
        (harg1.unread x0))
      (kernelRun0_B.sl.v1146 (F := Ideal) c arg1 harg1 arg2 harg2 arg7 harg7 arg8 harg8 arg18 arg22 x0 x1 x6 x7)
      (kernelRun0_B.sl.v2173 (F := Ideal) c arg1 harg1 arg2 harg2 arg7 harg7 arg8 harg8 arg16 harg16 arg20 arg21 arg22 arg24 x0 x1 x6 x7 xs3)
      (View.readAt (Elt Ideal) arg9.view (Rect.unit (s := S1x1024) ![0, 0] S1x256.size inb_S1x1024_S1x256_0_0).toLoadRect
        (harg9.unread x8))
      (View.readAt (Elt Ideal) arg1.view (Rect.unit (s := S512x6144) ![0, 5120] S64x256.size inb_S512x6144_S64x256_0_5120).toLoadRect
        (harg1.unread x0))⟩ ::
  ⟨Rect.unit (s := S512x2048) ![0, 896] S512x128.size inb_S512x2048_S512x128_0_896,
    k0_pay74 (kernelRun0_B.sl.r_35 (F := Ideal) c arg1 harg1 x0) (kernelRun0_B.sl.r_36 (F := Ideal) c arg1 harg1 arg17 harg17 x0 xs4) kernelRun0_B.sl.v105 (F := Ideal) (kernelRun0_B.sl.r_37 (F := Ideal) c arg1 harg1 x0)
      (kernelRun0_B.sl.r_38 (F := Ideal) c arg17 harg17 xs4)
      (View.readAt (Elt Ideal) arg5.view (Rect.unit (s := S8x1024) ![0, 896] S8x128.size inb_S8x1024_S8x128_0_896).toLoadRect
        (harg5.unread x4))
      (View.readAt (Elt Ideal) arg1.view (Rect.unit (s := S512x6144) ![0, 896] S512x128.size inb_S512x6144_S512x128_0_896).toLoadRect
        (harg1.unread x0))
      (View.readAt (Elt Ideal) arg6.view (Rect.unit (s := S1x1024) ![0, 896] S1x128.size inb_S1x1024_S1x128_0_896).toLoadRect
        (harg6.unread x5))⟩ ::
  ⟨Rect.unit (s := S512x2048) ![0, 768] S512x128.size inb_S512x2048_S512x128_0_768,
    k0_pay60 (kernelRun0_B.sl.r_30 (F := Ideal) c arg1 harg1 arg5 harg5 arg17 harg17 x0 x4 xs4)
      (View.readAt (Elt Ideal) arg6.view (Rect.unit (s := S1x1024) ![0, 768] S1x128.size inb_S1x1024_S1x128_0_768).toLoadRect
        (harg6.unread x5))⟩ ::
  ⟨Rect.unit (s := S512x2048) ![0, 640] S512x128.size inb_S512x2048_S512x128_0_640,
    k0_pay54 (kernelRun0_B.sl.r_25 (F := Ideal) c arg1 harg1 x0) (kernelRun0_B.sl.r_26 (F := Ideal) c arg1 harg1 arg17 harg17 x0 xs4) (kernelRun0_B.sl.r_27 (F := Ideal) c arg1 harg1 arg17 harg17 x0 xs4)
      (kernelRun0_B.sl.r_28 (F := Ideal) c arg5 harg5 x4)
      (View.readAt (Elt Ideal) arg1.view (Rect.unit (s := S512x6144) ![0, 640] S512x128.size inb_S512x6144_S512x128_0_640).toLoadRect
        (harg1.unread x0))
      (View.readAt (Elt Ideal) arg6.view (Rect.unit (s := S1x1024) ![0, 640] S1x128.size inb_S1x1024_S1x128_0_640).toLoadRect
        (harg6.unread x5))⟩ ::
  ⟨Rect.unit (s := S512x2048) ![0, 512] S512x128.size inb_S512x2048_S512x128_0_512,
    k0_pay46 (kernelRun0_B.sl.r_23 (F := Ideal) c arg1 harg1 arg5 harg5 arg17 harg17 x0 x4 xs4) (kernelRun0_B.sl.r_24 (F := Ideal) c arg6 harg6 x5)⟩ ::
  ⟨Rect.unit (s := S512x2048) ![0, 384] S512x128.size inb_S512x2048_S512x128_0_384,
    k0_pay37 (kernelRun0_B.sl.r_16 (F := Ideal) c arg1 harg1 arg5 harg5 arg17 harg17 x0 x4 xs4) (kernelRun0_B.sl.r_17 (F := Ideal) c arg1 harg1 arg5 harg5 arg17 harg17 x0 x4 xs4)
      (View.readAt (Elt Ideal) arg6.view (Rect.unit (s := S1x1024) ![0, 384] S1x128.size inb_S1x1024_S1x128_0_384).toLoadRect
        (harg6.unread x5))⟩ ::
  ⟨Rect.unit (s := S512x2048) ![0, 256] S512x128.size inb_S512x2048_S512x128_0_256,
    k0_pay30 (kernelRun0_B.sl.r_11 (F := Ideal) c arg1 harg1 x0) (kernelRun0_B.sl.r_12 (F := Ideal) c arg1 harg1 arg17 harg17 x0 xs4) (kernelRun0_B.sl.r_13 (F := Ideal) c arg1 harg1 arg17 harg17 x0 xs4)
      (kernelRun0_B.sl.r_14 (F := Ideal) c arg5 harg5 x4)
      (View.readAt (Elt Ideal) arg1.view (Rect.unit (s := S512x6144) ![0, 256] S512x128.size inb_S512x6144_S512x128_0_256).toLoadRect
        (harg1.unread x0))
      (View.readAt (Elt Ideal) arg6.view (Rect.unit (s := S1x1024) ![0, 256] S1x128.size inb_S1x1024_S1x128_0_256).toLoadRect
        (harg6.unread x5))⟩ ::
  ⟨Rect.unit (s := S512x2048) ![0, 128] S512x128.size inb_S512x2048_S512x128_0_128,
    k0_pay22 (kernelRun0_B.sl.r_9 (F := Ideal) c arg1 harg1 arg5 harg5 arg17 harg17 x0 x4 xs4) (kernelRun0_B.sl.r_10 (F := Ideal) c arg6 harg6 x5)⟩ ::
  ⟨Rect.unit (s := S512x2048) ![0, 0] S512x128.size inb_S512x2048_S512x128_0_0,
    k0_pay12 (kernelRun0_B.sl.r_2 (F := Ideal) c arg1 harg1 arg5 harg5 arg17 harg17 x0 x4 xs4) (kernelRun0_B.sl.r_3 (F := Ideal) c arg1 harg1 arg5 harg5 arg17 harg17 x0 x4 xs4)
      (View.readAt (Elt Ideal) arg6.view (Rect.unit (s := S1x1024) ![0, 0] S1x128.size inb_S1x1024_S1x128_0_0).toLoadRect
        (harg6.unread x5))⟩ :: [] : List (View.Piece (Elt Ideal) S512x2048 .bf16)) y = A.gY s (y 0) (y 1) := by
  refine canon_of (S := S512x2048) (e := .bf16) (fun y => A.gY s (y 0) (y 1)) _ ?_ (View.cover_of_tiledBy _ ![64, 128] (by sl_kernel_rfl)) y
  dsimp only [kernelRun0_B.sl.r, kernelRun0_B.sl.r_1, kernelRun0_B.sl.r_10, kernelRun0_B.sl.r_11, kernelRun0_B.sl.r_12, kernelRun0_B.sl.r_122, kernelRun0_B.sl.r_123, kernelRun0_B.sl.r_124, kernelRun0_B.sl.r_125, kernelRun0_B.sl.r_126, kernelRun0_B.sl.r_127, kernelRun0_B.sl.r_128, kernelRun0_B.sl.r_129, kernelRun0_B.sl.r_13, kernelRun0_B.sl.r_130, kernelRun0_B.sl.r_131, kernelRun0_B.sl.r_132, kernelRun0_B.sl.r_133, kernelRun0_B.sl.r_134, kernelRun0_B.sl.r_135, kernelRun0_B.sl.r_136, kernelRun0_B.sl.r_137, kernelRun0_B.sl.r_138, kernelRun0_B.sl.r_139, kernelRun0_B.sl.r_14, kernelRun0_B.sl.r_140, kernelRun0_B.sl.r_141, kernelRun0_B.sl.r_142, kernelRun0_B.sl.r_143, kernelRun0_B.sl.r_144, kernelRun0_B.sl.r_145, kernelRun0_B.sl.r_146, kernelRun0_B.sl.r_147, kernelRun0_B.sl.r_148, kernelRun0_B.sl.r_149, kernelRun0_B.sl.r_15, kernelRun0_B.sl.r_150, kernelRun0_B.sl.r_151, kernelRun0_B.sl.r_152, kernelRun0_B.sl.r_153, kernelRun0_B.sl.r_154, kernelRun0_B.sl.r_155, kernelRun0_B.sl.r_156, kernelRun0_B.sl.r_157, kernelRun0_B.sl.r_158, kernelRun0_B.sl.r_159, kernelRun0_B.sl.r_16, kernelRun0_B.sl.r_160, kernelRun0_B.sl.r_161, kernelRun0_B.sl.r_162, kernelRun0_B.sl.r_163, kernelRun0_B.sl.r_164, kernelRun0_B.sl.r_165, kernelRun0_B.sl.r_166, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_35, kernelRun0_B.sl.r_36, kernelRun0_B.sl.r_37, kernelRun0_B.sl.r_38, kernelRun0_B.sl.r_4, kernelRun0_B.sl.r_5, kernelRun0_B.sl.r_6, kernelRun0_B.sl.r_7, kernelRun0_B.sl.r_8, kernelRun0_B.sl.r_9, k0_pay10, k0_pay11, k0_pay14, k0_pay15, k0_pay16, k0_pay17, k0_pay18, k0_pay20, k0_pay21, k0_pay23, k0_pay26, k0_pay27, k0_pay29, k0_pay319, k0_pay32, k0_pay321, k0_pay323, k0_pay325, k0_pay326, k0_pay328, k0_pay329, k0_pay331, k0_pay332, k0_pay333, k0_pay335, k0_pay337, k0_pay338, k0_pay340, k0_pay341, k0_pay342, k0_pay344, k0_pay345, k0_pay346, k0_pay348, k0_pay349, k0_pay35, k0_pay351, k0_pay353, k0_pay354, k0_pay356, k0_pay358, k0_pay359, k0_pay36, k0_pay360, k0_pay362, k0_pay364, k0_pay369, k0_pay371, k0_pay373, k0_pay375, k0_pay376, k0_pay378, k0_pay379, k0_pay381, k0_pay382, k0_pay383, k0_pay385, k0_pay387, k0_pay388, k0_pay39, k0_pay390, k0_pay391, k0_pay392, k0_pay40, k0_pay41, k0_pay42, k0_pay43, k0_pay45, k0_pay47, k0_pay50, k0_pay51, k0_pay53, k0_pay56, k0_pay59, k0_pay67, k0_pay7, k0_pay70, k0_pay71, k0_pay72]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  iterate 32
    exact pc2 (e := .bf16) (A.gY s) _ _ (by decide) _ (v := k0_pay316 (F := Ideal) _ _ _ _ _ _) rfl
      (o_pc A s _ _ _ (by rfl) (by norm_num) (by rfl) (by rfl) (by rfl) (by rfl)
        (rc3 (e := .bf16) arg23 _ _ (sc_at A s I) _ _ _ _) (rd2 (e := .bf16) arg1 harg1 _ _ I.h0 _ _ _)
        (rc3 (e := .bf16) arg18 _ _ (qd_at A s I) _ _ _ _) (rc4 (e := .bf16) arg24 _ _ (st_at A s I hS) _ _ _ _ _)
        (rd2 (e := .f32) arg9 harg9 _ _ I.h8 _ _ _) (rd2 (e := .bf16) arg1 harg1 _ _ I.h0 _ _ _))
  iterate 8
    exact pc2 (e := .bf16) (A.gY s) _ _ (by decide) _
      (v := k0_pay12 (F := Ideal) (k0_pay10 (k0_pay7 _) _ _ _ _) (k0_pay11 (k0_pay7 _) _ _ _ _) _) rfl
      (c_pc' A s _ _ _ (by rfl) (by rfl) (rd2 (e := .bf16) arg1 harg1 _ _ I.h0 _ _ _) (rd2 (e := .bf16) arg1 harg1 _ _ I.h0 _ _ _)
        (rd2 (e := .bf16) arg1 harg1 _ _ I.h0 _ _ _)
        (rd2 (e := .f32) arg17 harg17 _ (A.gcar s) hC _ _ _)
        (rd2 (e := .f32) arg5 harg5 _ _ I.h4 _ _ _) (by norm_num) (by norm_num) (rd2 (e := .f32) arg6 harg6 _ _ I.h5 _ _ _))

end
end Cert.Mixer.CaseB
end
-- ==== Proof.OutC.lean ====
/- The second half of a step: the projection and the layer norm. -/
module

public import Idealize.ShloMosaic.Lib.Pipeline.ValueKit
public import proofs.«01_k».proof.Proof.Gen.KernelIdeal.Frame.RunC
public import proofs.«01_k».proof.Proof.Norm
public import proofs.«01_k».proof.Proof.Chain

@[expose] public section

set_option maxRecDepth 16384
set_option maxHeartbeats 1000000

namespace Cert.Mixer.CaseC

open Idealize.ShloMosaic Idealize.ShloMosaic.TcCoe Idealize.SL.Sem
open Cert.KernelIdeal Cert.KernelIdeal.Gen

section
variable {c : Dev nD}
  {arg3 : Memref sig .tc .vmem S512x2048 .f32} {harg3 : arg3.IsWhole}
  {arg4 : Memref sig .tc .vmem S2048x2048 .bf16} {harg4 : arg4.IsWhole}
  {arg10 : Memref sig .tc .vmem S1x2048 .f32} {harg10 : arg10.IsWhole}
  {arg11 : Memref sig .tc .vmem S1x2048 .f32} {harg11 : arg11.IsWhole}
  {arg13 : Memref sig .tc .vmem S512x2048 .bf16} {harg13 : arg13.IsWhole}
  {arg14 : Memref sig .tc .vmem S512x2048 .bf16} {harg14 : arg14.IsWhole}
  {arg15 : Memref sig .tc .vmem S512x2048 .f32} {harg15 : arg15.IsWhole}
  {x2 : Vec Ideal S512x2048 .f32} {x3 : Vec Ideal S2048x2048 .bf16} {x9 : Vec Ideal S1x2048 .f32} {x10 : Vec Ideal S1x2048 .f32} {xs0 : Vec Ideal S512x2048 .bf16}
  (A : Par) (t : ℕ) (O : Outp A t x2 x3 x9 x10 xs0)
include O

/-- The columns of the block before. -/
theorem yp_at (y) : View.canon (kernelRun0_C.sl.HS1_1 (F := Ideal) c arg13 harg13 xs0) y = A.gY t (y 0) (y 1) := by
  refine canon_of (S := S512x2048) (e := .bf16) (fun y => A.gY t (y 0) (y 1)) _ ?_ (View.cover_of_tiledL _ S512x2048.size (by rfl)) y
  refine ⟨?_, trivial⟩
  exact pc2 (e := .bf16) (A.gY t) _ _ (by decide) _ rfl (yp_pc A t (rd2 (e := .bf16) _ _ _ _ O.hy _ _ _))

/-- Their projection. -/
theorem mix_at (y) : View.canon (kernelRun0_C.sl.HS2_8 (F := Ideal) c arg4 harg4 arg13 harg13 arg14 x3 xs0) y = A.gmix t (y 0) (y 1) := by
  refine canon_of (S := S512x2048) (e := .f32) (fun y => A.gmix t (y 0) (y 1)) _ ?_ (View.cover_of_tiledL _ S256x512.size (by rfl)) y
  dsimp only [kernelRun0_C.sl.HS2_8, kernelRun0_C.sl.HS2_5, kernelRun0_C.sl.HS2_4]
  refine ⟨?_, ?_, ?_, ?_, ?_, ?_, ?_, ?_, trivial⟩
  all_goals exact pc2 (e := .f32) (A.gmix t) _ _ (by decide) _ (v := k0_pay13 (F := Ideal) _ _) rfl (mix_pc A t _ _
    (rc2 (e := .bf16) arg14 _ _ (yp_at A t O) _ _ _) (rd2 (e := .bf16) arg4 harg4 _ _ O.h3 _ _ _))

/-- The rows of the projection stored first. -/
theorem mix_top5 (y : S512x2048.Idx) (hy : (y 0 : ℕ) < 256) : View.canon (kernelRun0_C.sl.HS2_5 (F := Ideal) c arg4 harg4 arg13 harg13 arg14 x3 xs0) y = A.gmix t (y 0) (y 1) := by
  have h := mix_at (c := c) (arg4 := arg4) (harg4 := harg4) (arg13 := arg13) (harg13 := harg13) (arg14 := arg14) A t O y
  dsimp only [kernelRun0_C.sl.HS2_8] at h
  rw [canon_above (e := .f32) 256 1536 256 _ _ _ (by decide) y hy, canon_above (e := .f32) 256 1024 256 _ _ _ (by decide) y hy,
    canon_above (e := .f32) 256 512 256 _ _ _ (by decide) y hy] at h
  exact h

theorem mix_top4 (y : S512x2048.Idx) (hy : (y 0 : ℕ) < 256) : View.canon (kernelRun0_C.sl.HS2_4 (F := Ideal) c arg4 harg4 arg13 harg13 arg14 x3 xs0) y = A.gmix t (y 0) (y 1) := by
  have h := mix_top5 (c := c) (arg4 := arg4) (harg4 := harg4) (arg13 := arg13) (harg13 := harg13) (arg14 := arg14) A t O y hy
  dsimp only [kernelRun0_C.sl.HS2_5] at h
  rw [canon_above (e := .f32) 256 0 256 _ _ _ (by decide) y hy] at h
  exact h

/-- The layer norm. -/
theorem out_at (y : S512x2048.Idx) : View.canon (⟨Rect.unit ![384, 0] ![128, 2048] inb_S512x2048_S128x2048_384_0,
    k0_pay1 (kernelRun0_C.sl.r_171 (F := Ideal) c arg3 harg3 arg4 harg4 arg10 harg10 arg11 harg11 arg13 harg13 arg14 arg15 x2 x3 x9 x10 xs0)⟩ ::
  ⟨Rect.unit (s := S512x2048) ![256, 0] S128x2048.size inb_S512x2048_S128x2048_256_0,
    k0_pay399 (kernelRun0_C.sl.r_167 (F := Ideal) c arg10 harg10 x9) (kernelRun0_C.sl.r_168 (F := Ideal) c arg11 harg11 x10)
      (kernelRun0_C.sl.r_169 (F := Ideal) c arg3 harg3 arg4 harg4 arg13 harg13 arg14 arg15 x2 x3 xs0)
      (kernelRun0_C.sl.r_170 (F := Ideal) c arg3 harg3 arg4 harg4 arg13 harg13 arg14 arg15 x2 x3 xs0) k0_pay398⟩ ::
  ⟨Rect.unit (s := S512x2048) ![128, 0] S128x2048.size inb_S512x2048_S128x2048_128_0,
    k0_pay88 (kernelRun0_C.sl.r_44 (F := Ideal) c arg3 harg3 arg4 harg4 arg13 harg13 arg14 arg15 x2 x3 xs0) (kernelRun0_C.sl.r_45 (F := Ideal) c arg10 harg10 x9)
      (View.readAt (Elt Ideal) arg11.view (Rect.unit (s := S1x2048) ![0, 0] S1x2048.size inb_S1x2048_S1x2048_0_0).toLoadRect
        (harg11.unread x10))⟩ ::
  ⟨Rect.unit (s := S512x2048) ![0, 0] S128x2048.size inb_S512x2048_S128x2048_0_0,
    k0_pay65 (kernelRun0_C.sl.r_31 (F := Ideal) c arg10 harg10 x9) (kernelRun0_C.sl.r_32 (F := Ideal) c arg11 harg11 x10)
      (kernelRun0_C.sl.r_33 (F := Ideal) c arg3 harg3 arg4 harg4 arg13 harg13 arg14 arg15 x2 x3 xs0)
      (kernelRun0_C.sl.r_34 (F := Ideal) c arg3 harg3 arg4 harg4 arg13 harg13 arg14 arg15 x2 x3 xs0)⟩ :: [] : List (View.Piece (Elt Ideal) S512x2048 .bf16)) y = A.gO t (y 0) (y 1) := by
  have m8 := mix_at (c := c) (arg4 := arg4) (harg4 := harg4) (arg13 := arg13) (harg13 := harg13) (arg14 := arg14) A t O
  have m5 := mix_top5 (c := c) (arg4 := arg4) (harg4 := harg4) (arg13 := arg13) (harg13 := harg13) (arg14 := arg14) A t O
  have m4 := mix_top4 (c := c) (arg4 := arg4) (harg4 := harg4) (arg13 := arg13) (harg13 := harg13) (arg14 := arg14) A t O
  refine canon_of (S := S512x2048) (e := .bf16) (fun y => A.gO t (y 0) (y 1)) _ ?_ (View.cover_of_tiledL _ S128x2048.size (by rfl)) y
  dsimp only [kernelRun0_C.sl.r_167, kernelRun0_C.sl.r_168, kernelRun0_C.sl.r_169, kernelRun0_C.sl.r_170, kernelRun0_C.sl.r_171, kernelRun0_C.sl.r_31, kernelRun0_C.sl.r_32, kernelRun0_C.sl.r_33, kernelRun0_C.sl.r_34, kernelRun0_C.sl.r_44, kernelRun0_C.sl.r_45, k0_pay394, k0_pay395, k0_pay396, k0_pay397, k0_pay398, k0_pay400, k0_pay61, k0_pay62, k0_pay63, k0_pay64, k0_pay86, k0_pay87]
  refine ⟨?_, ?_, ?_, ?_, trivial⟩
  iterate 2 exact pc2 (e := .bf16) (A.gO t) _ _ (by decide) _ (v := k0_pay1 (F := Ideal) (k0_pay400 _ _ _ _)) rfl (out_pc A t _
    (rd2 (e := .f32) arg3 harg3 _ _ O.h2 _ _ _) (rc2 (e := .f32) arg15 _ _ m8 _ _ _)
    (rd2 (e := .f32) arg10 harg10 _ _ O.h9 _ _ _) (rd2 (e := .f32) arg11 harg11 _ _ O.h10 _ _ _))
  · exact pc2 (e := .bf16) (A.gO t) _ _ (by decide) _ (v := k0_pay1 (F := Ideal) (k0_pay400 _ _ _ _)) rfl (out_pc A t _
      (rd2 (e := .f32) arg3 harg3 _ _ O.h2 _ _ _) (rc2_above (e := .f32) arg15 _ _ 256 m5 _ _ (by decide) _)
      (rd2 (e := .f32) arg10 harg10 _ _ O.h9 _ _ _) (rd2 (e := .f32) arg11 harg11 _ _ O.h10 _ _ _))
  · exact pc2 (e := .bf16) (A.gO t) _ _ (by decide) _ (v := k0_pay1 (F := Ideal) (k0_pay400 _ _ _ _)) rfl (out_pc A t _
      (rd2 (e := .f32) arg3 harg3 _ _ O.h2 _ _ _) (rc2_above (e := .f32) arg15 _ _ 256 m4 _ _ (by decide) _)
      (rd2 (e := .f32) arg10 harg10 _ _ O.h9 _ _ _) (rd2 (e := .f32) arg11 harg11 _ _ O.h10 _ _ _))

end
end Cert.Mixer.CaseC
end
-- ==== Proof.Point.lean ====
/- What one grid step leaves, given its windows of the arguments and what the step before left. -/
module

public import proofs.«01_k».proof.Proof.Gen.KernelIdeal.Value
public import proofs.«01_k».proof.Proof.RowsC
public import proofs.«01_k».proof.Proof.RowsB
public import proofs.«01_k».proof.Proof.OutC

@[expose] public section

set_option maxRecDepth 16384
set_option maxHeartbeats 1000000

noncomputable section

namespace Cert.Mixer

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N) (A : Par) (s : ℕ)
  (I : Inp A s (iblk m c 0 t) (iblk m c 1 t) (iblk m c 4 t) (iblk m c 5 t) (iblk m c 6 t) (iblk m c 7 t) (iblk m c 8 t))

/-! The first step of all. -/
section A
variable (h0 : t.val % 17 = 0) (h1 : t.val % 8 = 0) (h8 : s % 8 = 0)
include I h0 h1 h8

theorem ca_A (y : S8x1024.Idx) : (outsAt0 m c t.val t.isLt).2.2.2 y = A.gcn s (y 0) (y 1) := by
  rw [outsAt0_A m c t h0 h1]
  refine (View.read_writes_junk_apply_eq_canon (Val := Elt Ideal) VS0_4 y _).trans ?_
  refine ((CaseC.ca_chain A s I h8).head y).trans ?_
  have h4 : ((y 1 : Fin 1024) : ℕ) < 1024 := (y 1).2
  rw [Par.gK, if_pos (by omega)]

theorem st_A (y : S4x128x256.Idx) : (outsAt0 m c t.val t.isLt).2.2.1 y = A.sv s 8 (y 0) (y 1) (y 2) := by
  rw [outsAt0_A m c t h0 h1]
  refine (View.read_writes_junk_apply_eq_canon (Val := Elt Ideal) VS0_3 y _).trans ?_
  refine ((CaseC.st_chain A s I h8).head y).trans ?_
  have h4 : ((y 0 : Fin 4) : ℕ) < 4 := (y 0).2
  rw [Par.gSt, show (0 + 32 + 3 - ((y 0 : Fin 4) : ℕ)) / 4 = 8 from by omega]

theorem y_A (y : S512x2048.Idx) : (outsAt0 m c t.val t.isLt).2.1 y = A.gY s (y 0) (y 1) := by
  rw [outsAt0_A m c t h0 h1]
  refine (View.read_writes_junk_apply_eq_canon (Val := Elt Ideal) VS0_0 y _).trans ?_
  exact View.canon_append_of_piecesOf (fun y : S512x2048.Idx => A.gY s (y 0) (y 1)) (kernelRun0_A.sl.HS0_1 (F := Ideal)) _
    (CaseC.y_pieces A s I h8) y (View.cover_of_tiledBy _ ![64, 128] (by sl_kernel_rfl) y)
end A

/-! A step that goes on with a sequence. -/
section B
variable (h0 : ¬t.val % 17 = 0) (h1 : ¬t.val % 8 = 0)
  (hS : ∀ y, (outsAt0 m c (t.val - 1) (Nat.lt_of_le_of_lt (Nat.sub_le _ _) t.isLt)).2.2.1 y = A.sv s 0 (y 0) (y 1) (y 2))
  (hC : ∀ y, (outsAt0 m c (t.val - 1) (Nat.lt_of_le_of_lt (Nat.sub_le _ _) t.isLt)).2.2.2 y = A.gcar s (y 0) (y 1))
include I h0 h1

theorem ca_B (y : S8x1024.Idx) : (outsAt0 m c t.val t.isLt).2.2.2 y = A.gcn s (y 0) (y 1) := by
  rw [outsAt0_B m c t h0 h1]
  refine (View.read_writes_junk_apply_eq_canon (Val := Elt Ideal) VS0_4 y _).trans ?_
  exact CaseB.ca_at A s I y

include hS

theorem st_B (y : S4x128x256.Idx) : (outsAt0 m c t.val t.isLt).2.2.1 y = A.sv s 8 (y 0) (y 1) (y 2) := by
  rw [outsAt0_B m c t h0 h1]
  refine (View.read_writes_junk_apply_eq_canon (Val := Elt Ideal) VS0_3 y _).trans ?_
  refine ((CaseB.st_chain A s I hS).head y).trans ?_
  have h4 : ((y 0 : Fin 4) : ℕ) < 4 := (y 0).2
  rw [Par.gSt, show (4 + 28 + 3 - ((y 0 : Fin 4) : ℕ)) / 4 = 8 from by omega]

include hC

theorem y_B (y : S512x2048.Idx) : (outsAt0 m c t.val t.isLt).2.1 y = A.gY s (y 0) (y 1) := by
  rw [outsAt0_B m c t h0 h1]
  refine (View.read_writes_junk_apply_eq_canon (Val := Elt Ideal) VS0_0 y _).trans ?_
  exact CaseB.y_at A s I hS hC y
end B

/-! A step at the start of a sequence. -/
section C
variable (h0 : ¬t.val % 17 = 0) (h1 : t.val % 8 = 0) (h8 : s % 8 = 0)
include I h0 h1 h8

theorem ca_C (y : S8x1024.Idx) : (outsAt0 m c t.val t.isLt).2.2.2 y = A.gcn s (y 0) (y 1) := by
  rw [outsAt0_C m c t h0 h1]
  refine (View.read_writes_junk_apply_eq_canon (Val := Elt Ideal) VS0_4 y _).trans ?_
  refine ((CaseC.ca_chain A s I h8).head y).trans ?_
  have h4 : ((y 1 : Fin 1024) : ℕ) < 1024 := (y 1).2
  rw [Par.gK, if_pos (by omega)]

theorem st_C (y : S4x128x256.Idx) : (outsAt0 m c t.val t.isLt).2.2.1 y = A.sv s 8 (y 0) (y 1) (y 2) := by
  rw [outsAt0_C m c t h0 h1]
  refine (View.read_writes_junk_apply_eq_canon (Val := Elt Ideal) VS0_3 y _).trans ?_
  refine ((CaseC.st_chain A s I h8).head y).trans ?_
  have h4 : ((y 0 : Fin 4) : ℕ) < 4 := (y 0).2
  rw [Par.gSt, show (0 + 32 + 3 - ((y 0 : Fin 4) : ℕ)) / 4 = 8 from by omega]

theorem y_C (y : S512x2048.Idx) : (outsAt0 m c t.val t.isLt).2.1 y = A.gY s (y 0) (y 1) := by
  rw [outsAt0_C m c t h0 h1]
  refine (View.read_writes_junk_apply_eq_canon (Val := Elt Ideal) VS0_0 y _).trans ?_
  exact CaseC.y_at A s I h8 y
end C

end Cert.Mixer
end
end
-- ==== Proof.PointOut.lean ====
/- What one grid step leaves, given its windows of the arguments and what the step before left. -/
module

public import proofs.«01_k».proof.Proof.Gen.KernelIdeal.Value
public import proofs.«01_k».proof.Proof.RowsC
public import proofs.«01_k».proof.Proof.RowsB
public import proofs.«01_k».proof.Proof.OutC

@[expose] public section

set_option maxRecDepth 16384
set_option maxHeartbeats 1000000

noncomputable section

namespace Cert.Mixer

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N) (A : Par) (s : ℕ)
  (I : Inp A s (iblk m c 0 t) (iblk m c 1 t) (iblk m c 4 t) (iblk m c 5 t) (iblk m c 6 t) (iblk m c 7 t) (iblk m c 8 t))

/-! What a step writes to the result. -/
section
variable (O : Outp A s (iblk m c 2 t) (iblk m c 3 t) (iblk m c 9 t) (iblk m c 10 t)
  (outsAt0 m c (t.val - 1) (Nat.lt_of_le_of_lt (Nat.sub_le _ _) t.isLt)).2.1) (h0 : ¬t.val % 17 = 0)
include O h0

theorem out_C (h1 : t.val % 8 = 0) (y : S512x2048.Idx) : (outsAt0 m c t.val t.isLt).1 y = A.gO s (y 0) (y 1) := by
  rw [outsAt0_C m c t h0 h1]
  dsimp only [out0_C_11]
  rw [View.read_writes_junk_apply_eq_canon (Val := Elt Ideal) VO0_11 y]
  exact CaseC.out_at A s O y

theorem out_B (h1 : ¬t.val % 8 = 0) (y : S512x2048.Idx) : (outsAt0 m c t.val t.isLt).1 y = A.gO s (y 0) (y 1) := by
  rw [outsAt0_B m c t h0 h1]
  dsimp only [out0_B_11]
  rw [View.read_writes_junk_apply_eq_canon (Val := Elt Ideal) VO0_11 y]
  exact CaseC.out_at A s O y
end

end Cert.Mixer
end
end
-- ==== Proof.Result.lean ====
/- The kernel's result array as one function of the arguments: what every grid step leaves, by induction on the steps, and
   the blocks that the steps write back. -/
module

public import proofs.«01_k».proof.Proof.Windows
public import proofs.«01_k».proof.Proof.Point
public import proofs.«01_k».proof.Proof.PointOut

@[expose] public section

set_option maxRecDepth 16384
set_option maxHeartbeats 400000

noncomputable section

namespace Cert.Mixer

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The state after a block is the state before the next one of the same sequence. -/
theorem Par.sv_next (A : Par) (n h d e : ℕ) (hn : ¬(n + 1) % 8 = 0) : A.sv (n + 1) 0 h d e = A.sv n 8 h d e := by
  rw [Par.sv, if_pos rfl, Par.sv, if_neg (by decide), show 8 * (n + 1) = (8 * n + 7) + 1 from by omega, Par.S_succ _ _ _ _ _ (by omega),
    show 8 * n + 8 - 1 = 8 * n + 7 from by omega]

/-- The rows carried out of a block are those the next block of the same sequence carries in. -/
theorem Par.gcar_next (A : Par) (n r k : ℕ) (hn : ¬(n + 1) % 8 = 0) : A.gcar (n + 1) r k = A.gcn n r k := by
  rw [Par.gcar, if_neg hn, Par.gcn, show 512 * (n + 1) + r - 8 = 512 * n + (504 + r) from by omega]

/-- What the steps of the first sixteen blocks leave: the columns, the state, the carried rows. -/
theorem held : ∀ (n : ℕ) (hn : n < cfg0.N), n ≤ 15 →
    (∀ y, (outsAt0 m c n hn).2.1 y = (par m c).gY n (y 0) (y 1))
    ∧ (∀ y, (outsAt0 m c n hn).2.2.1 y = (par m c).sv n 8 (y 0) (y 1) (y 2))
    ∧ (∀ y, (outsAt0 m c n hn).2.2.2 y = (par m c).gcn n (y 0) (y 1)) := by
  intro n
  induction n with
  | zero =>
    intro hn _
    have I := inp m c ⟨0, hn⟩
    exact ⟨y_A m c ⟨0, hn⟩ (par m c) 0 I rfl rfl rfl, st_A m c ⟨0, hn⟩ (par m c) 0 I rfl rfl rfl, ca_A m c ⟨0, hn⟩ (par m c) 0 I rfl rfl rfl⟩
  | succ n ih =>
    intro hn h15
    obtain ⟨_, hS, hC⟩ := ih (Nat.lt_of_succ_lt hn) (by omega)
    have I := inp m c ⟨n + 1, hn⟩
    rw [show min (⟨n + 1, hn⟩ : Fin cfg0.N).val 15 = n + 1 from Nat.min_eq_left h15] at I
    have h0 : ¬(⟨n + 1, hn⟩ : Fin cfg0.N).val % 17 = 0 := by show ¬(n + 1) % 17 = 0; omega
    by_cases h1 : (n + 1) % 8 = 0
    · exact ⟨y_C m c ⟨n + 1, hn⟩ (par m c) (n + 1) I h0 h1 h1, st_C m c ⟨n + 1, hn⟩ (par m c) (n + 1) I h0 h1 h1,
        ca_C m c ⟨n + 1, hn⟩ (par m c) (n + 1) I h0 h1 h1⟩
    · have hS' := fun y => (hS y).trans ((par m c).sv_next n (y 0) (y 1) (y 2) h1).symm
      have hC' := fun y => (hC y).trans ((par m c).gcar_next n (y 0) (y 1) h1).symm
      exact ⟨y_B m c ⟨n + 1, hn⟩ (par m c) (n + 1) I h0 h1 hS' hC', st_B m c ⟨n + 1, hn⟩ (par m c) (n + 1) I h0 h1 hS',
        ca_B m c ⟨n + 1, hn⟩ (par m c) (n + 1) I h0 h1⟩

/-- The result array. -/
def result : Vec Ideal S8192x2048 .bf16 := fun i => (par m c).out (i 0) (i 1)

/-- The block that a step writes back. -/
theorem out_block (n : ℕ) (hn : n + 1 < cfg0.N) (y : S512x2048.Idx) :
    (outsAt0 m c (n + 1) hn).1 y = (par m c).gO n (y 0) (y 1) := by
  have hN : n + 1 < 17 := hn
  have hy := (held m c n (Nat.lt_of_succ_lt hn) (by omega)).1
  have O := outp m c ⟨n + 1, hn⟩ _ hy
  have h0 : ¬(⟨n + 1, hn⟩ : Fin cfg0.N).val % 17 = 0 := by show ¬(n + 1) % 17 = 0; omega
  by_cases h1 : (n + 1) % 8 = 0
  · exact out_C m c ⟨n + 1, hn⟩ (par m c) n O h0 h1 y
  · exact out_B m c ⟨n + 1, hn⟩ (par m c) n O h0 h1 y

/-- A step's block of the result array. -/
theorem flushed_result (t : Fin cfg0.N) (hf : (cfg0.win 11).flush t = true) :
    (dats m 0 c).flushed 11 t = ((cfg0.win 11).blk t).view.read (Elt Ideal) (result m c) := by
  rw [Value.flushed11]
  obtain ⟨n, hn⟩ := t
  have hne : n ≠ 0 := by rw [flush_w11] at hf; exact of_decide_eq_true hf
  obtain ⟨e0, e1⟩ := idx_w11 ⟨n, hn⟩
  cases n with
  | zero => exact absurd rfl hne
  | succ n =>
    funext j
    have q0 : ((((cfg0.win 11).blk ⟨n + 1, hn⟩).view.emb j) 0).val = 512 * n + (j 0).val := by
      show win0_11.index ⟨n + 1, hn⟩ (0 : Fin 2) * 512 + 1 * (j 0).val = _
      rw [e0]; show (n + 1 - 1) * 512 + 1 * (j 0).val = _; omega
    have q1 : ((((cfg0.win 11).blk ⟨n + 1, hn⟩).view.emb j) 1).val = (j 1).val := by
      show win0_11.index ⟨n + 1, hn⟩ (1 : Fin 2) * 2048 + 1 * (j 1).val = _; rw [e1]; omega
    refine (out_block m c n hn j).trans ?_
    show (par m c).gO n (j 0) (j 1) = (par m c).out ((((cfg0.win 11).blk ⟨n + 1, hn⟩).view.emb j) 0).val ((((cfg0.win 11).blk ⟨n + 1, hn⟩).view.emb j) 1).val
    rw [q0, q1]
    rfl

/-- Every element of the result array is in a block that is written back. -/
theorem covered (i : S8192x2048.Idx) : ∃ t : Fin cfg0.N, (cfg0.win 11).flush t = true ∧ i ∈ ((cfg0.win 11).blk t).view.set := by
  have h0 : (i 0).val < 8192 := (i 0).2
  have h1 : (i 1).val < 2048 := (i 1).2
  have ht : (i 0).val / 512 + 1 < 17 := by omega
  let t : Fin cfg0.N := ⟨(i 0).val / 512 + 1, ht⟩
  obtain ⟨e0, e1⟩ := idx_w11 t
  refine ⟨t, by rw [flush_w11]; exact decide_eq_true (Nat.succ_ne_zero _), ?_⟩
  let j : S512x2048.Idx := ix2 (⟨(i 0).val % 512, Nat.mod_lt _ (by decide)⟩ : Fin 512) (⟨(i 1).val, h1⟩ : Fin 2048)
  have h : ((cfg0.win 11).blk t).view.emb j = i := by
    funext a; apply Fin.ext
    match a with
    | ⟨0, _⟩ =>
      show win0_11.index t (0 : Fin 2) * 512 + 1 * ((i 0).val % 512) = (i 0).val
      rw [e0]; show ((i 0).val / 512 + 1 - 1) * 512 + 1 * ((i 0).val % 512) = (i 0).val; omega
    | ⟨1, _⟩ =>
      show win0_11.index t (1 : Fin 2) * 2048 + 1 * (i 1).val = (i 1).val
      rw [e1]; omega
  have hm := ((cfg0.win 11).blk t).view.emb_mem_set j
  rwa [h] at hm

/-- The result array after the run. -/
theorem final : (dats m 0 c).arrAt 11 cfg0.N = result m c :=
  (dats m 0 c).arrAt_eq_of_cover 11 (result m c) (fun t hf => flushed_result m c t hf) covered

end Cert.Mixer
end
-- ==== Proof.Loop.lean ====
/-
The reference's loop: one application of the loop body to the buffers is one `step` of the state, so the loop's final
buffers are the state number 64 of the sequence that starts from the values before the loop.
-/
module

public import proofs.«01_k».proof.Proof.Gen.ReferenceIdeal.Run
public import proofs.«01_k».proof.Proof.Gen.ReferenceIdeal.Step

@[expose] public section

noncomputable section

namespace Cert.Mixer.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The state that the loop's buffers hold. -/
def stOf (V0 : Valuation τ sig (Elt F)) : State F where
  main_v114_0 := V0 (Proc.devRef .tc main_v114_0)
  main_v114_1 := V0 (Proc.devRef .tc main_v114_1)
  main_v114_2 := V0 (Proc.devRef .tc main_v114_2)
  main_v114_3 := V0 (Proc.devRef .tc main_v114_3)
  main_v114_4 := V0 (Proc.devRef .tc main_v114_4)
  main_v114_5 := V0 (Proc.devRef .tc main_v114_5)
  main_v114_6 := V0 (Proc.devRef .tc main_v114_6)
  main_v114_7 := V0 (Proc.devRef .tc main_v114_7)
  main_v114_9 := V0 (Proc.devRef .tc main_v114_9)
  main_v114_10 := V0 (Proc.devRef .tc main_v114_10)
  main_v114_11 := V0 (Proc.devRef .tc main_v114_11)

/-- The buffers hold the state `s` and the trip's number `j`. -/
structure Holding (V0 : Valuation τ sig (Elt F)) (s : State F) (j : ℕ) : Prop where
  st : stOf V0 = s
  nr : V0 (Proc.devRef .tc main_v114_8) = constantI S_ 32 (BitVec.ofNat 32 j)

variable {V0 : Valuation τ sig (Elt F)} {s : State F} {j : ℕ}

set_option maxRecDepth 16384 in
theorem res_conv (h : V0 (Proc.devRef .tc main_v114_8) = constantI S_ 32 (BitVec.ofNat 32 j)) :
    res_main_while0b_v161 V0 = Cert.ReferenceIdeal.Step.b47 j (stOf V0) := by
  unfold res_main_while0b_v161
  rw [h]
  rfl

set_option maxRecDepth 16384 in
theorem res_o (h : V0 (Proc.devRef .tc main_v114_8) = constantI S_ 32 (BitVec.ofNat 32 j)) :
    res_main_while0b_v163 V0 = Cert.ReferenceIdeal.Step.b49 j (stOf V0) := by
  unfold res_main_while0b_v163
  rw [h]
  rfl

set_option maxRecDepth 16384 in
/-- One trip's new recurrent state. -/
theorem trip_state (h : V0 (Proc.devRef .tc main_v114_8) = constantI S_ 32 (BitVec.ofNat 32 j)) :
    step_main_v114_9 V0 = (step j (stOf V0)).main_v114_9 := by
  unfold step_main_v114_9
  rw [h]
  rfl

set_option maxRecDepth 16384 in
/-- One trip's rows of the attention half. -/
theorem trip_gla (h : V0 (Proc.devRef .tc main_v114_8) = constantI S_ 32 (BitVec.ofNat 32 j)) :
    step_main_v114_10 V0 = (step j (stOf V0)).main_v114_10 := by
  unfold step_main_v114_10
  rw [res_o h, h]
  rfl

set_option maxRecDepth 16384 in
/-- One trip's rows of the convolution half. -/
theorem trip_conv (h : V0 (Proc.devRef .tc main_v114_8) = constantI S_ 32 (BitVec.ofNat 32 j)) :
    step_main_v114_11 V0 = (step j (stOf V0)).main_v114_11 := by
  unfold step_main_v114_11
  rw [res_conv h, h]
  rfl

/-- One trip's new number. -/
theorem trip_nr (h : V0 (Proc.devRef .tc main_v114_8) = constantI S_ 32 (BitVec.ofNat 32 j)) :
    step_main_v114_8 V0 = constantI S_ 32 (BitVec.ofNat 32 (j + 1)) := by
  unfold step_main_v114_8
  rw [h]
  funext i
  show BitVec.ofNat 32 j + 1#32 = BitVec.ofNat 32 (j + 1)
  simp only [BitVec.ofNat_add]

theorem st_ext {s t : State F} (e0 : s.main_v114_0 = t.main_v114_0) (e1 : s.main_v114_1 = t.main_v114_1) (e2 : s.main_v114_2 = t.main_v114_2) (e3 : s.main_v114_3 = t.main_v114_3) (e4 : s.main_v114_4 = t.main_v114_4) (e5 : s.main_v114_5 = t.main_v114_5) (e6 : s.main_v114_6 = t.main_v114_6) (e7 : s.main_v114_7 = t.main_v114_7) (e9 : s.main_v114_9 = t.main_v114_9) (e10 : s.main_v114_10 = t.main_v114_10) (e11 : s.main_v114_11 = t.main_v114_11) : s = t := by
  cases s; cases t; simp only at *; subst_vars; rfl

/-- One trip of the loop is one `step`. -/
theorem holding_step (h : Holding V0 s j) : Holding (STEP V0) (step j s) (j + 1) := by
  obtain ⟨rfl, hn⟩ := h
  refine ⟨st_ext (STEP_main_v114_0 V0) (STEP_main_v114_1 V0) (STEP_main_v114_2 V0) (STEP_main_v114_3 V0) (STEP_main_v114_4 V0) (STEP_main_v114_5 V0) (STEP_main_v114_6 V0) (STEP_main_v114_7 V0) ((STEP_main_v114_9 V0).trans (trip_state hn)) ((STEP_main_v114_10 V0).trans (trip_gla hn)) ((STEP_main_v114_11 V0).trans (trip_conv hn)), (STEP_main_v114_8 V0).trans (trip_nr hn)⟩

/-- The result's expression over the state after the loop. -/
theorem out_holding (h : Holding V0 s j) {x_main_arg2 : (⟨S2x4096x2048, .f32⟩ : BufTy).Contents (Elt F)} (h_main_arg2 : V0 (Proc.devRef .tc main_arg2) = x_main_arg2) {x_main_arg3 : (⟨S2048x2048, .bf16⟩ : BufTy).Contents (Elt F)} (h_main_arg3 : V0 (Proc.devRef .tc main_arg3) = x_main_arg3) {x_main_arg9 : (⟨S1x2048, .f32⟩ : BufTy).Contents (Elt F)} (h_main_arg9 : V0 (Proc.devRef .tc main_arg9) = x_main_arg9) {x_main_arg10 : (⟨S1x2048, .f32⟩ : BufTy).Contents (Elt F)} (h_main_arg10 : V0 (Proc.devRef .tc main_arg10) = x_main_arg10) : out_main_v152 V0 = Cert.ReferenceIdeal.Step.R_main_v152 s x_main_arg2 x_main_arg3 x_main_arg9 x_main_arg10 := by
  obtain ⟨rfl, -⟩ := h
  subst h_main_arg2 h_main_arg3 h_main_arg9 h_main_arg10
  rfl

/-- The state before the loop. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

variable (m : (ℓ : Loc nD τ sig) → Buf (Elt F) ℓ) (c : Dev nD)

set_option maxRecDepth 65536 in
set_option maxHeartbeats 1100000 in
theorem entry_holding : Holding (entryContents preI m c) (initState m c) 0 := by
  constructor
  · apply st_ext <;> (unfold stOf; simp only [entryContents, afterL_cons, afterL_nil]; after_reads_simp) <;> rfl
  · simp only [entryContents, afterL_cons, afterL_nil]; after_reads_simp <;> rfl

/-- After `k` trips the buffers hold state number `k`. -/
theorem holding_iter (it : ℕ → State F) (h0 : it 0 = initState m c) (hs : ∀ n, it (n + 1) = step n (it n)) :
    ∀ k, Holding (STEP^[k] (entryContents preI m c)) (it k) k
  | 0 => h0 ▸ entry_holding m c
  | k + 1 => by
    rw [Function.iterate_succ_apply', hs k]
    exact holding_step (holding_iter it h0 hs k)

/-- Every run of the reference ends with the result of state number 64 and its arguments unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v152) = Cert.ReferenceIdeal.Step.R_main_v152 (it c 64) (m ((c.tc : Thread nD τ).loc main_arg2)) (m ((c.tc : Thread nD τ).loc main_arg3)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holding_iter m c (it c) (h0 c) (hs c) 64
    ⟨(h c).1.trans (out_holding hk (iter_main_arg2 m c 64) (iter_main_arg3 m c 64) (iter_main_arg9 m c 64) (iter_main_arg10 m c 64)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.Mixer.Loop

end
-- ==== Proof.RefMath.lean ====
/- Identities of the extended reals that the reference's spelling of the decay and of the keys needs. -/
module

public import proofs.«01_k».proof.Proof.Spec
public import Idealize.ShloMosaic.Lib.Claim
public import Idealize.ShloMosaic.Lib.IdealHost
public import Idealize.ShloMosaic.Lib.Pointwise

@[expose] public section

set_option maxRecDepth 16384
set_option maxHeartbeats 400000

noncomputable section

namespace Cert.Mixer.Ref

open Idealize.ShloMosaic

theorem ofBits_16 : Ideal.ofBits .f32 0x41800000#32 = ((16 : ℝ) : EReal) := by
  simp [Ideal.ofBits, Ideal.ieee, -EReal.coe_mul]; norm_num

theorem ofBits_16th : Ideal.ofBits .f32 0x3D800000#32 = (((16 : ℝ)⁻¹ : ℝ) : EReal) := by
  simp [Ideal.ofBits, Ideal.ieee, -EReal.coe_mul]; norm_num

theorem div_16 (x : EReal) : Ideal.div x (Ideal.ofBits .f32 0x41800000#32) = x * Ideal.ofBits .f32 0x3D800000#32 := by
  rw [ofBits_16, ofBits_16th, Ideal.div, if_neg (by norm_cast), EReal.coe_inv]

theorem exp_nonneg (x : EReal) : 0 ≤ Ideal.exp x := by
  induction x using EReal.rec with
  | bot => exact le_refl _
  | top => exact le_top
  | coe r => exact EReal.coe_nonneg.mpr (Real.exp_pos r).le

theorem exp_bot : Ideal.exp ⊥ = 0 := rfl
theorem exp_top : Ideal.exp ⊤ = ⊤ := rfl
theorem log_coe (r : ℝ) : Ideal.log (r : EReal) = if r ≤ 0 then ⊥ else (Real.log r : EReal) := rfl

theorem log1p_exp_ne_bot (x : EReal) : Ideal.log (1 + Ideal.exp x) ≠ ⊥ := by
  induction x using EReal.rec with
  | bot =>
    rw [show Ideal.exp ⊥ = 0 from rfl, add_zero, show (1 : EReal) = ((1 : ℝ) : EReal) from rfl, log_coe]
    norm_num
  | top => rw [show Ideal.exp ⊤ = ⊤ from rfl, show (1 : EReal) + ⊤ = ⊤ from rfl]; exact top_ne_bot
  | coe r =>
    rw [show Ideal.exp (r : EReal) = ((Real.exp r : ℝ) : EReal) from rfl, show (1 : EReal) + ((Real.exp r : ℝ) : EReal) = ((1 + Real.exp r : ℝ) : EReal) from rfl, log_coe,
      if_neg (by have := Real.exp_pos r; linarith)]
    exact EReal.coe_ne_bot _

theorem neg_max_neg (z : EReal) : -(max (-z) 0) = min z 0 := by
  rcases le_total z 0 with h | h
  · rw [max_eq_left (by simpa using h), neg_neg, min_eq_left h]
  · rw [max_eq_right (by simpa using h), neg_zero, min_eq_right h]

/-- The logarithm of the sigmoid, from the reference's spelling of it. -/
theorem logSig_ref (z : EReal) :
    Ideal.div (-(max (-z) 0 + Ideal.log1p (Ideal.exp (-FloatOps.absf (F := Ideal) (φ := .f32) (-z))))) (Ideal.ofBits FTy.f32 1098907648#32) = logSig z := by
  rw [div_16, logSig, ← neg_max_neg]
  have ha : FloatOps.absf (F := Ideal) (φ := .f32) (-z) = FloatOps.absf (F := Ideal) (φ := .f32) z := by
    show max (-z) (- -z) = max z (-z)
    rw [neg_neg, max_comm]
  rw [ha, zero_sub, Ideal.log1p]
  congr 1
  refine EReal.neg_add (Or.inl ?_) (Or.inr (log1p_exp_ne_bot _))
  exact (lt_of_lt_of_le EReal.bot_lt_zero (le_max_right _ _)).ne'

/-- The exponential of a difference. -/
theorem exp_sub' (x y : EReal) : Ideal.exp (x - y) = Ideal.exp (0 - y) * Ideal.exp x := by
  rw [zero_sub, mul_comm]
  induction x using EReal.rec with
  | bot => rw [EReal.bot_sub, exp_bot, zero_mul]
  | top =>
    induction y using EReal.rec with
    | bot => rw [show (⊤ : EReal) - ⊥ = ⊤ from rfl, EReal.neg_bot, exp_top, EReal.top_mul_top]
    | top => rw [show (⊤ : EReal) - ⊤ = ⊥ from rfl, EReal.neg_top, exp_bot, mul_zero]
    | coe r =>
      rw [EReal.top_sub_coe, ← EReal.coe_neg]
      exact (EReal.top_mul_of_pos (EReal.coe_pos.mpr (Real.exp_pos _))).symm
  | coe s =>
    induction y using EReal.rec with
    | bot =>
      simp only [EReal.coe_sub_bot, EReal.neg_bot]
      exact (EReal.mul_top_of_pos (EReal.coe_pos.mpr (Real.exp_pos _))).symm
    | top => rw [show (s : EReal) - ⊤ = ⊥ from rfl, EReal.neg_top, exp_bot, mul_zero]
    | coe r =>
      rw [← EReal.coe_sub, ← EReal.coe_neg]
      show ((Real.exp _ : ℝ) : EReal) = ((Real.exp _ : ℝ) : EReal) * ((Real.exp _ : ℝ) : EReal)
      rw [← EReal.coe_mul, ← Real.exp_add, sub_eq_add_neg]

end Cert.Mixer.Ref
end
-- ==== Proof.RefCols.lean ====
/- The reference's set-up values at an index, first part: the projection's columns, the convolution, the decay, the gate. -/
module

public import proofs.«01_k».proof.Proof.Gen.ReferenceIdeal.Step
public import proofs.«01_k».proof.Proof.RefMath
public import Idealize.ShloMosaic.Lib.Claim
public import Idealize.ShloMosaic.Lib.Pointwise

@[expose] public section

set_option maxRecDepth 16384
set_option maxHeartbeats 400000

noncomputable section

namespace Cert.Mixer.Ref

open Idealize.ShloMosaic Cert.ReferenceIdeal Cert.ReferenceIdeal.Gen Cert.ReferenceIdeal.Step

/-- Two rows of padding put in front. -/
theorem pad_two (x : Vec Ideal S2x4096x1024 .f32) (z : Vec Ideal S_ .f32) (hp : S2x4096x1024.Pads (![0, 2, 0] : Fin 3 → Nat) ![0, 0, 0] ![0, 0, 0] S2x4098x1024) (hu : 0 < S_.numel)
    (b : Fin 2) (r : Fin 4098) (k : Fin 1024) :
    pad S2x4098x1024 ![0, 2, 0] ![0, 0, 0] ![0, 0, 0] x z hp hu (ix3 b r k) = if h : 2 ≤ r.val then x (ix3 b ⟨r.val - 2, by omega⟩ k) else z (Shape.Idx.first hu) := by
  have hr := r.isLt
  rw [pad_apply]
  by_cases h : 2 ≤ r.val
  · rw [dif_pos h, dif_pos]
    · refine congrArg x (funext fun a => Fin.ext ?_)
      match a with
      | ⟨0, _⟩ => show (b.val - 0) / (0 + 1) = b.val; omega
      | ⟨1, _⟩ => show (r.val - 2) / (0 + 1) = r.val - 2; omega
      | ⟨2, _⟩ => show (k.val - 0) / (0 + 1) = k.val; omega
    · intro a
      match a with
      | ⟨0, _⟩ => show 0 ≤ b.val ∧ (b.val - 0) % (0 + 1) = 0 ∧ (b.val - 0) / (0 + 1) < 2; omega
      | ⟨1, _⟩ => show 2 ≤ r.val ∧ (r.val - 2) % (0 + 1) = 0 ∧ (r.val - 2) / (0 + 1) < 4096; omega
      | ⟨2, _⟩ => show 0 ≤ k.val ∧ (k.val - 0) % (0 + 1) = 0 ∧ (k.val - 0) / (0 + 1) < 1024; omega
  · rw [dif_neg h, dif_neg]
    intro hin
    have h0 : 2 ≤ r.val ∧ (r.val - 2) % (0 + 1) = 0 ∧ (r.val - 2) / (0 + 1) < 4096 := hin 1
    omega

/-- The arrays that the reference's set-up reads, by row and column. -/
structure Args (A : Par) (x0 : Vec Ideal S8192x6144 .bf16) (x1 : Vec Ideal S8192x16 .bf16) (x4 : Vec Ideal S1x3x1024 .f32)
    (x5 : Vec Ideal S1x1024 .f32) (x6 : Vec Ideal S1x16x512 .f32) (x7 : Vec Ideal S1x512 .f32) (x8 : Vec Ideal S1x1024 .f32) : Prop where
  h0 : ∀ (r : Fin 8192) (k : Fin 6144), x0 (ix2 r k) = A.P r k
  h1 : ∀ (r : Fin 8192) (k : Fin 16), x1 (ix2 r k) = A.Z r k
  h4 : ∀ (i : Fin 3) (k : Fin 1024), x4 (ix3 (0 : Fin 1) i k) = A.cw i k
  h5 : ∀ k : Fin 1024, x5 (ix2 (0 : Fin 1) k) = A.cg k
  h6 : ∀ (i : Fin 16) (k : Fin 512), x6 (ix3 (0 : Fin 1) i k) = A.wg i k
  h7 : ∀ k : Fin 512, x7 (ix2 (0 : Fin 1) k) = A.gb k
  h8 : ∀ k : Fin 1024, x8 (ix2 (0 : Fin 1) k) = A.gg k

variable {A : Par} {x0 : Vec Ideal S8192x6144 .bf16} {x1 : Vec Ideal S8192x16 .bf16} {x4 : Vec Ideal S1x3x1024 .f32}
  {x5 : Vec Ideal S1x1024 .f32} {x6 : Vec Ideal S1x16x512 .f32} {x7 : Vec Ideal S1x512 .f32} {x8 : Vec Ideal S1x1024 .f32}
  (I : Args A x0 x1 x4 x5 x6 x7 x8)
include I

theorem v1_at (b : Fin 2) (r : Fin 4096) (k : Fin 6144) : A_main_v1 (F := Ideal) x0 x1 x4 x5 x6 x7 x8 (ix3 b r k) = A.P (b.val * 4096 + r) k := by
  pointwise [A_main_v1, A_main_v0]
  rw [I.h0]

theorem v2_at (b : Fin 2) (r : Fin 4096) (k : Fin 1024) : A_main_v2 (F := Ideal) x0 x1 x4 x5 x6 x7 x8 (ix3 b r k) = A.P (b.val * 4096 + r) k := by
  pointwise [A_main_v2]
  rw [v1_at I]

theorem v9_at (b : Fin 2) (r : Fin 4096) (k : Fin 1024) : A_main_v9 (F := Ideal) x0 x1 x4 x5 x6 x7 x8 (ix3 b r k) = A.hh (b.val * 4096 + r) k := by
  pointwise [A_main_v9, A_main_v3, A_main_v4]
  rw [v1_at I, v1_at I]
  rfl

theorem v39_at (b : Fin 2) (r : Fin 4096) (k : Fin 512) : A_main_v39 (F := Ideal) x0 x1 x4 x5 x6 x7 x8 (ix3 b r k) = A.lin (b.val * 4096 + r) k + A.gb k := by
  pointwise [A_main_v39, A_main_v38, A_main_v37, A_main_v36, A_main_v35, A_main_v34, A_main_v33, A_main_v32]
  rw [I.h7]
  simp only [I.h1, I.h6]
  rfl

theorem v56_at (b : Fin 2) (r : Fin 4096) (k : Fin 512) : A_main_v56 (F := Ideal) x0 x1 x4 x5 x6 x7 x8 (ix3 b r k) = A.ls (b.val * 4096 + r) k := by
  pointwise [A_main_v56, A_main_v54, A_main_v53, A_main_v52, A_main_v51, A_main_v50, A_main_v49, A_main_v48, A_main_v47, A_main_v45, A_main_v44, A_main_v42, A_main_v40,
    K_main_v41, K_main_v43, K_main_v46, K_main_v55, K_main_cst, K_main_cst_0]
  rw [v39_at I, if_neg (fun h => h rfl)]
  exact logSig_ref _

theorem v61_at (b : Fin 2) (r : Fin 4096) (k : Fin 1024) : A_main_v61 (F := Ideal) x0 x1 x4 x5 x6 x7 x8 (ix3 b r k)
    = A.gg k * (A.P (b.val * 4096 + r) (5120 + k) * Ideal.logistic (A.P (b.val * 4096 + r) (5120 + k))) := by
  pointwise [A_main_v61, A_main_v60, A_main_v59, A_main_v58, A_main_v57, A_main_call1_v5, A_main_call1_v3, A_main_call1_v1, A_main_call1_v0, A_main_v8,
    K_main_call1_v2, K_main_call1_v4, K_main_call1_cst, K_main_call1_cst_0]
  rw [v1_at I, I.h8]
  rfl

/-- The rows two earlier, and nothing before the first. -/
theorem v11_at (b : Fin 2) (r : Fin 4098) (k : Fin 1024) : A_main_v11 (F := Ideal) x0 x1 x4 x5 x6 x7 x8 (ix3 b r k)
    = if r.val < 2 then 0 else A.hh (b.val * 4096 + (r - 2)) k := by
  rw [A_main_v11, pad_two]
  by_cases h : 2 ≤ r.val
  · rw [dif_pos h, if_neg (by omega), v9_at I]
  · rw [dif_neg h, if_pos (by omega)]
    pointwise [K_main_call0_v0, K_main_c]
    exact (show (((0#32 : BitVec 32).toInt : ℝ) : EReal) = 0 by simp)

/-- The convolution over three rows. -/
theorem v31_at (b : Fin 2) (r : Fin 4096) (k : Fin 1024) : A_main_v31 (F := Ideal) x0 x1 x4 x5 x6 x7 x8 (ix3 b r k)
    = A.cw 2 k * A.hh (b.val * 4096 + r) k + A.cw 1 k * A.hs 1 (b.val * 4096 + r) k + A.cw 0 k * A.hs 2 (b.val * 4096 + r) k := by
  have hr := r.isLt
  have h2 : (if r.val < 2 then 0 else A.hh (b.val * 4096 + (r - 2)) k) = A.hs 2 (b.val * 4096 + r) k := by
    unfold Par.hs
    rw [show (b.val * 4096 + r.val) % 4096 = r.val by omega]
    split
    · rfl
    · rw [show b.val * 4096 + r.val - 2 = b.val * 4096 + (r.val - 2) by omega]
  have h1 : (if 1 + r.val < 2 then 0 else A.hh (b.val * 4096 + (1 + r - 2)) k) = A.hs 1 (b.val * 4096 + r) k := by
    unfold Par.hs
    rw [show (b.val * 4096 + r.val) % 4096 = r.val by omega]
    by_cases h : r.val < 1
    · rw [if_pos h, if_pos (by omega)]
    · rw [if_neg h, if_neg (by omega), show b.val * 4096 + r.val - 1 = b.val * 4096 + (1 + r.val - 2) by omega]
  have h0 : (if 2 + r.val < 2 then 0 else A.hh (b.val * 4096 + (2 + r - 2)) k) = A.hh (b.val * 4096 + r) k := by
    rw [if_neg (by omega), show 2 + r.val - 2 = r.val by omega]
  pointwise [A_main_v31, A_main_v30, A_main_v29, A_main_v28, A_main_v27, A_main_v26, A_main_v25, A_main_v24, A_main_v23, A_main_v22, A_main_v21, A_main_v20,
    A_main_v19, A_main_v18, A_main_v17, A_main_v16, A_main_v15, A_main_v14, A_main_v13, A_main_v12, A_main_v10]
  simp only [v11_at I, I.h4]
  rw [h0, h1, h2, add_comm, add_comm (_ * _) (_ * _), add_assoc]
  rfl

end Cert.Mixer.Ref
end
-- ==== Proof.RefSum.lean ====
/- The running sum down the rows of a chunk, as the reference writes it: a window of the whole chunk, padded in front. -/
module

public import proofs.«01_k».proof.Proof.Gen.ReferenceIdeal.Step
public import proofs.«01_k».proof.Proof.RefMath

@[expose] public section

set_option maxRecDepth 16384
set_option maxHeartbeats 400000

noncomputable section

namespace Cert.Mixer.Ref

open Idealize.ShloMosaic Cert.ReferenceIdeal Cert.ReferenceIdeal.Gen

/-- A fold that adds is a sum. -/
theorem foldl_add_eq {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- Of the 64 positions of the window at row `t` the last `t + 1` lie inside. -/
theorem sum_win (f : ℕ → EReal) (t : ℕ) (ht : t < 64) :
    ∑ w ∈ Finset.range 64, (if 63 ≤ t + w then f (t + w - 63) else 0) = ∑ i ∈ Finset.range (t + 1), f i := by
  obtain ⟨d, hd⟩ : ∃ d, 63 = t + d := ⟨63 - t, by omega⟩
  rw [show 64 = d + (t + 1) by omega, Finset.sum_range_add, Finset.sum_eq_zero, zero_add]
  · refine Finset.sum_congr rfl fun i _ => ?_
    rw [if_pos (by omega), show t + (d + i) - 63 = i by omega]
  · intro w hw
    have := Finset.mem_range.1 hw
    rw [if_neg (by omega)]

/-- The window. -/
abbrev Win : Shape := ⟨5, ![1, 1, 1, 64, 1]⟩

theorem win_numel : Win.numel = 64 := by decide

/-- The row of a window's position. -/
theorem win_row (n : Fin Win.numel) : (Win.rowMajor.symm n 3).val = n.val := by
  have h := Shape.rowMajor_val_five (Win.rowMajor.symm n)
  rw [Equiv.apply_symm_apply] at h
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  have h4 : (Win.rowMajor.symm n 4).val < 1 := (Win.rowMajor.symm n 4).isLt
  simp at h
  exact h.symm

theorem runsum (x : Vec Ideal S2x4x64x64x128 .f32) (z : Vec Ideal S_ .f32) (hp : S2x4x64x64x128.ReduceWindows (![1, 1, 1, 64, 1] : Fin 5 → ℕ) ![1, 1, 1, 1, 1] ![0, 0, 0, 63, 0] ![0, 0, 0, 0, 0] S2x4x64x64x128)
    (hu : 0 < S_.numel) (hz : z (Shape.Idx.first hu) = 0) (b : Fin 2) (h : Fin 4) (n t : Fin 64) (d : Fin 128) (f : ℕ → EReal)
    (hf : ∀ i : Fin 64, x (ix5 b h n i d) = f i) :
    Host.reduceWindowAdd (F := Ideal) (φ := .f32) ![1, 1, 1, 64, 1] ![1, 1, 1, 1, 1] ![0, 0, 0, 63, 0] ![0, 0, 0, 0, 0] x z hp hu (ix5 b h n t d)
      = ∑ i ∈ Finset.range (t.val + 1), f i := by
  have hb := b.isLt
  have hh := h.isLt
  have hn := n.isLt
  have ht := t.isLt
  have hd := d.isLt
  rw [← sum_win f t.val t.isLt, Finset.sum_range]
  show Host.reduceWindow (fun p q : EReal => p + q) ![1, 1, 1, 64, 1] ![1, 1, 1, 1, 1] ![0, 0, 0, 63, 0] ![0, 0, 0, 0, 0] x (fun _ => z (Shape.Idx.first hu)) hp hu (ix5 b h n t d) = _
  unfold Host.reduceWindow
  refine (foldl_add_eq _ _ _).trans ?_
  rw [hz, zero_add, ← List.ofFn_eq_map, List.sum_ofFn]
  refine Fintype.sum_equiv (finCongr win_numel) _ _ fun w => ?_
  have hw := win_row w
  have g0 : (Win.rowMajor.symm w 0).val < 1 := (Win.rowMajor.symm w 0).isLt
  have g1 : (Win.rowMajor.symm w 1).val < 1 := (Win.rowMajor.symm w 1).isLt
  have g2 : (Win.rowMajor.symm w 2).val < 1 := (Win.rowMajor.symm w 2).isLt
  have g4 : (Win.rowMajor.symm w 4).val < 1 := (Win.rowMajor.symm w 4).isLt
  show _ = if 63 ≤ t.val + w.val then f (t.val + w.val - 63) else 0
  have hw64 : w.val < 64 := lt_of_lt_of_eq w.isLt win_numel
  by_cases hc : 63 ≤ t.val + w.val
  · rw [if_pos hc, dif_pos]
    · rw [← hf ⟨t.val + w.val - 63, by omega⟩]
      refine congrArg x (funext fun a => Fin.ext ?_)
      match a with
      | ⟨0, _⟩ => show b.val * 1 + (Win.rowMajor.symm w 0).val - 0 = b.val; omega
      | ⟨1, _⟩ => show h.val * 1 + (Win.rowMajor.symm w 1).val - 0 = h.val; omega
      | ⟨2, _⟩ => show n.val * 1 + (Win.rowMajor.symm w 2).val - 0 = n.val; omega
      | ⟨3, _⟩ => show t.val * 1 + (Win.rowMajor.symm w 3).val - 63 = t.val + w.val - 63; omega
      | ⟨4, _⟩ => show d.val * 1 + (Win.rowMajor.symm w 4).val - 0 = d.val; omega
    · intro a
      match a with
      | ⟨0, _⟩ => show 0 ≤ b.val * 1 + (Win.rowMajor.symm w 0).val ∧ b.val * 1 + (Win.rowMajor.symm w 0).val - 0 < 2; omega
      | ⟨1, _⟩ => show 0 ≤ h.val * 1 + (Win.rowMajor.symm w 1).val ∧ h.val * 1 + (Win.rowMajor.symm w 1).val - 0 < 4; omega
      | ⟨2, _⟩ => show 0 ≤ n.val * 1 + (Win.rowMajor.symm w 2).val ∧ n.val * 1 + (Win.rowMajor.symm w 2).val - 0 < 64; omega
      | ⟨3, _⟩ => show 63 ≤ t.val * 1 + (Win.rowMajor.symm w 3).val ∧ t.val * 1 + (Win.rowMajor.symm w 3).val - 63 < 64; omega
      | ⟨4, _⟩ => show 0 ≤ d.val * 1 + (Win.rowMajor.symm w 4).val ∧ d.val * 1 + (Win.rowMajor.symm w 4).val - 0 < 128; omega
  · rw [if_neg hc, dif_neg]
    intro hin
    have g3 : 63 ≤ t.val * 1 + (Win.rowMajor.symm w 3).val ∧ t.val * 1 + (Win.rowMajor.symm w 3).val - 63 < 64 := hin 3
    omega

end Cert.Mixer.Ref
end
-- ==== Proof.RefChunk.lean ====
/- The reference's set-up values at an index, second part: queries, keys, values and decays by chunk. -/
module

public import proofs.«01_k».proof.Proof.RefCols
public import proofs.«01_k».proof.Proof.RefSum

@[expose] public section

set_option maxRecDepth 16384
set_option maxHeartbeats 400000

noncomputable section

namespace Cert.Mixer.Ref

open Idealize.ShloMosaic Cert.ReferenceIdeal Cert.ReferenceIdeal.Gen Cert.ReferenceIdeal.Step

theorem tok_eq (b n t : ℕ) : b * 4096 + (n * 64 + t) = 64 * (64 * b + n) + t := by omega

theorem qcolumn_eq (h d : ℕ) : h * 128 + d = 128 * h + d := by omega

theorem vcolumn_eq (h e : ℕ) : h * 256 + e = 256 * h + e := by omega

/-- The mask's comparison of a query's row with a key's. -/
theorem sge_eq (t s : Fin 64) : IntOp.cmpi .sge (IntOp.addi (BitVec.ofNat 32 t) 0#32) (BitVec.ofNat 32 s) = if s.val ≤ t.val then 1#1 else 0#1 := by
  revert t s; decide +kernel

variable {A : Par} {x0 : Vec Ideal S8192x6144 .bf16} {x1 : Vec Ideal S8192x16 .bf16} {x4 : Vec Ideal S1x3x1024 .f32}
  {x5 : Vec Ideal S1x1024 .f32} {x6 : Vec Ideal S1x16x512 .f32} {x7 : Vec Ideal S1x512 .f32} {x8 : Vec Ideal S1x1024 .f32}
  (I : Args A x0 x1 x4 x5 x6 x7 x8)
include I

theorem v72_at (b : Fin 2) (h : Fin 4) (n t : Fin 64) (d : Fin 128) : A_main_v72 (F := Ideal) x0 x1 x4 x5 x6 x7 x8 (ix5 b h n t d)
    = A.P (64 * (64 * b + n) + t) (3072 + (128 * h + d)) * Ideal.ofBits .f32 0x3DB504F3#32 := by
  pointwise [A_main_v72, A_main_v70, A_main_v69, A_main_v62, A_main_v5, K_main_v71, K_main_cst_1]
  rw [v1_at I]
  show A.P (b.val * 4096 + (n.val * 64 + t.val)) (3072 + (h.val * 128 + d.val)) * _ = _
  rw [tok_eq, qcolumn_eq]

theorem v74_at (b : Fin 2) (h : Fin 4) (n t : Fin 64) (d : Fin 128) : A_main_v74 (F := Ideal) x0 x1 x4 x5 x6 x7 x8 (ix5 b h n t d)
    = A.P (64 * (64 * b + n) + t) (3584 + (128 * h + d)) := by
  pointwise [A_main_v74, A_main_v73, A_main_v63, A_main_v6]
  rw [v1_at I]
  show A.P (b.val * 4096 + (n.val * 64 + t.val)) (3584 + (h.val * 128 + d.val)) = _
  rw [tok_eq, qcolumn_eq]

theorem v76_at (b : Fin 2) (h : Fin 4) (n t : Fin 64) (e : Fin 256) : A_main_v76 (F := Ideal) x0 x1 x4 x5 x6 x7 x8 (ix5 b h n t e)
    = A.P (64 * (64 * b + n) + t) (4096 + 256 * h + e) := by
  pointwise [A_main_v76, A_main_v75, A_main_v64, A_main_v7]
  rw [v1_at I]
  show A.P (b.val * 4096 + (n.val * 64 + t.val)) (4096 + (h.val * 256 + e.val)) = _
  rw [tok_eq, vcolumn_eq, add_assoc]

theorem v78_at (b : Fin 2) (h : Fin 4) (n t : Fin 64) (d : Fin 128) : A_main_v78 (F := Ideal) x0 x1 x4 x5 x6 x7 x8 (ix5 b h n t d)
    = A.ls (64 * (64 * b + n) + t) (128 * h + d) := by
  pointwise [A_main_v78, A_main_v77, A_main_v65]
  rw [v56_at I]
  show A.ls (b.val * 4096 + (n.val * 64 + t.val)) (h.val * 128 + d.val) = _
  rw [tok_eq, qcolumn_eq]

/-- The decays' running sums. -/
theorem v79_at (b : Fin 2) (h : Fin 4) (n t : Fin 64) (d : Fin 128) : A_main_v79 (F := Ideal) x0 x1 x4 x5 x6 x7 x8 (ix5 b h n t d)
    = A.bc (64 * b + n) t (128 * h + d) := by
  rw [A_main_v79]
  refine runsum _ _ _ _ ?_ b h n t d (fun i => A.ls (64 * (64 * b.val + n.val) + i) (128 * h.val + d.val)) fun i => v78_at I b h n i d
  exact Ideal.ofBits_zero_f32

theorem v82_at (b : Fin 2) (h : Fin 4) (n t : Fin 64) (d : Fin 128) : A_main_v82 (F := Ideal) x0 x1 x4 x5 x6 x7 x8 (ix5 b h n t d)
    = A.qd (64 * b + n) t (128 * h + d) := by
  pointwise [A_main_v82, A_main_v81]
  rw [v72_at I, v79_at I]
  rfl

theorem v85_at (b : Fin 2) (h : Fin 4) (n t : Fin 64) (d : Fin 128) : A_main_v85 (F := Ideal) x0 x1 x4 x5 x6 x7 x8 (ix5 b h n t d)
    = A.ki (64 * b + n) t (128 * h + d) := by
  pointwise [A_main_v85, A_main_v84, A_main_v83]
  rw [v74_at I, v79_at I, Par.ki, zero_sub]

theorem v89_at (b : Fin 2) (h : Fin 4) (n t : Fin 64) (d : Fin 128) : A_main_v89 (F := Ideal) x0 x1 x4 x5 x6 x7 x8 (ix5 b h n t d)
    = A.ke (64 * b + n) t (128 * h + d) := by
  pointwise [A_main_v89, A_main_v88, A_main_v87, A_main_v86, A_main_v80]
  rw [v74_at I, v79_at I, v79_at I]
  refine (congrArg _ (exp_sub' _ _)).trans ?_
  rw [← mul_assoc]
  rfl

/-- The mask keeps the rows not later than the query's. -/
theorem v93_at (b : Fin 2) (h : Fin 4) (n t s : Fin 64) : A_main_v93 (F := Ideal) x0 x1 x4 x5 x6 x7 x8 (ix5 b h n t s)
    = A.sc (64 * b + n) h t s := by
  pointwise [A_main_v93, A_main_v92, K_main_call4_v1, K_main_v91, K_main_call3_v4, K_main_call3_v3, K_main_call3_v2, K_main_call3_v1, K_main_call3_v0,
    K_main_call3_c, K_main_v90, K_main_c_2, K_main_call3_v5, K_main_call3_c_0, K_main_call4_v2, K_main_call4_v0, K_main_cst_3]
  simp only [v82_at I, v85_at I]
  rw [sge_eq, Par.sc]
  by_cases hs : s.val ≤ t.val
  · simp only [if_pos hs]; rfl
  · simp only [if_neg hs]; exact Ideal.ofBits_zero_f32

theorem v94_at (b : Fin 2) (h : Fin 4) (n t : Fin 64) (e : Fin 256) : A_main_v94 (F := Ideal) x0 x1 x4 x5 x6 x7 x8 (ix5 b h n t e)
    = ∑ s : Fin 64, A.sc (64 * b + n) h t s * A.P (64 * (64 * b + n) + s) (4096 + 256 * h + e) := by
  pointwise [A_main_v94]
  simp only [v93_at I, v76_at I]

theorem v95_at (b : Fin 2) (h : Fin 4) (n : Fin 64) (d : Fin 128) (e : Fin 256) : A_main_v95 (F := Ideal) x0 x1 x4 x5 x6 x7 x8 (ix5 b h n d e)
    = A.dl (64 * b + n) h d e := by
  pointwise [A_main_v95]
  simp only [v89_at I, v76_at I]
  rfl

/-! The scan's inputs, chunk by chunk. -/

theorem v101_at (n : Fin 64) (b : Fin 2) (h : Fin 4) (d : Fin 128) : A_main_v101 (F := Ideal) x0 x1 x4 x5 x6 x7 x8 (ix4 n b h d)
    = A.dec (64 * b + n) (128 * h + d) := by
  pointwise [A_main_v101, A_main_v97, A_main_v96, A_main_v80]
  rw [v79_at I]
  rfl

theorem v102_at (n : Fin 64) (b : Fin 2) (h : Fin 4) (d : Fin 128) (e : Fin 256) : A_main_v102 (F := Ideal) x0 x1 x4 x5 x6 x7 x8 (ix5 n b h d e)
    = A.dl (64 * b + n) h d e := by
  pointwise [A_main_v102]
  exact v95_at I b h n d e

theorem v103_at (n : Fin 64) (b : Fin 2) (h : Fin 4) (t : Fin 64) (d : Fin 128) : A_main_v103 (F := Ideal) x0 x1 x4 x5 x6 x7 x8 (ix5 n b h t d)
    = A.qd (64 * b + n) t (128 * h + d) := by
  pointwise [A_main_v103]
  exact v82_at I b h n t d

theorem v104_at (n : Fin 64) (b : Fin 2) (h : Fin 4) (t : Fin 64) (e : Fin 256) : A_main_v104 (F := Ideal) x0 x1 x4 x5 x6 x7 x8 (ix5 n b h t e)
    = ∑ s : Fin 64, A.sc (64 * b + n) h t s * A.P (64 * (64 * b + n) + s) (4096 + 256 * h + e) := by
  pointwise [A_main_v104]
  exact v94_at I b h n t e

theorem v105_at (n : Fin 64) (b : Fin 2) (h : Fin 4) (t : Fin 64) (e : Fin 256) : A_main_v105 (F := Ideal) x0 x1 x4 x5 x6 x7 x8 (ix5 n b h t e)
    = A.gg (256 * h + e) * (A.P (64 * (64 * b + n) + t) (5120 + 256 * h + e) * Ideal.logistic (A.P (64 * (64 * b + n) + t) (5120 + 256 * h + e))) := by
  pointwise [A_main_v105, A_main_v100, A_main_v99, A_main_v66]
  rw [v61_at I]
  show A.gg (h.val * 256 + e.val) * (A.P (b.val * 4096 + (n.val * 64 + t.val)) (5120 + (h.val * 256 + e.val)) * Ideal.logistic (A.P (b.val * 4096 + (n.val * 64 + t.val)) (5120 + (h.val * 256 + e.val)))) = _
  rw [tok_eq, vcolumn_eq, ← add_assoc]

theorem v107_at (n : Fin 64) (b : Fin 2) (t : Fin 64) (g : Fin 8) (j : Fin 128) : A_main_v107 (F := Ideal) x0 x1 x4 x5 x6 x7 x8 (ix5 n b t g j)
    = A.cw 2 (128 * g + j) * A.hh (64 * (64 * b + n) + t) (128 * g + j) + A.cw 1 (128 * g + j) * A.hs 1 (64 * (64 * b + n) + t) (128 * g + j)
      + A.cw 0 (128 * g + j) * A.hs 2 (64 * (64 * b + n) + t) (128 * g + j) := by
  pointwise [A_main_v107, A_main_v106]
  rw [v31_at I]
  show A.cw 2 (g.val * 128 + j.val) * A.hh (b.val * 4096 + (n.val * 64 + t.val)) (g.val * 128 + j.val) + A.cw 1 (g.val * 128 + j.val) * A.hs 1 (b.val * 4096 + (n.val * 64 + t.val)) (g.val * 128 + j.val) + A.cw 0 (g.val * 128 + j.val) * A.hs 2 (b.val * 4096 + (n.val * 64 + t.val)) (g.val * 128 + j.val) = _
  rw [tok_eq, qcolumn_eq]

theorem v109_at (n : Fin 64) (b : Fin 2) (t : Fin 64) (g : Fin 8) (j : Fin 128) : A_main_v109 (F := Ideal) x0 x1 x4 x5 x6 x7 x8 (ix5 n b t g j)
    = A.P (64 * (64 * b + n) + t) (128 * g + j) := by
  pointwise [A_main_v109, A_main_v108]
  rw [v2_at I]
  show A.P (b.val * 4096 + (n.val * 64 + t.val)) (g.val * 128 + j.val) = _
  rw [tok_eq, qcolumn_eq]

theorem v111_at (n : Fin 64) (b : Fin 2) (t : Fin 64) (g : Fin 8) (j : Fin 128) : A_main_v111 (F := Ideal) x0 x1 x4 x5 x6 x7 x8 (ix5 n b t g j)
    = A.cg (128 * g + j) := by
  pointwise [A_main_v111, A_main_v110, A_main_v68, A_main_v67]
  rw [I.h5]
  show A.cg (g.val * 128 + j.val) = _
  rw [qcolumn_eq]

end Cert.Mixer.Ref
end
-- ==== Proof.RefSlice.lean ====
/- Slices of a stack of chunks, read and written at the loop's counter. -/
module

public import Idealize.ShloMosaic.Lib.Claim
public import Idealize.ShloMosaic.Lib.Pointwise

@[expose] public section

set_option maxRecDepth 16384
set_option maxHeartbeats 400000

noncomputable section

namespace Cert.Mixer.Ref

open Idealize.ShloMosaic

/-- The counter as a number. -/
theorem toInt_small (j : ℕ) (hj : j < 64) : (BitVec.ofNat 32 j).toInt = j := by
  have h : ∀ k : Fin 64, (BitVec.ofNat 32 k.val).toInt = k.val := by decide +kernel
  exact h ⟨j, hj⟩

/-- One chunk of a stack of rank four. -/
theorem slice4 {B C D : ℕ} (x : (⟨4, ![64, B, C, D]⟩ : Shape).Idx → EReal) (start : Fin 4 → ℤ)
    (hs : (⟨4, ![64, B, C, D]⟩ : Shape).Slices (fun _ => 0) ⟨4, ![1, B, C, D]⟩) (j : ℕ) (hj : j < 64)
    (h0 : start 0 = j) (h1 : start 1 = 0) (h2 : start 2 = 0) (h3 : start 3 = 0) (z : Fin 1) (b : Fin B) (c : Fin C) (d : Fin D) :
    Host.dynamicSlice ⟨4, ![1, B, C, D]⟩ x start hs (ix4 z b c d) = x (ix4 ⟨j, hj⟩ b c d) := by
  have e0 := Host.clampedStart_of_le (s := ⟨4, ![64, B, C, D]⟩) (t := ⟨4, ![1, B, C, D]⟩) rfl start 0 j h0 (by show j + 1 ≤ 64; omega)
  have e1 := Host.clampedStart_of_le (s := ⟨4, ![64, B, C, D]⟩) (t := ⟨4, ![1, B, C, D]⟩) rfl start 1 0 h1 (by show 0 + B ≤ B; omega)
  have e2 := Host.clampedStart_of_le (s := ⟨4, ![64, B, C, D]⟩) (t := ⟨4, ![1, B, C, D]⟩) rfl start 2 0 h2 (by show 0 + C ≤ C; omega)
  have e3 := Host.clampedStart_of_le (s := ⟨4, ![64, B, C, D]⟩) (t := ⟨4, ![1, B, C, D]⟩) rfl start 3 0 h3 (by show 0 + D ≤ D; omega)
  have hz := z.isLt
  rw [Host.dynamicSlice_apply]
  refine congrArg x (funext fun a => Fin.ext ?_)
  match a with
  | ⟨0, _⟩ => show Host.clampedStart ⟨4, ![64, B, C, D]⟩ ⟨4, ![1, B, C, D]⟩ rfl start 0 + z.val = j; omega
  | ⟨1, _⟩ => show Host.clampedStart ⟨4, ![64, B, C, D]⟩ ⟨4, ![1, B, C, D]⟩ rfl start 1 + b.val = b.val; omega
  | ⟨2, _⟩ => show Host.clampedStart ⟨4, ![64, B, C, D]⟩ ⟨4, ![1, B, C, D]⟩ rfl start 2 + c.val = c.val; omega
  | ⟨3, _⟩ => show Host.clampedStart ⟨4, ![64, B, C, D]⟩ ⟨4, ![1, B, C, D]⟩ rfl start 3 + d.val = d.val; omega

/-- One chunk of a stack of rank five. -/
theorem slice5 {B C D E : ℕ} (x : (⟨5, ![64, B, C, D, E]⟩ : Shape).Idx → EReal) (start : Fin 5 → ℤ)
    (hs : (⟨5, ![64, B, C, D, E]⟩ : Shape).Slices (fun _ => 0) ⟨5, ![1, B, C, D, E]⟩) (j : ℕ) (hj : j < 64)
    (h0 : start 0 = j) (h1 : start 1 = 0) (h2 : start 2 = 0) (h3 : start 3 = 0) (h4 : start 4 = 0)
    (z : Fin 1) (b : Fin B) (c : Fin C) (d : Fin D) (e : Fin E) :
    Host.dynamicSlice ⟨5, ![1, B, C, D, E]⟩ x start hs (ix5 z b c d e) = x (ix5 ⟨j, hj⟩ b c d e) := by
  have e0 := Host.clampedStart_of_le (s := ⟨5, ![64, B, C, D, E]⟩) (t := ⟨5, ![1, B, C, D, E]⟩) rfl start 0 j h0 (by show j + 1 ≤ 64; omega)
  have e1 := Host.clampedStart_of_le (s := ⟨5, ![64, B, C, D, E]⟩) (t := ⟨5, ![1, B, C, D, E]⟩) rfl start 1 0 h1 (by show 0 + B ≤ B; omega)
  have e2 := Host.clampedStart_of_le (s := ⟨5, ![64, B, C, D, E]⟩) (t := ⟨5, ![1, B, C, D, E]⟩) rfl start 2 0 h2 (by show 0 + C ≤ C; omega)
  have e3 := Host.clampedStart_of_le (s := ⟨5, ![64, B, C, D, E]⟩) (t := ⟨5, ![1, B, C, D, E]⟩) rfl start 3 0 h3 (by show 0 + D ≤ D; omega)
  have e4 := Host.clampedStart_of_le (s := ⟨5, ![64, B, C, D, E]⟩) (t := ⟨5, ![1, B, C, D, E]⟩) rfl start 4 0 h4 (by show 0 + E ≤ E; omega)
  have hz := z.isLt
  rw [Host.dynamicSlice_apply]
  refine congrArg x (funext fun a => Fin.ext ?_)
  match a with
  | ⟨0, _⟩ => show Host.clampedStart ⟨5, ![64, B, C, D, E]⟩ ⟨5, ![1, B, C, D, E]⟩ rfl start 0 + z.val = j; omega
  | ⟨1, _⟩ => show Host.clampedStart ⟨5, ![64, B, C, D, E]⟩ ⟨5, ![1, B, C, D, E]⟩ rfl start 1 + b.val = b.val; omega
  | ⟨2, _⟩ => show Host.clampedStart ⟨5, ![64, B, C, D, E]⟩ ⟨5, ![1, B, C, D, E]⟩ rfl start 2 + c.val = c.val; omega
  | ⟨3, _⟩ => show Host.clampedStart ⟨5, ![64, B, C, D, E]⟩ ⟨5, ![1, B, C, D, E]⟩ rfl start 3 + d.val = d.val; omega
  | ⟨4, _⟩ => show Host.clampedStart ⟨5, ![64, B, C, D, E]⟩ ⟨5, ![1, B, C, D, E]⟩ rfl start 4 + e.val = e.val; omega

/-- A stack of rank five with one chunk written. -/
theorem update5 {B C D E : ℕ} (x : (⟨5, ![64, B, C, D, E]⟩ : Shape).Idx → EReal) (v : (⟨5, ![1, B, C, D, E]⟩ : Shape).Idx → EReal) (start : Fin 5 → ℤ)
    (hs : (⟨5, ![64, B, C, D, E]⟩ : Shape).Slices (fun _ => 0) ⟨5, ![1, B, C, D, E]⟩) (j : ℕ) (hj : j < 64)
    (h0 : start 0 = j) (h1 : start 1 = 0) (h2 : start 2 = 0) (h3 : start 3 = 0) (h4 : start 4 = 0)
    (n : Fin 64) (b : Fin B) (c : Fin C) (d : Fin D) (e : Fin E) :
    Host.dynamicUpdateSlice x v start hs (ix5 n b c d e) = if n.val = j then v (ix5 (0 : Fin 1) b c d e) else x (ix5 n b c d e) := by
  have e0 := Host.clampedStart_of_le (s := ⟨5, ![64, B, C, D, E]⟩) (t := ⟨5, ![1, B, C, D, E]⟩) rfl start 0 j h0 (by show j + 1 ≤ 64; omega)
  have e1 := Host.clampedStart_of_le (s := ⟨5, ![64, B, C, D, E]⟩) (t := ⟨5, ![1, B, C, D, E]⟩) rfl start 1 0 h1 (by show 0 + B ≤ B; omega)
  have e2 := Host.clampedStart_of_le (s := ⟨5, ![64, B, C, D, E]⟩) (t := ⟨5, ![1, B, C, D, E]⟩) rfl start 2 0 h2 (by show 0 + C ≤ C; omega)
  have e3 := Host.clampedStart_of_le (s := ⟨5, ![64, B, C, D, E]⟩) (t := ⟨5, ![1, B, C, D, E]⟩) rfl start 3 0 h3 (by show 0 + D ≤ D; omega)
  have e4 := Host.clampedStart_of_le (s := ⟨5, ![64, B, C, D, E]⟩) (t := ⟨5, ![1, B, C, D, E]⟩) rfl start 4 0 h4 (by show 0 + E ≤ E; omega)
  have hb := b.isLt
  have hc := c.isLt
  have hd := d.isLt
  have he := e.isLt
  rw [Host.dynamicUpdateSlice_apply]
  by_cases h : n.val = j
  · rw [if_pos h, dif_pos]
    · refine congrArg v (funext fun a => Fin.ext ?_)
      match a with
      | ⟨0, _⟩ => show n.val - Host.clampedStart ⟨5, ![64, B, C, D, E]⟩ ⟨5, ![1, B, C, D, E]⟩ rfl start 0 = 0; omega
      | ⟨1, _⟩ => show b.val - Host.clampedStart ⟨5, ![64, B, C, D, E]⟩ ⟨5, ![1, B, C, D, E]⟩ rfl start 1 = b.val; omega
      | ⟨2, _⟩ => show c.val - Host.clampedStart ⟨5, ![64, B, C, D, E]⟩ ⟨5, ![1, B, C, D, E]⟩ rfl start 2 = c.val; omega
      | ⟨3, _⟩ => show d.val - Host.clampedStart ⟨5, ![64, B, C, D, E]⟩ ⟨5, ![1, B, C, D, E]⟩ rfl start 3 = d.val; omega
      | ⟨4, _⟩ => show e.val - Host.clampedStart ⟨5, ![64, B, C, D, E]⟩ ⟨5, ![1, B, C, D, E]⟩ rfl start 4 = e.val; omega
    · intro a
      match a with
      | ⟨0, _⟩ => show Host.clampedStart ⟨5, ![64, B, C, D, E]⟩ ⟨5, ![1, B, C, D, E]⟩ rfl start 0 ≤ n.val ∧ n.val < Host.clampedStart ⟨5, ![64, B, C, D, E]⟩ ⟨5, ![1, B, C, D, E]⟩ rfl start 0 + 1; omega
      | ⟨1, _⟩ => show Host.clampedStart ⟨5, ![64, B, C, D, E]⟩ ⟨5, ![1, B, C, D, E]⟩ rfl start 1 ≤ b.val ∧ b.val < Host.clampedStart ⟨5, ![64, B, C, D, E]⟩ ⟨5, ![1, B, C, D, E]⟩ rfl start 1 + B; omega
      | ⟨2, _⟩ => show Host.clampedStart ⟨5, ![64, B, C, D, E]⟩ ⟨5, ![1, B, C, D, E]⟩ rfl start 2 ≤ c.val ∧ c.val < Host.clampedStart ⟨5, ![64, B, C, D, E]⟩ ⟨5, ![1, B, C, D, E]⟩ rfl start 2 + C; omega
      | ⟨3, _⟩ => show Host.clampedStart ⟨5, ![64, B, C, D, E]⟩ ⟨5, ![1, B, C, D, E]⟩ rfl start 3 ≤ d.val ∧ d.val < Host.clampedStart ⟨5, ![64, B, C, D, E]⟩ ⟨5, ![1, B, C, D, E]⟩ rfl start 3 + D; omega
      | ⟨4, _⟩ => show Host.clampedStart ⟨5, ![64, B, C, D, E]⟩ ⟨5, ![1, B, C, D, E]⟩ rfl start 4 ≤ e.val ∧ e.val < Host.clampedStart ⟨5, ![64, B, C, D, E]⟩ ⟨5, ![1, B, C, D, E]⟩ rfl start 4 + E; omega
  · rw [if_neg h, dif_neg]
    intro hin
    have g : Host.clampedStart ⟨5, ![64, B, C, D, E]⟩ ⟨5, ![1, B, C, D, E]⟩ rfl start 0 ≤ n.val ∧ n.val < Host.clampedStart ⟨5, ![64, B, C, D, E]⟩ ⟨5, ![1, B, C, D, E]⟩ rfl start 0 + 1 := hin 0
    omega

end Cert.Mixer.Ref
end
-- ==== Proof.RefTrip.lean ====
/- One trip of the reference's scan, and the scan: the state before trip `k`, and the chunks that it has written. -/
module

public import proofs.«01_k».proof.Proof.RefChunk
public import proofs.«01_k».proof.Proof.RefSlice

@[expose] public section

set_option maxRecDepth 16384
set_option maxHeartbeats 400000

noncomputable section

namespace Cert.Mixer.Ref

open Idealize.ShloMosaic Cert.ReferenceIdeal Cert.ReferenceIdeal.Gen Cert.ReferenceIdeal.Step

/-- The scan's inputs, chunk by chunk. -/
structure Inputs (A : Par) (s : State Ideal) : Prop where
  dec : ∀ (n : Fin 64) (b : Fin 2) (h : Fin 4) (d : Fin 128), s.main_v114_0 (ix4 n b h d) = A.dec (64 * b + n) (128 * h + d)
  dl : ∀ (n : Fin 64) (b : Fin 2) (h : Fin 4) (d : Fin 128) (e : Fin 256), s.main_v114_1 (ix5 n b h d e) = A.dl (64 * b + n) h d e
  qd : ∀ (n : Fin 64) (b : Fin 2) (h : Fin 4) (t : Fin 64) (d : Fin 128), s.main_v114_2 (ix5 n b h t d) = A.qd (64 * b + n) t (128 * h + d)
  intra : ∀ (n : Fin 64) (b : Fin 2) (h : Fin 4) (t : Fin 64) (e : Fin 256), s.main_v114_3 (ix5 n b h t e)
    = ∑ s : Fin 64, A.sc (64 * b + n) h t s * A.P (64 * (64 * b + n) + s) (4096 + 256 * h + e)
  gate : ∀ (n : Fin 64) (b : Fin 2) (h : Fin 4) (t : Fin 64) (e : Fin 256), s.main_v114_4 (ix5 n b h t e)
    = A.gg (256 * h + e) * (A.P (64 * (64 * b + n) + t) (5120 + 256 * h + e) * Ideal.logistic (A.P (64 * (64 * b + n) + t) (5120 + 256 * h + e)))
  conv : ∀ (n : Fin 64) (b : Fin 2) (t : Fin 64) (g : Fin 8) (j : Fin 128), s.main_v114_5 (ix5 n b t g j)
    = A.cw 2 (128 * g + j) * A.hh (64 * (64 * b + n) + t) (128 * g + j) + A.cw 1 (128 * g + j) * A.hs 1 (64 * (64 * b + n) + t) (128 * g + j)
      + A.cw 0 (128 * g + j) * A.hs 2 (64 * (64 * b + n) + t) (128 * g + j)
  bgate : ∀ (n : Fin 64) (b : Fin 2) (t : Fin 64) (g : Fin 8) (j : Fin 128), s.main_v114_6 (ix5 n b t g j) = A.P (64 * (64 * b + n) + t) (128 * g + j)
  gain : ∀ (n : Fin 64) (b : Fin 2) (t : Fin 64) (g : Fin 8) (j : Fin 128), s.main_v114_7 (ix5 n b t g j) = A.cg (128 * g + j)

/-- What holds before trip `k`. -/
structure Inv (A : Par) (k : ℕ) (s : State Ideal) : Prop extends Inputs A s where
  state : k < 64 → ∀ (b : Fin 2) (h : Fin 4) (d : Fin 128) (e : Fin 256), s.main_v114_9 (ix4 b h d e) = A.S (64 * b + k) h d e
  attn : ∀ (n : Fin 64) (b : Fin 2) (h : Fin 4) (t : Fin 64) (e : Fin 256), n.val < k → s.main_v114_10 (ix5 n b h t e) = A.yg (64 * b + n) h t e
  cnv : ∀ (n : Fin 64) (b : Fin 2) (t : Fin 64) (g : Fin 8) (j : Fin 128), n.val < k → s.main_v114_11 (ix5 n b t g j) = A.yc (64 * (64 * b + n) + t) g j

section trip
variable {A : Par} {s : State Ideal} (I : Inputs A s) (k : ℕ) (hk : k < 64)
include I hk

theorem b4_at (b : Fin 2) (h : Fin 4) (d : Fin 128) : b4 (F := Ideal) k s (ix3 b h d) = A.dec (64 * b + k) (128 * h + d) := by
  pointwise [b4]
  exact (slice4 s.main_v114_0 _ _ k hk (toInt_small k hk) rfl rfl rfl 0 b h d).trans (I.dec ⟨k, hk⟩ b h d)

theorem b10_at (b : Fin 2) (h : Fin 4) (d : Fin 128) (e : Fin 256) : b10 (F := Ideal) k s (ix4 b h d e)
    = A.dl (64 * b + k) h d e := by
  pointwise [b10]
  exact (slice5 s.main_v114_1 _ _ k hk (toInt_small k hk) rfl rfl rfl rfl 0 b h d e).trans (I.dl ⟨k, hk⟩ b h d e)

theorem b16_at (b : Fin 2) (h : Fin 4) (t : Fin 64) (d : Fin 128) : b16 (F := Ideal) k s (ix4 b h t d)
    = A.qd (64 * b + k) t (128 * h + d) := by
  pointwise [b16]
  exact (slice5 s.main_v114_2 _ _ k hk (toInt_small k hk) rfl rfl rfl rfl 0 b h t d).trans (I.qd ⟨k, hk⟩ b h t d)

theorem b22_at (b : Fin 2) (h : Fin 4) (t : Fin 64) (e : Fin 256) : b22 (F := Ideal) k s (ix4 b h t e)
    = ∑ s : Fin 64, A.sc (64 * b + k) h t s * A.P (64 * (64 * b + k) + s) (4096 + 256 * h + e) := by
  pointwise [b22]
  exact (slice5 s.main_v114_3 _ _ k hk (toInt_small k hk) rfl rfl rfl rfl 0 b h t e).trans (I.intra ⟨k, hk⟩ b h t e)

theorem b28_at (b : Fin 2) (h : Fin 4) (t : Fin 64) (e : Fin 256) : b28 (F := Ideal) k s (ix4 b h t e)
    = A.gg (256 * h + e) * (A.P (64 * (64 * b + k) + t) (5120 + 256 * h + e) * Ideal.logistic (A.P (64 * (64 * b + k) + t) (5120 + 256 * h + e))) := by
  pointwise [b28]
  exact (slice5 s.main_v114_4 _ _ k hk (toInt_small k hk) rfl rfl rfl rfl 0 b h t e).trans (I.gate ⟨k, hk⟩ b h t e)

theorem b34_at (b : Fin 2) (t : Fin 64) (g : Fin 8) (j : Fin 128) : b34 (F := Ideal) k s (ix4 b t g j)
    = A.cw 2 (128 * g + j) * A.hh (64 * (64 * b + k) + t) (128 * g + j) + A.cw 1 (128 * g + j) * A.hs 1 (64 * (64 * b + k) + t) (128 * g + j) + A.cw 0 (128 * g + j) * A.hs 2 (64 * (64 * b + k) + t) (128 * g + j) := by
  pointwise [b34]
  exact (slice5 s.main_v114_5 _ _ k hk (toInt_small k hk) rfl rfl rfl rfl 0 b t g j).trans (I.conv ⟨k, hk⟩ b t g j)

theorem b40_at (b : Fin 2) (t : Fin 64) (g : Fin 8) (j : Fin 128) : b40 (F := Ideal) k s (ix4 b t g j)
    = A.P (64 * (64 * b + k) + t) (128 * g + j) := by
  pointwise [b40]
  exact (slice5 s.main_v114_6 _ _ k hk (toInt_small k hk) rfl rfl rfl rfl 0 b t g j).trans (I.bgate ⟨k, hk⟩ b t g j)

theorem b46_at (b : Fin 2) (t : Fin 64) (g : Fin 8) (j : Fin 128) : b46 (F := Ideal) k s (ix4 b t g j)
    = A.cg (128 * g + j) := by
  pointwise [b46]
  exact (slice5 s.main_v114_7 _ _ k hk (toInt_small k hk) rfl rfl rfl rfl 0 b t g j).trans (I.gain ⟨k, hk⟩ b t g j)

theorem b47_at (b : Fin 2) (t : Fin 64) (g : Fin 8) (j : Fin 128) : b47 (F := Ideal) k s (ix4 b t g j) = A.cv (64 * (64 * b + k) + t) (128 * g + j) := by
  pointwise [b47]
  rw [b40_at I k hk, b34_at I k hk]
  rfl

/-- The convolution's chunk. -/
theorem b81_at (b : Fin 2) (t : Fin 64) (g : Fin 8) (j : Fin 128) : b81 (F := Ideal) k s (ix4 b t g j) = A.yc (64 * (64 * b + k) + t) g j := by
  pointwise [b81, b80, b79, b78, b77, b76, b75, b74, b73, b72, b71, b70, b69, b68]
  simp only [b47_at I k hk, b46_at I k hk]
  rfl

variable (hS : ∀ (b : Fin 2) (h : Fin 4) (d : Fin 128) (e : Fin 256), s.main_v114_9 (ix4 b h d e) = A.S (64 * b + k) h d e)
include hS

/-- The next state. -/
theorem b53_at (b : Fin 2) (h : Fin 4) (d : Fin 128) (e : Fin 256) : b53 (F := Ideal) k s (ix4 b h d e) = A.T (64 * b + k) h d e := by
  pointwise [b53, b52, b51, b50]
  rw [b4_at I k hk, b10_at I k hk, hS]
  rfl

theorem b49_at (b : Fin 2) (h : Fin 4) (t : Fin 64) (e : Fin 256) : b49 (F := Ideal) k s (ix4 b h t e) = A.o (64 * b + k) h t e := by
  pointwise [b49, b48]
  simp only [b22_at I k hk, b16_at I k hk, hS]
  rfl

/-- The attention's chunk. -/
theorem b67_at (b : Fin 2) (h : Fin 4) (t : Fin 64) (e : Fin 256) : b67 (F := Ideal) k s (ix4 b h t e) = A.yg (64 * b + k) h t e := by
  pointwise [b67, b66, b65, b64, b63, b62, b61, b60, b59, b58, b57, b56, b55, b54]
  simp only [b49_at I k hk hS, b28_at I k hk]
  rw [← mul_assoc]
  rfl

end trip

/-- One trip keeps the invariant. -/
theorem inv_step (A : Par) (k : ℕ) (hk : k < 64) (s : State Ideal) (h : Inv A k s) : Inv A (k + 1) (step k s) where
  dec := h.dec
  dl := h.dl
  qd := h.qd
  intra := h.intra
  gate := h.gate
  conv := h.conv
  bgate := h.bgate
  gain := h.gain
  state := fun hk1 b g d e => by
    rw [step_main_v114_9, b53_at h.toInputs k hk (h.state hk)]
    exact (A.S_succ (64 * b.val + k) g d e (by omega)).symm
  attn := fun n b g t e hn => by
    rw [step_main_v114_10, b87]
    refine (update5 s.main_v114_10 (b82 k s) _ _ k hk (toInt_small k hk) rfl rfl rfl rfl n b g t e).trans ?_
    by_cases hc : n.val = k
    · rw [if_pos hc]
      pointwise [b82]
      rw [b67_at h.toInputs k hk (h.state hk), hc]
    · rw [if_neg hc]
      exact h.attn n b g t e (by omega)
  cnv := fun n b t g j hn => by
    rw [step_main_v114_11, b93]
    refine (update5 s.main_v114_11 (b88 k s) _ _ k hk (toInt_small k hk) rfl rfl rfl rfl n b t g j).trans ?_
    by_cases hc : n.val = k
    · rw [if_pos hc]
      pointwise [b88]
      rw [b81_at h.toInputs k hk, hc]
    · rw [if_neg hc]
      exact h.cnv n b t g j (by omega)

section
variable {A : Par} {x0 : Vec Ideal S8192x6144 .bf16} {x1 : Vec Ideal S8192x16 .bf16} {x4 : Vec Ideal S1x3x1024 .f32}
  {x5 : Vec Ideal S1x1024 .f32} {x6 : Vec Ideal S1x16x512 .f32} {x7 : Vec Ideal S1x512 .f32} {x8 : Vec Ideal S1x1024 .f32}
  (I : Args A x0 x1 x4 x5 x6 x7 x8)
include I

/-- The invariant before the first trip. -/
theorem inv_init : Inv A 0 (init (F := Ideal) x0 x1 x4 x5 x6 x7 x8) where
  dec := v101_at I
  dl := v102_at I
  qd := v103_at I
  intra := v104_at I
  gate := v105_at I
  conv := v107_at I
  bgate := v109_at I
  gain := v111_at I
  state := fun _ b h d e => by
    refine Eq.trans ?_ (A.S_zero (64 * b.val + 0) h d e (by omega)).symm
    show K_main_v98 (F := Ideal) (ix4 b h d e) = 0
    pointwise [K_main_v98, K_main_cst_4]
  attn := fun n b h t e hn => absurd hn (by omega)
  cnv := fun n b t g j hn => absurd hn (by omega)

/-- After all the trips. -/
theorem inv_all (it : ℕ → State Ideal) (h0 : it 0 = init (F := Ideal) x0 x1 x4 x5 x6 x7 x8) (hs : ∀ n, it (n + 1) = step n (it n)) :
    ∀ k, k ≤ 64 → Inv A k (it k) := by
  intro k
  induction k with
  | zero => exact fun _ => h0 ▸ inv_init I
  | succ n ih => exact fun hn => by rw [hs]; exact inv_step A n (by omega) _ (ih (by omega))

end

end Cert.Mixer.Ref
end
-- ==== Proof.RefOut.lean ====
/- The reference's result at an index, from the chunks that its scan has written. -/
module

public import proofs.«01_k».proof.Proof.RefTrip

@[expose] public section

set_option maxRecDepth 16384
set_option maxHeartbeats 400000

noncomputable section

namespace Cert.Mixer.Ref

open Idealize.ShloMosaic Cert.ReferenceIdeal Cert.ReferenceIdeal.Gen Cert.ReferenceIdeal.Step

/-- Both mixers' columns side by side. -/
def catOf (s : State Ideal) : FVec Ideal S2x4096x2048 .f32 :=
  concatenate S2x4096x2048 2 [⟨S2x4096x1024, (shapeCast _ (transpose S2x64x64x8x128 [1, 0, 2, 3, 4] (s.main_v114_11) transposes_S64x2x64x8x128_S2x64x64x8x128_1_0_2_3_4) shapeCasts_S2x64x64x8x128_S2x4096x1024)⟩, ⟨S2x4096x1024, (shapeCast _ (transpose S2x64x64x4x256 [1, 0, 3, 2, 4] (s.main_v114_10) transposes_S64x2x4x64x256_S2x64x64x4x256_1_0_3_2_4) shapeCasts_S2x64x64x4x256_S2x4096x1024)⟩] concatenates_S2x4096x1024_S2x4096x1024_S2x4096x2048_d2

/-- The scaled residual plus the projection. -/
def uOf (s : State Ideal) (x2 : FVec Ideal S2x4096x2048 .f32) (x3 : FVec Ideal S2048x2048 .bf16) : FVec Ideal S2x4096x2048 .f32 :=
  addf (mulf (broadcastInDim S2x4096x2048 ![] bcast_S_S2x4096x2048 (constant S_ .f32 0x3F9837F0#32)) x2) (Host.dotGeneral dot_S2x4096x2048_S2048x2048_S2x4096x2048_2_0_01_1_n_n none (catOf s) (extf .f32 x3 bitsLt_bf16_f32))

/-- Less its mean. -/
def dOf (v : FVec Ideal S2x4096x2048 .f32) : FVec Ideal S2x4096x2048 .f32 :=
  subf v (broadcastInDim S2x4096x2048 ![0, 1, 2] bcast_S2x4096x1_S2x4096x2048_0_1_2 (Host.divf (broadcastInDim S2x4096x1 ![0, 1] bcast_S2x4096_S2x4096x1_0_1 (Host.reduceAdd v (constant S_ .f32 0x00000000#32) reducesTo_S2x4096x2048_S2x4096_d2 h_S_)) (broadcastInDim S2x4096x1 ![] bcast_S_S2x4096x1 (constant S_ .f32 0x45000000#32))))

/-- The layer norm. -/
def lnOf (v : FVec Ideal S2x4096x2048 .f32) (x9 x10 : FVec Ideal S1x2048 .f32) : FVec Ideal S8192x2048 .bf16 :=
  truncf .bf16 (shapeCast _ (addf (mulf (mulf (dOf v) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (dOf v) (dOf v)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x3727C5AC#32)))))) (broadcastInDim S2x4096x2048 ![0, 1, 2] bcast_S1x1x2048_S2x4096x2048_0_1_2 (broadcastInDim S1x1x2048 ![2] bcast_S2048_S1x1x2048_2 (shapeCast _ x9 shapeCasts_S1x2048_S2048)))) (broadcastInDim S2x4096x2048 ![0, 1, 2] bcast_S1x1x2048_S2x4096x2048_0_1_2 (broadcastInDim S1x1x2048 ![2] bcast_S2048_S1x1x2048_2 (shapeCast _ x10 shapeCasts_S1x2048_S2048)))) shapeCasts_S2x4096x2048_S8192x2048) bitsLt_bf16_f32

theorem result_eq (s : State Ideal) (x2 : FVec Ideal S2x4096x2048 .f32) (x3 : FVec Ideal S2048x2048 .bf16) (x9 x10 : FVec Ideal S1x2048 .f32) :
    R_main_v152 (F := Ideal) s x2 x3 x9 x10 = lnOf (uOf s x2 x3) x9 x10 := rfl

section
variable {A : Par} {s : State Ideal} (I : Inv A 64 s)
include I

theorem cat_at (b : Fin 2) (r : Fin 4096) (k : Fin 2048) : catOf s (ix3 b r k) = A.Y (b.val * 4096 + r) k := by
  have hr := r.isLt
  have hk := k.isLt
  pointwise [catOf]
  unfold Par.Y
  by_cases h : k.val < 1024
  · rw [dif_pos h, if_pos h]
    refine (I.cnv ⟨r.val / 64, by omega⟩ b ⟨r.val % 64, by omega⟩ ⟨k.val / 128, by omega⟩ ⟨k.val % 128, by omega⟩ (by show r.val / 64 < 64; omega)).trans ?_
    show A.yc (64 * (64 * b.val + r.val / 64) + r.val % 64) (k.val / 128) (k.val % 128) = _
    rw [show 64 * (64 * b.val + r.val / 64) + r.val % 64 = b.val * 4096 + r.val by omega]
  · rw [dif_neg h, if_neg h]
    refine (I.attn ⟨r.val / 64, by omega⟩ b ⟨(k.val - 1024) / 256, by omega⟩ ⟨r.val % 64, by omega⟩ ⟨(k.val - 1024) % 256, by omega⟩ (by show r.val / 64 < 64; omega)).trans ?_
    show A.yg (64 * b.val + r.val / 64) ((k.val - 1024) / 256) (r.val % 64) ((k.val - 1024) % 256) = _
    rw [show (b.val * 4096 + r.val) / 64 = 64 * b.val + r.val / 64 by omega, show (b.val * 4096 + r.val) % 64 = r.val % 64 by omega]

variable {x2 : FVec Ideal S2x4096x2048 .f32} {x3 : FVec Ideal S2048x2048 .bf16}
  (h2 : ∀ (b : Fin 2) (r : Fin 4096) (k : Fin 2048), x2 (ix3 b r k) = A.X (b.val * 4096 + r) k)
  (h3 : ∀ k c : Fin 2048, x3 (ix2 k c) = A.W k c)
include h2 h3

theorem u_at (b : Fin 2) (r : Fin 4096) (k : Fin 2048) : uOf s x2 x3 (ix3 b r k) = A.u (b.val * 4096 + r) k := by
  pointwise [uOf]
  simp only [cat_at I, h2, h3]
  rfl

theorem d_at (b : Fin 2) (r : Fin 4096) (k : Fin 2048) : dOf (uOf s x2 x3) (ix3 b r k) = A.dv (b.val * 4096 + r) k := by
  pointwise [dOf]
  simp only [u_at I h2 h3]
  rfl

variable {x9 x10 : FVec Ideal S1x2048 .f32} (h9 : ∀ k : Fin 2048, x9 (ix2 (0 : Fin 1) k) = A.lg k) (h10 : ∀ k : Fin 2048, x10 (ix2 (0 : Fin 1) k) = A.lb k)
include h9 h10

/-- The reference's result. -/
theorem ref_at (r : Fin 8192) (k : Fin 2048) : R_main_v152 (F := Ideal) s x2 x3 x9 x10 (ix2 r k) = A.out r k := by
  have hr := r.isLt
  rw [result_eq]
  pointwise [lnOf]
  simp only [d_at I h2 h3, h9, h10]
  show A.dv (r.val / 4096 * 4096 + r.val % 4096) k * Ideal.rsqrt (Ideal.div (∑ x : Fin 2048, A.dv (r.val / 4096 * 4096 + r.val % 4096) x * A.dv (r.val / 4096 * 4096 + r.val % 4096) x) (Ideal.ofBits .f32 0x45000000#32) + Ideal.ofBits .f32 0x3727C5AC#32) * A.lg k + A.lb k = _
  rw [show r.val / 4096 * 4096 + r.val % 4096 = r.val by omega]
  rfl

end

end Cert.Mixer.Ref
end
-- ==== Proof.Agree.lean ====
/- The reference's result is the specification's, on the same arrays as the kernel's. -/
module

public import proofs.«01_k».proof.Proof.Loop
public import proofs.«01_k».proof.Proof.RefOut
public import proofs.«01_k».proof.Proof.Windows

@[expose] public section

set_option maxRecDepth 16384
set_option maxHeartbeats 400000

noncomputable section

namespace Cert.Mixer

open Idealize.ShloMosaic Idealize.ShloMosaic.TcCoe Idealize.SL.Sem Cert.Mixer.Ref Cert.ReferenceIdeal Cert.ReferenceIdeal.Gen Cert.ReferenceIdeal.Step

section
variable (x0 : Vec Ideal S8192x6144 .bf16) (x1 : Vec Ideal S8192x16 .bf16) (x2 : Vec Ideal S2x4096x2048 .f32)
    (x3 : Vec Ideal S2048x2048 .bf16) (x4 : Vec Ideal S1x3x1024 .f32) (x5 : Vec Ideal S1x1024 .f32)
    (x6 : Vec Ideal S1x16x512 .f32) (x7 : Vec Ideal S1x512 .f32) (x8 : Vec Ideal S1x1024 .f32)
    (x9 x10 : Vec Ideal S1x2048 .f32)

/-- The arrays hold what the parameters say. -/
theorem args_parOf : Args (parOf x0 x1 x2 x3 x4 x5 x6 x7 x8 x9 x10) x0 x1 x4 x5 x6 x7 x8 where
  h0 r k := (congrArg₂ (fun a b => x0 (ix2 a b)) (ofNat_eq r _ rfl) (ofNat_eq k _ rfl)).symm
  h1 r k := (congrArg₂ (fun a b => x1 (ix2 a b)) (ofNat_eq r _ rfl) (ofNat_eq k _ rfl)).symm
  h4 i k := by
    show _ = if h : i.val < 3 then x4 (ix3 0 ⟨i.val, h⟩ (Fin.ofNat 1024 k.val)) else 0
    rw [dif_pos i.isLt]
    exact (congrArg (fun b => x4 (ix3 0 i b)) (ofNat_eq k _ rfl)).symm
  h5 k := (congrArg (fun b => x5 (ix2 0 b)) (ofNat_eq k _ rfl)).symm
  h6 i k := (congrArg₂ (fun a b => x6 (ix3 0 a b)) (ofNat_eq i _ rfl) (ofNat_eq k _ rfl)).symm
  h7 k := (congrArg (fun b => x7 (ix2 0 b)) (ofNat_eq k _ rfl)).symm
  h8 k := (congrArg (fun b => x8 (ix2 0 b)) (ofNat_eq k _ rfl)).symm

/-- The residual, by token. -/
theorem x_parOf (b : Fin 2) (r : Fin 4096) (k : Fin 2048) : x2 (ix3 b r k) = (parOf x0 x1 x2 x3 x4 x5 x6 x7 x8 x9 x10).X (b.val * 4096 + r) k := by
  have hr := r.isLt
  have hb := b.isLt
  have e0 : Fin.ofNat 2 ((b.val * 4096 + r.val) / 4096) = b := ofNat_eq b _ (by omega)
  have e1 : Fin.ofNat 4096 (b.val * 4096 + r.val) = r := Fin.ext (by show (b.val * 4096 + r.val) % 4096 = r.val; omega)
  have e2 : Fin.ofNat 2048 k.val = k := ofNat_eq k _ rfl
  show _ = x2 (ix3 (Fin.ofNat 2 ((b.val * 4096 + r.val) / 4096)) (Fin.ofNat 4096 (b.val * 4096 + r.val)) (Fin.ofNat 2048 k.val))
  rw [e0, e1, e2]

/-- The reference's result. -/
theorem ref_result (it : ℕ → State Ideal) (h0 : it 0 = init (F := Ideal) x0 x1 x4 x5 x6 x7 x8) (hs : ∀ n, it (n + 1) = step n (it n)) :
    R_main_v152 (F := Ideal) (it 64) x2 x3 x9 x10 = fun i => (parOf x0 x1 x2 x3 x4 x5 x6 x7 x8 x9 x10).out (i 0) (i 1) := by
  funext i
  have hi : R_main_v152 (F := Ideal) (it 64) x2 x3 x9 x10 i = R_main_v152 (F := Ideal) (it 64) x2 x3 x9 x10 (ix2 (i 0) (i 1)) := congrArg _ (eq_ix2 i)
  rw [hi]
  exact ref_at (inv_all (args_parOf x0 x1 x2 x3 x4 x5 x6 x7 x8 x9 x10) it h0 hs 64 le_rfl) (x_parOf x0 x1 x2 x3 x4 x5 x6 x7 x8 x9 x10)
    (fun k c => (congrArg₂ (fun a b => x3 (ix2 a b)) (ofNat_eq k _ rfl) (ofNat_eq c _ rfl)).symm)
    (fun k => (congrArg (fun b => x9 (ix2 0 b)) (ofNat_eq k _ rfl)).symm)
    (fun k => (congrArg (fun b => x10 (ix2 0 b)) (ofNat_eq k _ rfl)).symm) (i 0) (i 1)

end

/-- The sequence of the scan's states. -/
def states (m : (ℓ : Loc nD τ sig) → Buf (Elt Ideal) ℓ) (c : Dev nD) : ℕ → State Ideal
  | 0 => Loop.initState m c
  | n + 1 => step n (states m c n)

end Cert.Mixer
end
-- ==== Proof.FfnSpec.lean ====
/- The feed-forward layer with its layer norm on the extended reals, by row and column numbers: the squared rectified hidden
   columns, the kernel's four partial sums of their projection, and the result. -/
module

public import Idealize.ShloMosaic.Lib.Pipeline.ValueKit

@[expose] public section

noncomputable section

namespace Cert.Ffn

open Idealize.ShloMosaic

/-- The arguments by row and column numbers: the input, both projections, the layer norm's weight and bias, the array that
    the result starts from. -/
structure Par where
  X : ℕ → ℕ → EReal
  U : ℕ → ℕ → EReal
  D : ℕ → ℕ → EReal
  lg : ℕ → EReal
  lb : ℕ → EReal
  O : ℕ → ℕ → EReal

namespace Par
variable (A : Par)

/-- A hidden column before its square. -/
def pre (r j : ℕ) : EReal := max (∑ k : Fin 2048, A.X r k * A.U k j) 0

/-- A hidden column. -/
def hid (r j : ℕ) : EReal := A.pre r j * A.pre r j

/-- The projection of the `n`-th 2048 hidden columns. -/
def part (n r c : ℕ) : EReal := ∑ j : Fin 2048, A.hid r (2048 * n + j) * A.D (2048 * n + j) c

/-- The sum of the partial projections up to the `n`-th. -/
def acc : ℕ → ℕ → ℕ → EReal
  | 0, r, c => A.part 0 r c
  | n + 1, r, c => acc n r c + A.part (n + 1) r c

/-- The projection of all hidden columns. -/
def ff (r c : ℕ) : EReal := ∑ j : Fin 8192, A.hid r j * A.D j c

/-- The four partial projections add up to the whole. -/
theorem acc_ff (r c : ℕ) : A.acc 3 r c = A.ff r c := by
  have hp : ∀ n, A.part n r c = ∑ j ∈ Finset.range 2048, A.hid r (2048 * n + j) * A.D (2048 * n + j) c := fun n =>
    (Finset.sum_range (fun j => A.hid r (2048 * n + j) * A.D (2048 * n + j) c)).symm
  have hf : A.ff r c = ∑ j ∈ Finset.range 8192, A.hid r j * A.D j c :=
    (Finset.sum_range (fun j => A.hid r j * A.D j c)).symm
  rw [hf, show (8192 : ℕ) = 2048 * 3 + 2048 from rfl, Finset.sum_range_add, ← hp 3, show 2048 * 3 = 2048 * 2 + 2048 from rfl,
    Finset.sum_range_add, ← hp 2, show 2048 * 2 = 2048 * 1 + 2048 from rfl, Finset.sum_range_add, ← hp 1]
  show A.part 0 r c + A.part 1 r c + A.part 2 r c + A.part 3 r c = _
  rw [hp 0]
  simp only [Nat.mul_zero, Nat.zero_add, Nat.mul_one]

/-- The scaled residual plus the projection. -/
def u (r c : ℕ) : EReal := Ideal.ofBits .f32 0x3F9837F0#32 * A.X r c + A.ff r c

theorem u_eq (r c : ℕ) : A.u r c = Ideal.ofBits .f32 0x3F9837F0#32 * A.X r c + (A.acc 2 r c + A.part 3 r c) := by
  rw [u, ← acc_ff]; rfl

/-- Less its mean. -/
def dv (r c : ℕ) : EReal := A.u r c - Ideal.div (∑ k : Fin 2048, A.u r k) (Ideal.ofBits .f32 0x45000000#32)

/-- The reciprocal root of the variance. -/
def rs (r : ℕ) : EReal :=
  Ideal.rsqrt (Ideal.div (∑ k : Fin 2048, A.dv r k * A.dv r k) (Ideal.ofBits .f32 0x45000000#32)
    + Ideal.ofBits .f32 0x3727C5AC#32)

/-- The layer norm. -/
def out (r c : ℕ) : EReal := A.dv r c * A.rs r * A.lg c + A.lb c

/-- The result: the first 1024 rows are those it starts from. -/
def res (r c : ℕ) : EReal := if r < 1024 then A.O r c else A.out r c

end Par
end Cert.Ffn
end
-- ==== Proof.FfnWin.lean ====
/- What the feed-forward kernel's windows hold at each grid point, in terms of the arguments. -/
module

public import proofs.«01_k».proof.Proof.Gen.Kernel2Ideal.Value
public import proofs.«01_k».proof.Proof.FfnSpec

@[expose] public section

set_option maxRecDepth 16384
set_option maxHeartbeats 300000

noncomputable section

namespace Cert.Ffn

open Idealize.ShloMosaic Idealize.ShloMosaic.TcCoe Idealize.SL.Sem
open Cert.Kernel2Ideal Cert.Kernel2Ideal.Gen

/-- The arguments as functions of row and column numbers; outside an array its rows and columns are read again. -/
def parOf (x0 : Vec Ideal S8192x2048 .bf16) (x1 : Vec Ideal S2048x8192 .bf16) (x2 : Vec Ideal S8192x2048 .bf16)
    (x3 x4 : Vec Ideal S1x2048 .f32) (x5 : Vec Ideal S8192x2048 .f32) : Par where
  X r k := x0 (ix2 (Fin.ofNat 8192 r) (Fin.ofNat 2048 k))
  U r k := x1 (ix2 (Fin.ofNat 2048 r) (Fin.ofNat 8192 k))
  D r k := x2 (ix2 (Fin.ofNat 8192 r) (Fin.ofNat 2048 k))
  lg k := x3 (ix2 0 (Fin.ofNat 2048 k))
  lb k := x4 (ix2 0 (Fin.ofNat 2048 k))
  O r k := x5 (ix2 (Fin.ofNat 8192 r) (Fin.ofNat 2048 k))

variable (m : (ℓ : Loc nD τ sig) → Buf (Elt Ideal) ℓ) (c : Dev nD)

/-- The arguments as launched. -/
def par : Par :=
  parOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-! Each window's block index at a point. -/
theorem idx_w0 : ∀ t : Fin cfg0.N, win0_0.index t (0 : Fin 2) = t.val / 4 + 2 ∧ win0_0.index t (1 : Fin 2) = 0 :=
  (by decide +kernel : ∀ t : Fin grid0.N, _)
theorem idx_w1 : ∀ t : Fin cfg0.N, win0_1.index t (0 : Fin 2) = 0 ∧ win0_1.index t (1 : Fin 2) = t.val % 4 :=
  (by decide +kernel : ∀ t : Fin grid0.N, _)
theorem idx_w2 : ∀ t : Fin cfg0.N, win0_2.index t (0 : Fin 2) = t.val % 4 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = t.val / 4 + 2 ∧ win0_5.index t (1 : Fin 2) = 0 :=
  (by decide +kernel : ∀ t : Fin grid0.N, _)

/-! The arrays the region finds, at an index. -/
theorem v1_at (k : Fin 2048) : V m c main_v1 (ix2 0 k) = m ((c : Thread nD τ).loc main_arg3) (ix2 (0 : Fin 1) k) := by
  simp only [V, List.flatten_cons, List.flatten_nil, List.append_nil, List.cons_append, List.nil_append]
  entry_read
  pointwise

theorem v3_at (k : Fin 2048) : V m c main_v3 (ix2 0 k) = m ((c : Thread nD τ).loc main_arg4) (ix2 (0 : Fin 1) k) := by
  simp only [V, List.flatten_cons, List.flatten_nil, List.append_nil, List.cons_append, List.nil_append]
  entry_read
  pointwise

theorem v4_eq : V m c main_v4 = m ((c : Thread nD τ).loc main_arg5) := by
  simp only [V, List.flatten_cons, List.flatten_nil, List.append_nil, List.cons_append, List.nil_append]
  entry_read
  rfl

theorem ofNat_eq {n : ℕ} [NeZero n] (i : Fin n) (k : ℕ) (h : k = i.val) : Fin.ofNat n k = i := by
  apply Fin.ext; show k % n = i.val; rw [h, Nat.mod_eq_of_lt i.2]

/-- A read at an index with given coordinates. -/
theorem read_eq {N C : ℕ} [NeZero N] [NeZero C] (x : (⟨2, ![N, C]⟩ : Shape).Idx → EReal) (e : (⟨2, ![N, C]⟩ : Shape).Idx) (r k : ℕ)
    (h0 : (e 0).val = r) (h1 : (e 1).val = k) : x e = x (ix2 (Fin.ofNat N r) (Fin.ofNat C k)) := by
  have hr : Fin.ofNat N r = e 0 := ofNat_eq (n := N) (e 0) r h0.symm
  have hk : Fin.ofNat C k = e 1 := ofNat_eq (n := C) (e 1) k h1.symm
  rw [hr, hk, ← eq_ix2]

/-- A read of a row vector at an index with a given column. -/
theorem read_row {C : ℕ} [NeZero C] (x : (⟨2, ![1, C]⟩ : Shape).Idx → EReal) (e : (⟨2, ![1, C]⟩ : Shape).Idx) (k : ℕ)
    (h1 : (e 1).val = k) : x e = x (ix2 (0 : Fin 1) (Fin.ofNat C k)) := by
  have h0 : (e 0).val < 1 := (e 0).2
  have hr : (0 : Fin 1) = e 0 := Fin.ext (by show 0 = (e 0).val; omega)
  have hk : Fin.ofNat C k = e 1 := ofNat_eq (n := C) (e 1) k h1.symm
  rw [hr, hk, ← eq_ix2]

/-! Each window's block at a point. -/
theorem in0 (t : Fin cfg0.N) (y : S512x2048.Idx) : (iblk m c 0 t) y = (par m c).X (512 * (t.val / 4 + 2) + y 0) (y 1) := by
  obtain ⟨e0, e1⟩ := idx_w0 t
  have q0 : ((((cfg0.win 0).blk t).view.emb y) 0).val = 512 * (t.val / 4 + 2) + (y 0).val := by
    show win0_0.index t (0 : Fin 2) * 512 + 1 * (y 0).val = _; rw [e0]; omega
  have q1 : ((((cfg0.win 0).blk t).view.emb y) 1).val = (y 1).val := by
    show win0_0.index t (1 : Fin 2) * 2048 + 1 * (y 1).val = _; rw [e1]; omega
  show V m c main_arg0 (((cfg0.win 0).blk t).view.emb y) = _
  rw [V_main_arg0]
  exact read_eq _ _ _ _ q0 q1

theorem in1 (t : Fin cfg0.N) (y : S2048x2048.Idx) : (iblk m c 1 t) y = (par m c).U (y 0) (2048 * (t.val % 4) + y 1) := by
  obtain ⟨e0, e1⟩ := idx_w1 t
  have q0 : ((((cfg0.win 1).blk t).view.emb y) 0).val = (y 0).val := by
    show win0_1.index t (0 : Fin 2) * 2048 + 1 * (y 0).val = _; rw [e0]; omega
  have q1 : ((((cfg0.win 1).blk t).view.emb y) 1).val = 2048 * (t.val % 4) + (y 1).val := by
    show win0_1.index t (1 : Fin 2) * 2048 + 1 * (y 1).val = _; rw [e1]; omega
  show V m c main_arg1 (((cfg0.win 1).blk t).view.emb y) = _
  rw [V_main_arg1]
  exact read_eq _ _ _ _ q0 q1

theorem in2 (t : Fin cfg0.N) (y : S2048x2048.Idx) : (iblk m c 2 t) y = (par m c).D (2048 * (t.val % 4) + y 0) (y 1) := by
  obtain ⟨e0, e1⟩ := idx_w2 t
  have q0 : ((((cfg0.win 2).blk t).view.emb y) 0).val = 2048 * (t.val % 4) + (y 0).val := by
    show win0_2.index t (0 : Fin 2) * 2048 + 1 * (y 0).val = _; rw [e0]; omega
  have q1 : ((((cfg0.win 2).blk t).view.emb y) 1).val = (y 1).val := by
    show win0_2.index t (1 : Fin 2) * 2048 + 1 * (y 1).val = _; rw [e1]; omega
  show V m c main_arg2 (((cfg0.win 2).blk t).view.emb y) = _
  rw [V_main_arg2]
  exact read_eq _ _ _ _ q0 q1

theorem in3 (t : Fin cfg0.N) (y : S1x2048.Idx) : (iblk m c 3 t) y = (par m c).lg (y 1) := by
  obtain ⟨e0, e1⟩ := idx_w3 t
  have q1 : ((((cfg0.win 3).blk t).view.emb y) 1).val = (y 1).val := by
    show win0_3.index t (1 : Fin 2) * 2048 + 1 * (y 1).val = _; rw [e1]; omega
  show V m c main_v1 (((cfg0.win 3).blk t).view.emb y) = _
  exact (read_row _ _ _ q1).trans (v1_at m c _)

theorem in4 (t : Fin cfg0.N) (y : S1x2048.Idx) : (iblk m c 4 t) y = (par m c).lb (y 1) := by
  obtain ⟨e0, e1⟩ := idx_w4 t
  have q1 : ((((cfg0.win 4).blk t).view.emb y) 1).val = (y 1).val := by
    show win0_4.index t (1 : Fin 2) * 2048 + 1 * (y 1).val = _; rw [e1]; omega
  show V m c main_v3 (((cfg0.win 4).blk t).view.emb y) = _
  exact (read_row _ _ _ q1).trans (v3_at m c _)

end Cert.Ffn
end
-- ==== Proof.FfnPay.lean ====
/- What the feed-forward kernel's body computes from its loads. -/
module

public import proofs.«01_k».proof.Proof.Gen.Kernel2Ideal.Skeleton
public import proofs.«01_k».proof.Proof.FfnSpec

@[expose] public section

set_option maxRecDepth 16384
set_option maxHeartbeats 1000000

namespace Cert.Ffn

open Idealize.ShloMosaic Idealize.ShloMosaic.TcCoe Idealize.SL.Sem
open Cert.Kernel2Ideal Cert.Kernel2Ideal.Gen

/-- A load of rows of a rank-2 argument. -/
theorem rd {n0 n1 m0 m1 : ℕ} {e : EltTy} (arg : Memref sig .tc .vmem ⟨2, ![n0, n1]⟩ e) (harg : arg.IsWhole)
    (x : (⟨2, ![n0, n1]⟩ : Shape).Idx → Elt Ideal e) (g : ℕ → ℕ → Elt Ideal e) (hx : ∀ y, x y = g (y 0) (y 1)) (r0 : ℕ)
    (inb) (i : Fin m0) (j : Fin m1) :
    View.readAt (Elt Ideal) arg.view (Rect.unit (s := ⟨2, ![n0, n1]⟩) ![r0, 0] ![m0, m1] inb).toLoadRect (harg.unread x) (ix2 i j)
      = g (r0 + i) j := by
  rw [View.readAt_eq_ld, harg.read_unread]
  refine (hx _).trans ?_
  show g (r0 + 1 * i) (0 + 1 * j) = _
  rw [one_mul, one_mul, Nat.zero_add]

variable (A : Par) (R f : ℕ)

section
variable {x : Vec Ideal S512x2048 .bf16} {u : Vec Ideal S2048x2048 .bf16}
  (hx : ∀ (i : Fin 512) (k : Fin 2048), x (ix2 i k) = A.X (R + (0 + i)) k)
  (hu : ∀ k j : Fin 2048, u (ix2 k j) = A.U (0 + k) (2048 * f + j))
include hx hu

theorem hid_pc (i : Fin 512) (j : Fin 2048) : k0_pay3 (F := Ideal) x u (ix2 i j) = A.hid (R + i) (2048 * f + j) := by
  pointwise [k0_pay3]
  simp only [hx, hu, Nat.zero_add]
  rfl

variable {d : Vec Ideal S2048x2048 .bf16} (hd : ∀ k j : Fin 2048, d (ix2 k j) = A.D (2048 * f + (0 + k)) j)
include hd

theorem part_pc (i : Fin 512) (j : Fin 2048) : k0_pay1 (F := Ideal) x u d (ix2 i j) = A.part f (R + (0 + i)) (0 + j) := by
  pointwise [k0_pay1]
  simp only [hx, hu, hd, Nat.zero_add]
  rfl

theorem acc_pc {o : Vec Ideal S512x2048 .f32} (n : ℕ) (hf : f = n + 1) (ho : ∀ (i : Fin 512) (k : Fin 2048), o (ix2 i k) = A.acc n (R + (0 + i)) k)
    (i : Fin 512) (j : Fin 2048) : k0_pay2 (F := Ideal) o x u d (ix2 i j) = A.acc f (R + (0 + i)) (0 + j) := by
  subst hf
  pointwise [k0_pay2]
  simp only [hx, hu, hd, ho, Nat.zero_add]
  rfl
end

section
variable {x : Vec Ideal S512x2048 .bf16} {u d : Vec Ideal S2048x2048 .bf16}
  (hx : ∀ (i : Fin 512) (k : Fin 2048), x (ix2 i k) = A.X (R + (0 + i)) k)
  (hu : ∀ k j : Fin 2048, u (ix2 k j) = A.U (0 + k) (2048 * 3 + j))
  (hd : ∀ k j : Fin 2048, d (ix2 k j) = A.D (2048 * 3 + (0 + k)) j)
include hx hu hd

section
variable {o : Vec Ideal S256x2048 .f32} {xs : Vec Ideal S256x2048 .bf16}
  (ho : ∀ (i : Fin 256) (k : Fin 2048), o (ix2 i k) = A.acc 2 (R + (0 + i)) k)
  (hs : ∀ (i : Fin 256) (k : Fin 2048), xs (ix2 i k) = A.X (R + (0 + i)) k)
include ho hs

theorem dv_pc (i : Fin 256) (j : Fin 2048) : k0_pay6 (F := Ideal) x u d o xs (ix2 i j) = A.dv (R + i) j := by
  pointwise [k0_pay6]
  simp only [hid_pc A R 3 hx hu, hd, ho, hs, Nat.zero_add]
  simp only [Par.dv, Par.u_eq, Par.part]

theorem rs_pc (i : Fin 256) (j : Fin 2048) : k0_pay7 (F := Ideal) x u d o xs (ix2 i j) = A.rs (R + i) := by
  pointwise [k0_pay7]
  simp only [dv_pc A R hx hu hd ho hs]
  rfl

theorem out_pc0 {g b : Vec Ideal S1x2048 .f32} (hg : ∀ k : Fin 2048, g (ix2 (0 : Fin 1) k) = A.lg k)
    (hb : ∀ k : Fin 2048, b (ix2 (0 : Fin 1) k) = A.lb k) (i : Fin 256) (j : Fin 2048) :
    k0_pay8 (F := Ideal) (k0_pay4 g) (k0_pay5 b) (k0_pay6 x u d o xs) (k0_pay7 x u d o xs) (ix2 i j) = A.out (R + (0 + i)) (0 + j) := by
  pointwise [k0_pay8, k0_pay4, k0_pay5]
  simp only [dv_pc A R hx hu hd ho hs, rs_pc A R hx hu hd ho hs, hg, hb, Nat.zero_add]
  rfl
end

theorem out_pc1 {o : Vec Ideal S256x2048 .f32} {xs : Vec Ideal S256x2048 .bf16}
    (ho : ∀ (i : Fin 256) (k : Fin 2048), o (ix2 i k) = A.acc 2 (R + (256 + i)) k)
    (hs : ∀ (i : Fin 256) (k : Fin 2048), xs (ix2 i k) = A.X (R + (256 + i)) k)
    {g b : Vec Ideal S1x2048 .f32} (hg : ∀ k : Fin 2048, g (ix2 (0 : Fin 1) k) = A.lg k)
    (hb : ∀ k : Fin 2048, b (ix2 (0 : Fin 1) k) = A.lb k) (i : Fin 256) (j : Fin 2048) :
    k0_pay9 (F := Ideal) (k0_pay3 x u) d o xs g b (ix2 i j) = A.out (R + (256 + i)) (0 + j) := by
  pointwise [k0_pay9]
  simp only [hid_pc A R 3 hx hu, hd, ho, hs, hg, hb, Nat.zero_add]
  simp only [Par.out, Par.rs, Par.dv, Par.u_eq, Par.part]
end

end Cert.Ffn
end
-- ==== Proof.FfnStep.lean ====
/- What one grid step of the feed-forward kernel leaves, given its windows of the arguments and what the step before left. -/
module

public import proofs.«01_k».proof.Proof.Gen.Kernel2Ideal.Frame
public import proofs.«01_k».proof.Proof.Reads
public import proofs.«01_k».proof.Proof.FfnPay

@[expose] public section

set_option maxRecDepth 16384
set_option maxHeartbeats 1000000

namespace Cert.Ffn

open Idealize.ShloMosaic Idealize.ShloMosaic.TcCoe Idealize.SL.Sem
open Cert.Kernel2Ideal Cert.Kernel2Ideal.Gen

section
variable {c : Dev nD} {i : grid0.Coords}
  {a2 : Memref sig .tc .vmem S512x2048 .bf16} {h2 : a2.IsWhole}
  {a3 : Memref sig .tc .vmem S2048x2048 .bf16} {h3 : a3.IsWhole}
  {a4 : Memref sig .tc .vmem S2048x2048 .bf16} {h4 : a4.IsWhole}
  {a5 : Memref sig .tc .vmem S1x2048 .f32} {h5 : a5.IsWhole}
  {a6 : Memref sig .tc .vmem S1x2048 .f32} {h6 : a6.IsWhole}
  {a8 : Memref sig .tc .vmem S512x2048 .f32} {h8 : a8.IsWhole}
  {x0 : Vec Ideal S512x2048 .bf16} {x1 x2 : Vec Ideal S2048x2048 .bf16} {x3 x4 : Vec Ideal S1x2048 .f32} {xo : Vec Ideal S512x2048 .f32}
  (A : Par) (R f : ℕ)
  (hx : ∀ y, x0 y = A.X (R + y 0) (y 1))
  (hu : ∀ y, x1 y = A.U (y 0) (2048 * f + y 1))
  (hd : ∀ y, x2 y = A.D (2048 * f + y 0) (y 1))
include hx hu hd

/-- The first partial projection. -/
theorem step_A (hf : f = 0) (c0 : cond0_0 i) (c1 : ¬cond0_1 i) (c2 : ¬cond0_2 i) (y : S512x2048.Idx) :
    out0_A_5 (F := Ideal) c i a2 h2 a3 h3 a4 h4 a5 h5 a6 h6 a8 h8 c0 c1 c2 x0 x1 x2 x3 x4 y = A.acc 0 (R + y 0) (y 1) := by
  subst hf
  dsimp only [out0_A_5]
  rw [View.read_writes_junk_apply_eq_canon (Val := Elt Ideal) VO0_5 y]
  refine Mixer.canon_of (S := S512x2048) (e := .f32) (fun y => A.acc 0 (R + y 0) (y 1)) _ ?_ (cover0_A_5 (F := Ideal) _ _ _ _ _ _ _ _ _ _ _ _ _ _ _ _ _ _ _ _ _ _) y
  dsimp only [kernelRun0_A]
  refine ⟨?_, trivial⟩
  exact Mixer.pc2 (e := .f32) (fun i j => A.acc 0 (R + i) j) _ _ (by decide) _ (v := k0_pay1 (F := Ideal) _ _ _) rfl
    (part_pc A R 0 (rd (e := .bf16) a2 h2 _ (fun i j => A.X (R + i) j) hx 0 _)
      (rd (e := .bf16) a3 h3 _ (fun i j => A.U i (2048 * 0 + j)) hu 0 _) (rd (e := .bf16) a4 h4 _ (fun i j => A.D (2048 * 0 + i) j) hd 0 _))

/-- One more partial projection. -/
theorem step_B (n : ℕ) (hf : f = n + 1) (ho : ∀ y, xo y = A.acc n (R + y 0) (y 1)) (c0 : ¬cond0_0 i) (c1 : cond0_1 i) (c2 : ¬cond0_2 i) (y : S512x2048.Idx) :
    out0_B_5 (F := Ideal) c i a2 h2 a3 h3 a4 h4 a5 h5 a6 h6 a8 h8 c0 c1 c2 x0 x1 x2 x3 x4 xo y = A.acc f (R + y 0) (y 1) := by
  dsimp only [out0_B_5]
  rw [View.read_writes_junk_apply_eq_canon (Val := Elt Ideal) VO0_5 y]
  refine Mixer.canon_of (S := S512x2048) (e := .f32) (fun y => A.acc f (R + y 0) (y 1)) _ ?_ (cover0_B_5 (F := Ideal) _ _ _ _ _ _ _ _ _ _ _ _ _ _ _ _ _ _ _ _ _ _ _) y
  dsimp only [kernelRun0_B]
  refine ⟨?_, trivial⟩
  exact Mixer.pc2 (e := .f32) (fun i j => A.acc f (R + i) j) _ _ (by decide) _ (v := k0_pay2 (F := Ideal) _ _ _ _) rfl
    (acc_pc A R f (rd (e := .bf16) a2 h2 _ (fun i j => A.X (R + i) j) hx 0 _)
      (rd (e := .bf16) a3 h3 _ (fun i j => A.U i (2048 * f + j)) hu 0 _) (rd (e := .bf16) a4 h4 _ (fun i j => A.D (2048 * f + i) j) hd 0 _)
      n hf (rd (e := .f32) a8 h8 _ (fun i j => A.acc n (R + i) j) ho 0 _))

/-- The last partial projection and the layer norm. -/
theorem step_C (hf : f = 3) (ho : ∀ y, xo y = A.acc 2 (R + y 0) (y 1)) (hg : ∀ y, x3 y = A.lg (y 1)) (hb : ∀ y, x4 y = A.lb (y 1))
    (c0 : ¬cond0_0 i) (c1 : ¬cond0_1 i) (c2 : cond0_2 i) (y : S512x2048.Idx) :
    out0_C_5 (F := Ideal) c i a2 h2 a3 h3 a4 h4 a5 h5 a6 h6 a8 h8 c0 c1 c2 x0 x1 x2 x3 x4 xo y = A.out (R + y 0) (y 1) := by
  subst hf
  have lx := rd (e := .bf16) (m0 := 512) (m1 := 2048) a2 h2 _ (fun i j => A.X (R + i) j) hx 0 (by decide)
  have lu := rd (e := .bf16) (m0 := 2048) (m1 := 2048) a3 h3 _ (fun i j => A.U i (2048 * 3 + j)) hu 0 (by decide)
  have ld := rd (e := .bf16) (m0 := 2048) (m1 := 2048) a4 h4 _ (fun i j => A.D (2048 * 3 + i) j) hd 0 (by decide)
  have lg := rd (e := .f32) (m0 := 1) (m1 := 2048) a5 h5 _ (fun _ j => A.lg j) hg 0 (by decide) 0
  have lb := rd (e := .f32) (m0 := 1) (m1 := 2048) a6 h6 _ (fun _ j => A.lb j) hb 0 (by decide) 0
  dsimp only [out0_C_5]
  rw [View.read_writes_junk_apply_eq_canon (Val := Elt Ideal) VO0_5 y]
  refine Mixer.canon_of (S := S512x2048) (e := .f32) (fun y => A.out (R + y 0) (y 1)) _ ?_ (cover0_C_5 (F := Ideal) _ _ _ _ _ _ _ _ _ _ _ _ _ _ _ _ _ _ _ _ _ _ _) y
  dsimp only [kernelRun0_C, kernelRun0_C.sl.r_6, kernelRun0_C.sl.r_5, kernelRun0_C.sl.r_4, kernelRun0_C.sl.r_3, kernelRun0_C.sl.r_2, kernelRun0_C.sl.r_1,
    kernelRun0_C.sl.r, kernelRun0_C.sl.v54]
  refine ⟨?_, ?_, trivial⟩
  · exact Mixer.pc2 (e := .f32) (fun i j => A.out (R + i) j) _ _ (by decide) _ (v := k0_pay9 (F := Ideal) (k0_pay3 _ _) _ _ _ _ _) rfl
      (out_pc1 A R lx lu ld (rd (e := .f32) a8 h8 _ (fun i j => A.acc 2 (R + i) j) ho 256 _)
        (rd (e := .bf16) a2 h2 _ (fun i j => A.X (R + i) j) hx 256 _) lg lb)
  · exact Mixer.pc2 (e := .f32) (fun i j => A.out (R + i) j) _ _ (by decide) _
      (v := k0_pay8 (F := Ideal) (k0_pay4 _) (k0_pay5 _) (k0_pay6 _ _ _ _ _) (k0_pay7 _ _ _ _ _)) rfl
      (out_pc0 A R lx lu ld (rd (e := .f32) a8 h8 _ (fun i j => A.acc 2 (R + i) j) ho 0 _)
        (rd (e := .bf16) a2 h2 _ (fun i j => A.X (R + i) j) hx 0 _) lg lb)
end

end Cert.Ffn
-- ==== Proof.FfnResult.lean ====
/- The feed-forward kernel's result array as one function of the arguments: what every grid step leaves, by induction on
   the steps, and the blocks that the steps write back. -/
module

public import proofs.«01_k».proof.Proof.FfnWin
public import proofs.«01_k».proof.Proof.FfnStep

@[expose] public section

set_option maxRecDepth 16384
set_option maxHeartbeats 400000

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ) (c : Dev nD)

/-- What the first three steps of a block leave: the sum of the partial projections so far. -/
theorem held : ∀ (n : ℕ) (hn : n < cfg0.N), n % 4 ≠ 3 →
    ∀ y, outsAt0 m c n hn y = (par m c).acc (n % 4) (512 * (n / 4 + 2) + y 0) (y 1) := by
  intro n
  induction n with
  | zero =>
    intro hn _ y
    refine (congrFun (outsAt0_A m c ⟨0, hn⟩ rfl (by show ¬(1 ≤ 0 % 4 ∧ 0 % 4 ≤ 2); decide) (by show ¬0 % 4 = 3; decide)) y).trans ?_
    exact step_A (par m c) _ _ (in0 m c ⟨0, hn⟩) (in1 m c ⟨0, hn⟩) (in2 m c ⟨0, hn⟩) rfl _ _ _ y
  | succ n ih =>
    intro hn h3 y
    by_cases h0 : (n + 1) % 4 = 0
    · rw [h0]
      refine (congrFun (outsAt0_A m c ⟨n + 1, hn⟩ h0 (by show ¬(1 ≤ (n + 1) % 4 ∧ (n + 1) % 4 ≤ 2); omega) h3) y).trans ?_
      exact step_A (par m c) _ _ (in0 m c ⟨n + 1, hn⟩) (in1 m c ⟨n + 1, hn⟩) (in2 m c ⟨n + 1, hn⟩) h0 _ _ _ y
    · have hm : (n + 1) % 4 = n % 4 + 1 := by omega
      have hq : (n + 1) / 4 = n / 4 := by omega
      refine (congrFun (outsAt0_B m c ⟨n + 1, hn⟩ h0 (by show 1 ≤ (n + 1) % 4 ∧ (n + 1) % 4 ≤ 2; omega) h3) y).trans ?_
      refine step_B (par m c) _ _ (in0 m c ⟨n + 1, hn⟩) (in1 m c ⟨n + 1, hn⟩) (in2 m c ⟨n + 1, hn⟩) (n % 4) hm ?_ _ _ _ y
      intro z
      refine (ih (Nat.lt_of_succ_lt hn) (by omega) z).trans ?_
      show _ = (par m c).acc (n % 4) (512 * ((n + 1) / 4 + 2) + z 0) (z 1)
      rw [hq]

/-- The block that a block's last step leaves. -/
theorem last (n : ℕ) (hn : n < cfg0.N) (h3 : n % 4 = 3) (y : S512x2048.Idx) :
    outsAt0 m c n hn y = (par m c).out (512 * (n / 4 + 2) + y 0) (y 1) := by
  refine (congrFun (outsAt0_C m c ⟨n, hn⟩ (by show ¬n % 4 = 0; omega) (by show ¬(1 ≤ n % 4 ∧ n % 4 ≤ 2); omega) h3) y).trans ?_
  refine step_C (par m c) _ _ (in0 m c ⟨n, hn⟩) (in1 m c ⟨n, hn⟩) (in2 m c ⟨n, hn⟩) h3 ?_ (in3 m c ⟨n, hn⟩) (in4 m c ⟨n, hn⟩) _ _ _ y
  intro z
  refine (held m c (n - 1) (Nat.lt_of_le_of_lt (Nat.sub_le _ _) hn) (by omega) z).trans ?_
  show _ = (par m c).acc 2 (512 * (n / 4 + 2) + z 0) (z 1)
  rw [show (n - 1) % 4 = 2 by omega, show (n - 1) / 4 = n / 4 by omega]

/-- The result array. -/
def result : Vec Ideal S8192x2048 .f32 := fun i => (par m c).res (i 0) (i 1)

/-- Where an element of a step's block lies in the result array. -/
theorem blk_row (t : Fin cfg0.N) (j : S512x2048.Idx) :
    ((((cfg0.win 5).blk t).view.emb j) 0).val = 512 * (t.val / 4 + 2) + (j 0).val := by
  show win0_5.index t (0 : Fin 2) * 512 + 1 * (j 0).val = _
  rw [(idx_w5 t).1]; omega

theorem blk_col (t : Fin cfg0.N) (j : S512x2048.Idx) : ((((cfg0.win 5).blk t).view.emb j) 1).val = (j 1).val := by
  show win0_5.index t (1 : Fin 2) * 2048 + 1 * (j 1).val = _
  rw [(idx_w5 t).2]; omega

/-- A step's block of the result array. -/
theorem flushed_result (t : Fin cfg0.N) (hf : (cfg0.win 5).flush t = true) :
    (dats m 0 c).flushed 5 t = ((cfg0.win 5).blk t).view.read (Elt Ideal) (result m c) := by
  rw [Value.flushed5]
  have h3 := (flush0_5 t).mp hf
  funext j
  refine (last m c t.val t.isLt h3 j).trans ?_
  show _ = (par m c).res ((((cfg0.win 5).blk t).view.emb j) 0).val ((((cfg0.win 5).blk t).view.emb j) 1).val
  rw [blk_row, blk_col, Par.res, if_neg (by omega)]

/-- Every element of the result array after the first 1024 rows is in a block that is written back. -/
theorem covered (i : S8192x2048.Idx) (hi : ¬(i 0).val < 1024) : ∃ t : Fin cfg0.N, (cfg0.win 5).flush t = true ∧ i ∈ ((cfg0.win 5).blk t).view.set := by
  have h0 : (i 0).val < 8192 := (i 0).2
  have h1 : (i 1).val < 2048 := (i 1).2
  have ht : 4 * ((i 0).val / 512 - 2) + 3 < 56 := by omega
  let t : Fin cfg0.N := ⟨4 * ((i 0).val / 512 - 2) + 3, ht⟩
  refine ⟨t, (flush0_5 t).mpr (by show (4 * ((i 0).val / 512 - 2) + 3) % 4 = 3; omega), ?_⟩
  let j : S512x2048.Idx := ix2 (⟨(i 0).val % 512, Nat.mod_lt _ (by decide)⟩ : Fin 512) (⟨(i 1).val, h1⟩ : Fin 2048)
  have h : ((cfg0.win 5).blk t).view.emb j = i := by
    funext a; apply Fin.ext
    match a with
    | ⟨0, _⟩ =>
      refine (blk_row t j).trans ?_
      show 512 * ((4 * ((i 0).val / 512 - 2) + 3) / 4 + 2) + (i 0).val % 512 = (i 0).val
      omega
    | ⟨1, _⟩ => exact blk_col t j
  have hm := ((cfg0.win 5).blk t).view.emb_mem_set j
  rwa [h] at hm

/-- No block that is written back meets the first 1024 rows. -/
theorem uncovered (i : S8192x2048.Idx) (hi : (i 0).val < 1024) (t : Fin cfg0.N) : i ∉ ((cfg0.win 5).blk t).view.set := by
  intro hm
  obtain ⟨j, _, hj⟩ := Finset.mem_map.mp hm
  have := blk_row t j
  rw [hj] at this
  omega

/-- The result array after the run. -/
theorem final : (dats m 0 c).arrAt 5 cfg0.N = result m c := by
  funext i
  by_cases hi : (i 0).val < 1024
  · refine (Value.entry5 m c i (fun t _ => uncovered i hi t)).trans ?_
    show V m c main_v4 i = (par m c).res (i 0) (i 1)
    rw [v4_eq, Par.res, if_pos hi]
    exact read_eq _ i _ _ rfl rfl
  · obtain ⟨t, hf, hm⟩ := covered i hi
    exact (dats m 0 c).arrAt_apply_of_mem 5 (result m c) (fun t hf => flushed_result m c t hf) cfg0.N t i t.isLt hf hm

end Cert.Ffn
end
-- ==== Proof.FfnRef.lean ====
/- The feed-forward reference's result at an index. -/
module

public import proofs.«01_k».proof.Proof.Gen.Reference2Ideal.Run
public import proofs.«01_k».proof.Proof.FfnSpec

@[expose] public section

set_option maxRecDepth 16384
set_option maxHeartbeats 400000

noncomputable section

namespace Cert.Ffn.Ref

open Idealize.ShloMosaic Idealize.ShloMosaic.TcCoe Idealize.SL.Sem Cert.Reference2Ideal Cert.Reference2Ideal.Gen

/-- The hidden columns before their square. -/
def preOf (x0 : FVec Ideal S8192x2048 .bf16) (x1 : FVec Ideal S2048x8192 .bf16) : FVec Ideal S8192x8192 .f32 :=
  maximumf (Host.dotGeneral dot_S8192x2048_S2048x8192_S8192x8192_1_0_0_1_n_n none (extf .f32 x0 bitsLt_bf16_f32) (extf .f32 x1 bitsLt_bf16_f32)) (broadcastInDim S8192x8192 ![] bcast_S_S8192x8192 (constant S_ .f32 0x00000000#32))

/-- The scaled residual plus the projection of the squared hidden columns. -/
def uOf (x0 : FVec Ideal S8192x2048 .bf16) (p : FVec Ideal S8192x8192 .f32) (x2 : FVec Ideal S8192x2048 .bf16) : FVec Ideal S8192x2048 .f32 :=
  addf (mulf (broadcastInDim S8192x2048 ![] bcast_S_S8192x2048 (constant S_ .f32 0x3F9837F0#32)) (extf .f32 x0 bitsLt_bf16_f32)) (Host.dotGeneral dot_S8192x8192_S8192x2048_S8192x2048_1_0_0_1_n_n none (mulf p p) (extf .f32 x2 bitsLt_bf16_f32))

/-- Less its mean. -/
def dOf (v : FVec Ideal S8192x2048 .f32) : FVec Ideal S8192x2048 .f32 :=
  subf v (broadcastInDim S8192x2048 ![0, 1] bcast_S8192x1_S8192x2048_0_1 (Host.divf (broadcastInDim S8192x1 ![0] bcast_S8192_S8192x1_0 (Host.reduceAdd v (constant S_ .f32 0x00000000#32) reducesTo_S8192x2048_S8192_d1 h_S_)) (broadcastInDim S8192x1 ![] bcast_S_S8192x1 (constant S_ .f32 0x45000000#32))))

/-- The layer norm, from the rows less their mean. -/
def lnOf (d : FVec Ideal S8192x2048 .f32) (x3 x4 : FVec Ideal S1x2048 .f32) : FVec Ideal S8192x2048 .f32 :=
  addf (mulf (mulf d (broadcastInDim S8192x2048 ![0, 1] bcast_S8192x1_S8192x2048_0_1 (Host.rsqrt (addf (Host.divf (broadcastInDim S8192x1 ![0] bcast_S8192_S8192x1_0 (Host.reduceAdd (mulf d d) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x3727C5AC#32)))))) (broadcastInDim S8192x2048 ![0, 1] bcast_S1x2048_S8192x2048_0_1 (broadcastInDim S1x2048 ![1] bcast_S2048_S1x2048_1 (shapeCast _ x3 shapeCasts_S1x2048_S2048)))) (broadcastInDim S8192x2048 ![0, 1] bcast_S1x2048_S8192x2048_0_1 (broadcastInDim S1x2048 ![1] bcast_S2048_S1x2048_1 (shapeCast _ x4 shapeCasts_S1x2048_S2048)))

/-- The result: the first 1024 rows kept, the others normed. -/
def resOf (y x5 : FVec Ideal S8192x2048 .f32) : FVec Ideal S8192x2048 .f32 :=
  concatenate S8192x2048 0 [⟨S1024x2048, (extractStridedSlice S1024x2048 ![0, 0] x5 slices_S8192x2048_S1024x2048_0_0)⟩, ⟨S7168x2048, (extractStridedSlice S7168x2048 ![1024, 0] y slices_S8192x2048_S7168x2048_1024_0)⟩] concatenates_S1024x2048_S7168x2048_S8192x2048_d0

theorem result_eq (m : (ℓ : Loc nD τ sig) → Buf (Elt Ideal) ℓ) (c : Dev nD) :
    Value.res_main_v39 (F := Ideal) m c
      = resOf (lnOf (dOf (uOf (m ((c.tc : Thread nD τ).loc main_arg0)) (preOf (m ((c.tc : Thread nD τ).loc main_arg0)) (m ((c.tc : Thread nD τ).loc main_arg1))) (m ((c.tc : Thread nD τ).loc main_arg2))))
          (m ((c.tc : Thread nD τ).loc main_arg3)) (m ((c.tc : Thread nD τ).loc main_arg4))) (m ((c.tc : Thread nD τ).loc main_arg5)) := rfl

section
variable {A : Par} {x0 : FVec Ideal S8192x2048 .bf16} {x1 : FVec Ideal S2048x8192 .bf16} {x2 : FVec Ideal S8192x2048 .bf16}
  (h0 : ∀ (r : Fin 8192) (k : Fin 2048), x0 (ix2 r k) = A.X r k)
  (h1 : ∀ (r : Fin 2048) (k : Fin 8192), x1 (ix2 r k) = A.U r k)
  (h2 : ∀ (r : Fin 8192) (k : Fin 2048), x2 (ix2 r k) = A.D r k)
include h0 h1

theorem pre_at (r j : Fin 8192) : preOf x0 x1 (ix2 r j) = A.pre r j := by
  pointwise [preOf]
  simp only [h0, h1]
  rfl

include h2

theorem u_at (r : Fin 8192) (k : Fin 2048) : uOf x0 (preOf x0 x1) x2 (ix2 r k) = A.u r k := by
  pointwise [uOf]
  simp only [pre_at h0 h1, h0, h2]
  rfl

theorem d_at (r : Fin 8192) (k : Fin 2048) : dOf (uOf x0 (preOf x0 x1) x2) (ix2 r k) = A.dv r k := by
  pointwise [dOf]
  simp only [u_at h0 h1 h2]
  rfl

variable {x3 x4 : FVec Ideal S1x2048 .f32} {x5 : FVec Ideal S8192x2048 .f32}
  (h3 : ∀ k : Fin 2048, x3 (ix2 (0 : Fin 1) k) = A.lg k) (h4 : ∀ k : Fin 2048, x4 (ix2 (0 : Fin 1) k) = A.lb k)
  (h5 : ∀ (r : Fin 8192) (k : Fin 2048), x5 (ix2 r k) = A.O r k)
include h3 h4

theorem ln_at (r : Fin 8192) (k : Fin 2048) : lnOf (dOf (uOf x0 (preOf x0 x1) x2)) x3 x4 (ix2 r k) = A.out r k := by
  pointwise [lnOf]
  simp only [d_at h0 h1 h2, h3, h4]
  rfl

include h5

/-- The reference's result. -/
theorem ref_at (r : Fin 8192) (k : Fin 2048) :
    resOf (lnOf (dOf (uOf x0 (preOf x0 x1) x2)) x3 x4) x5 (ix2 r k) = A.res r k := by
  pointwise [resOf]
  simp only [ln_at h0 h1 h2 h3 h4, h5]
  unfold Par.res
  split <;> simp_all
end

end Cert.Ffn.Ref
end
-- ==== Proof.FfnAgree.lean ====
/- The feed-forward reference's result array is the kernel's. -/
module

public import proofs.«01_k».proof.Proof.FfnRef
public import proofs.«01_k».proof.Proof.FfnWin

@[expose] public section

set_option maxRecDepth 16384

noncomputable section

namespace Cert.Ffn

open Idealize.ShloMosaic Idealize.ShloMosaic.TcCoe Idealize.SL.Sem
open Cert.Reference2Ideal

/-- The reference's result, as a function of its arguments. -/
theorem ref_result (m : (ℓ : Loc nD τ sig) → Buf (Elt Ideal) ℓ) (c : Dev nD) :
    Value.res_main_v39 (F := Ideal) m c = fun i => (parOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5))).res (i 0) (i 1) := by
  rw [Ref.result_eq]
  funext i
  have hi := eq_ix2 (n0 := 8192) (n1 := 2048) i
  rw [hi]
  refine Ref.ref_at (A := parOf _ _ _ _ _ _) (fun r k => ?_) (fun r k => ?_) (fun r k => ?_) (fun k => ?_) (fun k => ?_) (fun r k => ?_) _ _
  · exact read_eq _ (ix2 r k) _ _ rfl rfl
  · exact read_eq _ (ix2 r k) _ _ rfl rfl
  · exact read_eq _ (ix2 r k) _ _ rfl rfl
  · exact read_row _ (ix2 (0 : Fin 1) k) _ rfl
  · exact read_row _ (ix2 (0 : Fin 1) k) _ rfl
  · exact read_eq _ (ix2 r k) _ _ rfl rfl

end Cert.Ffn
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Result
public import proofs.«01_k».proof.Proof.Agree
public import proofs.«01_k».proof.Proof.FfnResult
public import proofs.«01_k».proof.Proof.FfnAgree
public import Idealize.ShloMosaic.Adequacy
public import Idealize.ShloMosaic.Init

@[expose] public section

noncomputable section

namespace Cert.Proof

open Idealize.ShloMosaic Idealize.SL.Sem

theorem frame_Kernel : Cert.quiescent_Kernel (hKernel := Cert.Kernel.Gen.facts) := fun m g _ => Cert.Kernel.Gen.frame m g

theorem frame_KernelIdeal : Cert.quiescent_KernelIdeal (hKernelIdeal := Cert.KernelIdeal.Gen.facts) := fun m g _ => Cert.KernelIdeal.Gen.frame m g

theorem frame_ReferenceIdeal : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩) (Cert.ReferenceIdeal.Value.run (F := Ideal) m g)

theorem value : Cert.algebraic_KernelIdeal_ReferenceIdeal (hKernelIdeal := Cert.KernelIdeal.Gen.facts) (hReferenceIdeal := Cert.ReferenceIdeal.Gen.facts) := by
  intro m g m' g' _ ha
  refine ⟨fun c => Cert.Mixer.result m c, ?_, ?_⟩
  · exact (θ_run _ _ _).mono (fun r h c => ⟨(h c).1.trans (Cert.Mixer.final m c), (h c).2⟩) (Cert.KernelIdeal.Value.run_blocks m g)
  · refine (θ_run _ _ _).mono (fun r h c => ⟨(h c).1.trans ?_, (h c).2⟩)
      (Cert.Mixer.Loop.run_iter m' g' (Cert.Mixer.states m') (fun _ => rfl) (fun _ _ => rfl))
    refine (Cert.Mixer.ref_result _ _ _ _ _ _ _ _ _ _ _ (Cert.Mixer.states m' c) rfl (fun _ => rfl)).trans ?_
    obtain ⟨a0, a1, a2, a3, a4, a5, a6, a7, a8, a9, a10⟩ := ha c
    rw [a0, a1, a2, a3, a4, a5, a6, a7, a8, a9, a10]
    rfl

theorem frame_Kernel2 : Cert.quiescent_Kernel2 (hKernel2 := Cert.Kernel2.Gen.facts) := fun m g _ => Cert.Kernel2.Gen.frame m g

theorem frame_Kernel2Ideal : Cert.quiescent_Kernel2Ideal (hKernel2Ideal := Cert.Kernel2Ideal.Gen.facts) := fun m g _ => Cert.Kernel2Ideal.Gen.frame m g

theorem frame_Reference2Ideal : Cert.quiescent_Reference2Ideal (hReference2Ideal := Cert.Reference2Ideal.Gen.facts) := fun m g _ =>
  (θ_run _ _ _).mono (fun r h => ⟨fun c => (h c).2, Idealize.ShloMosaic.sem_eq_zero_of_no_sems (by decide) r.2⟩) (Cert.Reference2Ideal.Value.run (F := Ideal) m g)

theorem value2 : Cert.algebraic_Kernel2Ideal_Reference2Ideal (hKernel2Ideal := Cert.Kernel2Ideal.Gen.facts) (hReference2Ideal := Cert.Reference2Ideal.Gen.facts) := by
  intro m g m' g' _ ha
  refine ⟨fun c => Cert.Ffn.result m c, ?_, ?_⟩
  · exact (θ_run _ _ _).mono (fun r h c => ⟨(h c).1.trans (Cert.Ffn.final m c), (h c).2⟩) (Cert.Kernel2Ideal.Value.run_blocks m g)
  · refine (θ_run _ _ _).mono (fun r h c => ⟨(h c).1.trans ?_, (h c).2⟩) (Cert.Reference2Ideal.Value.run (F := Ideal) m' g')
    refine (Cert.Ffn.ref_result m' c).trans ?_
    obtain ⟨a0, a1, a2, a3, a4, a5⟩ := ha c
    rw [a0, a1, a2, a3, a4, a5]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  frame_Kernel, frame_KernelIdeal, frame_ReferenceIdeal, frame_Kernel2, frame_Kernel2Ideal, frame_Reference2Ideal,
  trivial, value, trivial, value2⟩

end Cert.Proof

end
